-- ==== Defs.lean ====
def Pre_KernelIdeal [hPre_pages_exist : Cert.Pre_pages_exist.Facts] (m : (ℓ : Loc Cert.KernelIdeal.nD Cert.KernelIdeal.τ Cert.KernelIdeal.sig) → Buf (Elt Ideal) ℓ) : Prop :=
  ∀ c : Dev Cert.KernelIdeal.nD,
    (Cert.Pre_pages_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_exist [hPre_pages_exist : Cert.Pre_pages_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_KernelIdeal [hKernelIdeal : Cert.KernelIdeal.Facts] [hPre_pages_exist : Cert.Pre_pages_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_exist [hReferenceIdeal : Cert.ReferenceIdeal.Facts] [hPre_pages_exist : Cert.Pre_pages_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def algebraic_KernelIdeal_ReferenceIdeal [hKernelIdeal : Cert.KernelIdeal.Facts] [hReferenceIdeal : Cert.ReferenceIdeal.Facts] [hPre_pages_exist : Cert.Pre_pages_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)) (v2 : (c : Dev Cert.Kernel5Ideal.nD) → Buf (Elt Ideal) ((c.tc : Thread Cert.Kernel5Ideal.nD Cert.Kernel5Ideal.τ).loc Cert.Kernel5Ideal.main_v21_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_v21_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v14_1)) (v1 : (c : Dev Cert.Kernel6Ideal.nD) → Buf (Elt Ideal) ((c.tc : Thread Cert.Kernel6Ideal.nD Cert.Kernel6Ideal.τ).loc Cert.Kernel6Ideal.main_v14_2)) (v2 : (c : Dev Cert.Kernel6Ideal.nD) → Buf (Elt Ideal) ((c.tc : Thread Cert.Kernel6Ideal.nD Cert.Kernel6Ideal.τ).loc Cert.Kernel6Ideal.main_v14_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_1) = v0 c
          ∧ r.2.mem ((c.tc : Thread Cert.Kernel6Ideal.nD Cert.Kernel6Ideal.τ).loc Cert.Kernel6Ideal.main_v14_2) = v1 c
          ∧ r.2.mem ((c.tc : Thread Cert.Kernel6Ideal.nD Cert.Kernel6Ideal.τ).loc Cert.Kernel6Ideal.main_v14_4) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v246) = v0 c
          ∧ r.2.mem ((c.tc : Thread Cert.Reference7Ideal.nD Cert.Reference7Ideal.τ).loc Cert.Reference7Ideal.main_v247) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_pages_exist : Cert.Pre_pages_exist.Facts),
    quiescent_KernelIdeal (hKernelIdeal := hKernelIdeal) (hPre_pages_exist := hPre_pages_exist)
    ∧ quiescent_ReferenceIdeal (hReferenceIdeal := hReferenceIdeal)
    ∧ quiescent_ReferenceIdeal_pre_pages_exist (hReferenceIdeal := hReferenceIdeal) (hPre_pages_exist := hPre_pages_exist)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ algebraic_KernelIdeal_ReferenceIdeal (hKernelIdeal := hKernelIdeal) (hReferenceIdeal := hReferenceIdeal) (hPre_pages_exist := hPre_pages_exist)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_pages_exist.lean ====
abbrev S32x8x8x64 : Shape := ⟨4, ![32, 8, 8, 64]⟩
abbrev S32x8x8 : Shape := ⟨3, ![32, 8, 8]⟩
abbrev S32x8x64 : Shape := ⟨3, ![32, 8, 64]⟩
abbrev S1x5120x128x64 : Shape := ⟨4, ![1, 5120, 128, 64]⟩
abbrev S32x128 : Shape := ⟨2, ![32, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel

variable [Facts]

def fn {F : FTy → Type} [FloatOps F] (main_arg0 : FVec F S32x8x8x64 .f32) (main_arg1 : FVec F S32x8x8 .f32) (main_arg2 : FVec F S32x8x64 .f32) (main_arg3 : FVec F S1x5120x128x64 .f32) (main_arg4 : IVec S32x128 32) : IVec S_ 1 :=
  let main_c : IVec S_ 32 := constantI S_ 32 0#32
  let main_v0 : IVec S32x128 32 := broadcastInDim S32x128 ![] bcast_S_S32x128 main_c
  let main_v1 : IVec S32x128 1 := cmpi .sge main_arg4 main_v0
  let main_c_0 : IVec S_ 32 := constantI S_ 32 5120#32
  let main_v2 : IVec S32x128 32 := broadcastInDim S32x128 ![] bcast_S_S32x128 main_c_0
  let main_v3 : IVec S32x128 1 := cmpi .slt main_arg4 main_v2
  let main_v4 : IVec S32x128 1 := andi main_v1 main_v3
  let main_c_1 : IVec S_ 1 := constantI S_ 1 1#1
  let main_v5 : IVec S_ 1 := (fun x v => Host.reduce IntOp.andi x v reducesTo_S32x128_S_d0_1 h_S_) main_v4 main_c_1
  main_v5
-- ==== KernelIdeal.lean ====
abbrev S32x8x8x64 : Shape := ⟨4, ![32, 8, 8, 64]⟩
abbrev S32x8x8 : Shape := ⟨3, ![32, 8, 8]⟩
abbrev S32x8x64 : Shape := ⟨3, ![32, 8, 64]⟩
abbrev S1x5120x128x64 : Shape := ⟨4, ![1, 5120, 128, 64]⟩
abbrev S32x128 : Shape := ⟨2, ![32, 128]⟩
abbrev S_ : Shape := ⟨0, ![]⟩
abbrev S32x8x8x128 : Shape := ⟨4, ![32, 8, 8, 128]⟩
abbrev S32x64x128 : Shape := ⟨3, ![32, 64, 128]⟩
abbrev S32x64x1 : Shape := ⟨3, ![32, 64, 1]⟩
abbrev S32x128x128 : Shape := ⟨3, ![32, 128, 128]⟩
abbrev S1x5120x64x128 : Shape := ⟨4, ![1, 5120, 64, 128]⟩
abbrev S32x160x8x128 : Shape := ⟨4, ![32, 160, 8, 128]⟩
abbrev S1x64x128 : Shape := ⟨3, ![1, 64, 128]⟩
abbrev S1x1x64x128 : Shape := ⟨4, ![1, 1, 64, 128]⟩
abbrev S1x1 : Shape := ⟨2, ![1, 1]⟩
abbrev S1x128x128 : Shape := ⟨3, ![1, 128, 128]⟩
abbrev S1x32x8x128 : Shape := ⟨4, ![1, 32, 8, 128]⟩
abbrev S128x4096 : Shape := ⟨2, ![128, 4096]⟩
abbrev S1x64x1 : Shape := ⟨3, ![1, 64, 1]⟩
abbrev S64x1 : Shape := ⟨2, ![64, 1]⟩
abbrev S64x128 : Shape := ⟨2, ![64, 128]⟩
abbrev S64x4096 : Shape := ⟨2, ![64, 4096]⟩
abbrev S8x4096 : Shape := ⟨2, ![8, 4096]⟩
abbrev S8x128 : Shape := ⟨2, ![8, 128]⟩
abbrev S1x1x8x128 : Shape := ⟨4, ![1, 1, 8, 128]⟩
abbrev S128x128 : Shape := ⟨2, ![128, 128]⟩

abbrev nBuf : Space → Nat
  | .hbm => 22
  | .vmem => 73
  | .smem => 1
  | _ => 0

abbrev bufTy : (tb : Table) → Fin (tcTables nBuf tb) → BufTy
  | .hbm, ⟨0, _⟩ => ⟨S32x8x8x64, .f32⟩
  | .hbm, ⟨1, _⟩ => ⟨S32x8x8, .f32⟩
  | .hbm, ⟨2, _⟩ => ⟨S32x8x64, .f32⟩
  | .hbm, ⟨3, _⟩ => ⟨S1x5120x128x64, .f32⟩
  | .hbm, ⟨4, _⟩ => ⟨S32x8x8x64, .bf16⟩
  | .hbm, ⟨5, _⟩ => ⟨S_, .i32⟩
  | .hbm, ⟨6, _⟩ => ⟨S_, .bf16⟩
  | .hbm, ⟨7, _⟩ => ⟨S32x8x8x128, .bf16⟩
  | .hbm, ⟨8, _⟩ => ⟨S32x8x8x128, .bf16⟩
  | .hbm, ⟨9, _⟩ => ⟨S32x64x128, .bf16⟩
  | .hbm, ⟨10, _⟩ => ⟨S_, .f32⟩
  | .hbm, ⟨11, _⟩ => ⟨S32x8x8, .f32⟩
  | .hbm, ⟨12, _⟩ => ⟨S32x8x8, .f32⟩
  | .hbm, ⟨13, _⟩ => ⟨S32x8x8, .f32⟩
  | .hbm, ⟨14, _⟩ => ⟨S32x64x1, .f32⟩
  | .hbm, ⟨15, _⟩ => ⟨S32x64x128, .f32⟩
  | .hbm, ⟨16, _⟩ => ⟨S_, .i32⟩
  | .hbm, ⟨17, _⟩ => ⟨S_, .f32⟩
  | .hbm, ⟨18, _⟩ => ⟨S32x128x128, .f32⟩
  | .hbm, ⟨19, _⟩ => ⟨S32x128x128, .bf16⟩
  | .hbm, ⟨20, _⟩ => ⟨S1x5120x64x128, .f32⟩
  | .hbm, ⟨21, _⟩ => ⟨S32x160x8x128, .f32⟩
  | .local _ .vmem, ⟨0, _⟩ => ⟨S1x64x128, .bf16⟩
  | .local _ .vmem, ⟨1, _⟩ => ⟨S1x64x128, .bf16⟩
  | .local _ .vmem, ⟨2, _⟩ => ⟨S1x64x128, .f32⟩
  | .local _ .vmem, ⟨3, _⟩ => ⟨S1x64x128, .f32⟩
  | .local _ .vmem, ⟨4, _⟩ => ⟨S1x1x64x128, .f32⟩
  | .local _ .vmem, ⟨5, _⟩ => ⟨S1x1x64x128, .f32⟩
  | .local _ .vmem, ⟨6, _⟩ => ⟨S1x1x64x128, .f32⟩
  | .local _ .vmem, ⟨7, _⟩ => ⟨S1x1x64x128, .f32⟩
  | .local _ .vmem, ⟨8, _⟩ => ⟨S1x1x64x128, .f32⟩
  | .local _ .vmem, ⟨9, _⟩ => ⟨S1x1x64x128, .f32⟩
  | .local _ .vmem, ⟨10, _⟩ => ⟨S1x1x64x128, .f32⟩
  | .local _ .vmem, ⟨11, _⟩ => ⟨S1x1x64x128, .f32⟩
  | .local _ .vmem, ⟨12, _⟩ => ⟨S1x1x64x128, .f32⟩
  | .local _ .vmem, ⟨13, _⟩ => ⟨S1x1x64x128, .f32⟩
  | .local _ .vmem, ⟨14, _⟩ => ⟨S1x1x64x128, .f32⟩
  | .local _ .vmem, ⟨15, _⟩ => ⟨S1x1x64x128, .f32⟩
  | .local _ .vmem, ⟨16, _⟩ => ⟨S1x1x64x128, .f32⟩
  | .local _ .vmem, ⟨17, _⟩ => ⟨S1x1x64x128, .f32⟩
  | .local _ .vmem, ⟨18, _⟩ => ⟨S1x1x64x128, .f32⟩
  | .local _ .vmem, ⟨19, _⟩ => ⟨S1x1x64x128, .f32⟩
  | .local _ .vmem, ⟨20, _⟩ => ⟨S1x1x64x128, .f32⟩
  | .local _ .vmem, ⟨21, _⟩ => ⟨S1x1x64x128, .f32⟩
  | .local _ .vmem, ⟨22, _⟩ => ⟨S1x1x64x128, .f32⟩
  | .local _ .vmem, ⟨23, _⟩ => ⟨S1x1x64x128, .f32⟩
  | .local _ .vmem, ⟨24, _⟩ => ⟨S1x1x64x128, .f32⟩
  | .local _ .vmem, ⟨25, _⟩ => ⟨S1x1x64x128, .f32⟩
  | .local _ .vmem, ⟨26, _⟩ => ⟨S1x1x64x128, .f32⟩
  | .local _ .vmem, ⟨27, _⟩ => ⟨S1x1x64x128, .f32⟩
  | .local _ .vmem, ⟨28, _⟩ => ⟨S1x1x64x128, .f32⟩
  | .local _ .vmem, ⟨29, _⟩ => ⟨S1x1x64x128, .f32⟩
  | .local _ .vmem, ⟨30, _⟩ => ⟨S1x1x64x128, .f32⟩
  | .local _ .vmem, ⟨31, _⟩ => ⟨S1x1x64x128, .f32⟩
  | .local _ .vmem, ⟨32, _⟩ => ⟨S1x1x64x128, .f32⟩
  | .local _ .vmem, ⟨33, _⟩ => ⟨S1x1x64x128, .f32⟩
  | .local _ .vmem, ⟨34, _⟩ => ⟨S1x1x64x128, .f32⟩
  | .local _ .vmem, ⟨35, _⟩ => ⟨S1x1x64x128, .f32⟩
  | .local _ .vmem, ⟨36, _⟩ => ⟨S1x1x64x128, .f32⟩
  | .local _ .vmem, ⟨37, _⟩ => ⟨S1x1x64x128, .f32⟩
  | .local _ .vmem, ⟨38, _⟩ => ⟨S1x1x64x128, .f32⟩
  | .local _ .vmem, ⟨39, _⟩ => ⟨S1x1x64x128, .f32⟩
  | .local _ .vmem, ⟨40, _⟩ => ⟨S1x1x64x128, .f32⟩
  | .local _ .vmem, ⟨41, _⟩ => ⟨S1x1x64x128, .f32⟩
  | .local _ .vmem, ⟨42, _⟩ => ⟨S1x1x64x128, .f32⟩
  | .local _ .vmem, ⟨43, _⟩ => ⟨S1x1x64x128, .f32⟩
  | .local _ .vmem, ⟨44, _⟩ => ⟨S1x1x64x128, .f32⟩
  | .local _ .vmem, ⟨45, _⟩ => ⟨S1x1x64x128, .f32⟩
  | .local _ .vmem, ⟨46, _⟩ => ⟨S1x1x64x128, .f32⟩
  | .local _ .vmem, ⟨47, _⟩ => ⟨S1x1x64x128, .f32⟩
  | .local _ .vmem, ⟨48, _⟩ => ⟨S1x1x64x128, .f32⟩
  | .local _ .vmem, ⟨49, _⟩ => ⟨S1x1x64x128, .f32⟩
  | .local _ .vmem, ⟨50, _⟩ => ⟨S1x1x64x128, .f32⟩
  | .local _ .vmem, ⟨51, _⟩ => ⟨S1x1x64x128, .f32⟩
  | .local _ .vmem, ⟨52, _⟩ => ⟨S1x1x64x128, .f32⟩
  | .local _ .vmem, ⟨53, _⟩ => ⟨S1x1x64x128, .f32⟩
  | .local _ .vmem, ⟨54, _⟩ => ⟨S1x1x64x128, .f32⟩
  | .local _ .vmem, ⟨55, _⟩ => ⟨S1x1x64x128, .f32⟩
  | .local _ .vmem, ⟨56, _⟩ => ⟨S1x1x64x128, .f32⟩
  | .local _ .vmem, ⟨57, _⟩ => ⟨S1x1x64x128, .f32⟩
  | .local _ .vmem, ⟨58, _⟩ => ⟨S1x1x64x128, .f32⟩
  | .local _ .vmem, ⟨59, _⟩ => ⟨S1x1x64x128, .f32⟩
  | .local _ .vmem, ⟨60, _⟩ => ⟨S1x1x64x128, .f32⟩
  | .local _ .vmem, ⟨61, _⟩ => ⟨S1x1x64x128, .f32⟩
  | .local _ .vmem, ⟨62, _⟩ => ⟨S1x1x64x128, .f32⟩
  | .local _ .vmem, ⟨63, _⟩ => ⟨S1x1x64x128, .f32⟩
  | .local _ .vmem, ⟨64, _⟩ => ⟨S1x1x64x128, .f32⟩
  | .local _ .vmem, ⟨65, _⟩ => ⟨S1x1x64x128, .f32⟩
  | .local _ .vmem, ⟨66, _⟩ => ⟨S1x1x64x128, .f32⟩
  | .local _ .vmem, ⟨67, _⟩ => ⟨S1x1x64x128, .f32⟩
  | .local _ .vmem, ⟨68, _⟩ => ⟨S1x128x128, .bf16⟩
  | .local _ .vmem, ⟨69, _⟩ => ⟨S1x128x128, .bf16⟩
  | .local _ .vmem, ⟨70, _⟩ => ⟨S1x32x8x128, .f32⟩
  | .local _ .vmem, ⟨71, _⟩ => ⟨S1x32x8x128, .f32⟩
  | .local _ .vmem, ⟨72, _⟩ => ⟨S128x4096, .bf16⟩
  | .local _ .smem, ⟨0, _⟩ => ⟨S32x128, .i32⟩
  | _, _ => ⟨S32x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_scratch0 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71

abbrev nD : Nat := 1
abbrev τ : Topo := Topo.v7x

variable {F : FTy → Type} [FloatOps F]

abbrev grid0 : Pipeline.Grid := ⟨2, ![32, 5], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v3 : Index := Scalar.indexCast arg0
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v2 : BitVec 32 := Scalar.addi v1 c0_i32
  let v4 : Index := Scalar.indexCast v2
  ![v3.toNat, v4.toNat]
def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .eq arg1 c4_i32_5
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c0_i32 : BitVec 32 := 0#32
  let v2 : BitVec 32 := Scalar.addi v1 c0_i32
  let v3 : Index := Scalar.indexCast arg0
  let v4 : Index := Scalar.indexCast v2
  let v5 : BitVec 32 := pf.at 0 (Rect.unit (s := S32x128) ![v3.toNat, v4.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_3 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c1_i32 : BitVec 32 := 1#32
  let v2 : BitVec 32 := Scalar.addi v1 c1_i32
  let v3 : Index := Scalar.indexCast arg0
  let v4 : Index := Scalar.indexCast v2
  let v5 : BitVec 32 := pf.at 0 (Rect.unit (s := S32x128) ![v3.toNat, v4.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_4 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c2_i32 : BitVec 32 := 2#32
  let v2 : BitVec 32 := Scalar.addi v1 c2_i32
  let v3 : Index := Scalar.indexCast arg0
  let v4 : Index := Scalar.indexCast v2
  let v5 : BitVec 32 := pf.at 0 (Rect.unit (s := S32x128) ![v3.toNat, v4.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_5 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c3_i32_0 : BitVec 32 := 3#32
  let v2 : BitVec 32 := Scalar.addi v1 c3_i32_0
  let v3 : Index := Scalar.indexCast arg0
  let v4 : Index := Scalar.indexCast v2
  let v5 : BitVec 32 := pf.at 0 (Rect.unit (s := S32x128) ![v3.toNat, v4.toNat] S1x1.size (k0_off1_inb i 3)) numel1_S1x1
  let c0_i32 : BitVec 32 := 0#32
  let c0_i32_1 : BitVec 32 := 0#32
  let c0_i32_2 : BitVec 32 := 0#32
  let c0_i32_3 : BitVec 32 := 0#32
  ![c0_i32.toNat, v5.toNat, c0_i32_1.toNat, c0_i32_2.toNat]

def cc0_transform_6 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c4_i32 : BitVec 32 := 4#32
  let v2 : BitVec 32 := Scalar.addi v1 c4_i32
  let v3 : Index := Scalar.indexCast arg0
  let v4 : Index := Scalar.indexCast v2
  let v5 : BitVec 32 := pf.at 0 (Rect.unit (s := S32x128) ![v3.toNat, v4.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_7 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c5_i32 : BitVec 32 := 5#32
  let v2 : BitVec 32 := Scalar.addi v1 c5_i32
  let v3 : Index := Scalar.indexCast arg0
  let v4 : Index := Scalar.indexCast v2
  let v5 : BitVec 32 := pf.at 0 (Rect.unit (s := S32x128) ![v3.toNat, v4.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_8 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c6_i32 : BitVec 32 := 6#32
  let v2 : BitVec 32 := Scalar.addi v1 c6_i32
  let v3 : Index := Scalar.indexCast arg0
  let v4 : Index := Scalar.indexCast v2
  let v5 : BitVec 32 := pf.at 0 (Rect.unit (s := S32x128) ![v3.toNat, v4.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_9 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c7_i32 : BitVec 32 := 7#32
  let v2 : BitVec 32 := Scalar.addi v1 c7_i32
  let v3 : Index := Scalar.indexCast arg0
  let v4 : Index := Scalar.indexCast v2
  let v5 : BitVec 32 := pf.at 0 (Rect.unit (s := S32x128) ![v3.toNat, v4.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_10 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c8_i32 : BitVec 32 := 8#32
  let v2 : BitVec 32 := Scalar.addi v1 c8_i32
  let v3 : Index := Scalar.indexCast arg0
  let v4 : Index := Scalar.indexCast v2
  let v5 : BitVec 32 := pf.at 0 (Rect.unit (s := S32x128) ![v3.toNat, v4.toNat] S1x1.size (k0_off1_inb i 8)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_11 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c9_i32 : BitVec 32 := 9#32
  let v2 : BitVec 32 := Scalar.addi v1 c9_i32
  let v3 : Index := Scalar.indexCast arg0
  let v4 : Index := Scalar.indexCast v2
  let v5 : BitVec 32 := pf.at 0 (Rect.unit (s := S32x128) ![v3.toNat, v4.toNat] S1x1.size (k0_off1_inb i 9)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_12 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c10_i32 : BitVec 32 := 10#32
  let v2 : BitVec 32 := Scalar.addi v1 c10_i32
  let v3 : Index := Scalar.indexCast arg0
  let v4 : Index := Scalar.indexCast v2
  let v5 : BitVec 32 := pf.at 0 (Rect.unit (s := S32x128) ![v3.toNat, v4.toNat] S1x1.size (k0_off1_inb i 10)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_13 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c11_i32 : BitVec 32 := 11#32
  let v2 : BitVec 32 := Scalar.addi v1 c11_i32
  let v3 : Index := Scalar.indexCast arg0
  let v4 : Index := Scalar.indexCast v2
  let v5 : BitVec 32 := pf.at 0 (Rect.unit (s := S32x128) ![v3.toNat, v4.toNat] S1x1.size (k0_off1_inb i 11)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_14 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c12_i32 : BitVec 32 := 12#32
  let v2 : BitVec 32 := Scalar.addi v1 c12_i32
  let v3 : Index := Scalar.indexCast arg0
  let v4 : Index := Scalar.indexCast v2
  let v5 : BitVec 32 := pf.at 0 (Rect.unit (s := S32x128) ![v3.toNat, v4.toNat] S1x1.size (k0_off1_inb i 12)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_15 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c13_i32 : BitVec 32 := 13#32
  let v2 : BitVec 32 := Scalar.addi v1 c13_i32
  let v3 : Index := Scalar.indexCast arg0
  let v4 : Index := Scalar.indexCast v2
  let v5 : BitVec 32 := pf.at 0 (Rect.unit (s := S32x128) ![v3.toNat, v4.toNat] S1x1.size (k0_off1_inb i 13)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_16 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c14_i32 : BitVec 32 := 14#32
  let v2 : BitVec 32 := Scalar.addi v1 c14_i32
  let v3 : Index := Scalar.indexCast arg0
  let v4 : Index := Scalar.indexCast v2
  let v5 : BitVec 32 := pf.at 0 (Rect.unit (s := S32x128) ![v3.toNat, v4.toNat] S1x1.size (k0_off1_inb i 14)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_17 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c15_i32 : BitVec 32 := 15#32
  let v2 : BitVec 32 := Scalar.addi v1 c15_i32
  let v3 : Index := Scalar.indexCast arg0
  let v4 : Index := Scalar.indexCast v2
  let v5 : BitVec 32 := pf.at 0 (Rect.unit (s := S32x128) ![v3.toNat, v4.toNat] S1x1.size (k0_off1_inb i 15)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_18 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c16_i32 : BitVec 32 := 16#32
  let v2 : BitVec 32 := Scalar.addi v1 c16_i32
  let v3 : Index := Scalar.indexCast arg0
  let v4 : Index := Scalar.indexCast v2
  let v5 : BitVec 32 := pf.at 0 (Rect.unit (s := S32x128) ![v3.toNat, v4.toNat] S1x1.size (k0_off1_inb i 16)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_19 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c17_i32 : BitVec 32 := 17#32
  let v2 : BitVec 32 := Scalar.addi v1 c17_i32
  let v3 : Index := Scalar.indexCast arg0
  let v4 : Index := Scalar.indexCast v2
  let v5 : BitVec 32 := pf.at 0 (Rect.unit (s := S32x128) ![v3.toNat, v4.toNat] S1x1.size (k0_off1_inb i 17)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_20 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c18_i32 : BitVec 32 := 18#32
  let v2 : BitVec 32 := Scalar.addi v1 c18_i32
  let v3 : Index := Scalar.indexCast arg0
  let v4 : Index := Scalar.indexCast v2
  let v5 : BitVec 32 := pf.at 0 (Rect.unit (s := S32x128) ![v3.toNat, v4.toNat] S1x1.size (k0_off1_inb i 18)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_21 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c19_i32 : BitVec 32 := 19#32
  let v2 : BitVec 32 := Scalar.addi v1 c19_i32
  let v3 : Index := Scalar.indexCast arg0
  let v4 : Index := Scalar.indexCast v2
  let v5 : BitVec 32 := pf.at 0 (Rect.unit (s := S32x128) ![v3.toNat, v4.toNat] S1x1.size (k0_off1_inb i 19)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_22 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c20_i32 : BitVec 32 := 20#32
  let v2 : BitVec 32 := Scalar.addi v1 c20_i32
  let v3 : Index := Scalar.indexCast arg0
  let v4 : Index := Scalar.indexCast v2
  let v5 : BitVec 32 := pf.at 0 (Rect.unit (s := S32x128) ![v3.toNat, v4.toNat] S1x1.size (k0_off1_inb i 20)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_23 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c21_i32 : BitVec 32 := 21#32
  let v2 : BitVec 32 := Scalar.addi v1 c21_i32
  let v3 : Index := Scalar.indexCast arg0
  let v4 : Index := Scalar.indexCast v2
  let v5 : BitVec 32 := pf.at 0 (Rect.unit (s := S32x128) ![v3.toNat, v4.toNat] S1x1.size (k0_off1_inb i 21)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_24 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c22_i32 : BitVec 32 := 22#32
  let v2 : BitVec 32 := Scalar.addi v1 c22_i32
  let v3 : Index := Scalar.indexCast arg0
  let v4 : Index := Scalar.indexCast v2
  let v5 : BitVec 32 := pf.at 0 (Rect.unit (s := S32x128) ![v3.toNat, v4.toNat] S1x1.size (k0_off1_inb i 22)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_25 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c23_i32 : BitVec 32 := 23#32
  let v2 : BitVec 32 := Scalar.addi v1 c23_i32
  let v3 : Index := Scalar.indexCast arg0
  let v4 : Index := Scalar.indexCast v2
  let v5 : BitVec 32 := pf.at 0 (Rect.unit (s := S32x128) ![v3.toNat, v4.toNat] S1x1.size (k0_off1_inb i 23)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_26 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c24_i32 : BitVec 32 := 24#32
  let v2 : BitVec 32 := Scalar.addi v1 c24_i32
  let v3 : Index := Scalar.indexCast arg0
  let v4 : Index := Scalar.indexCast v2
  let v5 : BitVec 32 := pf.at 0 (Rect.unit (s := S32x128) ![v3.toNat, v4.toNat] S1x1.size (k0_off1_inb i 24)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_27 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c25_i32 : BitVec 32 := 25#32
  let v2 : BitVec 32 := Scalar.addi v1 c25_i32
  let v3 : Index := Scalar.indexCast arg0
  let v4 : Index := Scalar.indexCast v2
  let v5 : BitVec 32 := pf.at 0 (Rect.unit (s := S32x128) ![v3.toNat, v4.toNat] S1x1.size (k0_off1_inb i 25)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_28 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c26_i32 : BitVec 32 := 26#32
  let v2 : BitVec 32 := Scalar.addi v1 c26_i32
  let v3 : Index := Scalar.indexCast arg0
  let v4 : Index := Scalar.indexCast v2
  let v5 : BitVec 32 := pf.at 0 (Rect.unit (s := S32x128) ![v3.toNat, v4.toNat] S1x1.size (k0_off1_inb i 26)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_29 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c27_i32 : BitVec 32 := 27#32
  let v2 : BitVec 32 := Scalar.addi v1 c27_i32
  let v3 : Index := Scalar.indexCast arg0
  let v4 : Index := Scalar.indexCast v2
  let v5 : BitVec 32 := pf.at 0 (Rect.unit (s := S32x128) ![v3.toNat, v4.toNat] S1x1.size (k0_off1_inb i 27)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_30 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c28_i32 : BitVec 32 := 28#32
  let v2 : BitVec 32 := Scalar.addi v1 c28_i32
  let v3 : Index := Scalar.indexCast arg0
  let v4 : Index := Scalar.indexCast v2
  let v5 : BitVec 32 := pf.at 0 (Rect.unit (s := S32x128) ![v3.toNat, v4.toNat] S1x1.size (k0_off1_inb i 28)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_31 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c29_i32 : BitVec 32 := 29#32
  let v2 : BitVec 32 := Scalar.addi v1 c29_i32
  let v3 : Index := Scalar.indexCast arg0
  let v4 : Index := Scalar.indexCast v2
  let v5 : BitVec 32 := pf.at 0 (Rect.unit (s := S32x128) ![v3.toNat, v4.toNat] S1x1.size (k0_off1_inb i 29)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_32 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c30_i32 : BitVec 32 := 30#32
  let v2 : BitVec 32 := Scalar.addi v1 c30_i32
  let v3 : Index := Scalar.indexCast arg0
  let v4 : Index := Scalar.indexCast v2
  let v5 : BitVec 32 := pf.at 0 (Rect.unit (s := S32x128) ![v3.toNat, v4.toNat] S1x1.size (k0_off1_inb i 30)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_33 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let c31_i32 : BitVec 32 := 31#32
  let v2 : BitVec 32 := Scalar.addi v1 c31_i32
  let v3 : Index := Scalar.indexCast arg0
  let v4 : Index := Scalar.indexCast v2
  let v5 : BitVec 32 := pf.at 0 (Rect.unit (s := S32x128) ![v3.toNat, v4.toNat] S1x1.size (k0_off1_inb i 31)) numel1_S1x1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_34 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_35 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1x64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x1x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x1x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x1x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x1x64x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x1x64x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x1x64x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x1x64x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x128x128 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, false]

abbrev stage0_35 : Fin 2 → Memref sig .tc .vmem S1x32x8x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]
-- ==== ReferenceIdeal.lean ====
abbrev S32x8x8x64 : Shape := ⟨4, ![32, 8, 8, 64]⟩
abbrev S32x8x8 : Shape := ⟨3, ![32, 8, 8]⟩
abbrev S32x8x64 : Shape := ⟨3, ![32, 8, 64]⟩
abbrev S1x5120x128x64 : Shape := ⟨4, ![1, 5120, 128, 64]⟩
abbrev S32x128 : Shape := ⟨2, ![32, 128]⟩
abbrev S_ : Shape := ⟨0, ![]⟩
abbrev S8 : Shape := ⟨1, ![8]⟩
abbrev S16392 : Shape := ⟨1, ![16392]⟩
abbrev S32x128x1 : Shape := ⟨3, ![32, 128, 1]⟩
abbrev S32x128x2 : Shape := ⟨3, ![32, 128, 2]⟩
abbrev S32x128x128x64 : Shape := ⟨4, ![32, 128, 128, 64]⟩
abbrev S32x16384x64 : Shape := ⟨3, ![32, 16384, 64]⟩
abbrev S32x16392x64 : Shape := ⟨3, ![32, 16392, 64]⟩
abbrev S32x8x8x16392 : Shape := ⟨4, ![32, 8, 8, 16392]⟩
abbrev S32x8x16392 : Shape := ⟨3, ![32, 8, 16392]⟩
abbrev S1x16392 : Shape := ⟨2, ![1, 16392]⟩
abbrev S8x1 : Shape := ⟨2, ![8, 1]⟩
abbrev S8x16392 : Shape := ⟨2, ![8, 16392]⟩
abbrev S1x8x16392 : Shape := ⟨3, ![1, 8, 16392]⟩
abbrev S32x8x20480 : Shape := ⟨3, ![32, 8, 20480]⟩
abbrev S32x8x160x128 : Shape := ⟨4, ![32, 8, 160, 128]⟩
abbrev S32x160x8x128 : Shape := ⟨4, ![32, 160, 8, 128]⟩

abbrev nBuf : Space → Nat
  | .hbm => 53
  | .vmem => 0
  | .smem => 0
  | _ => 0

abbrev bufTy : (tb : Table) → Fin (tcTables nBuf tb) → BufTy
  | .hbm, ⟨0, _⟩ => ⟨S32x8x8x64, .f32⟩
  | .hbm, ⟨1, _⟩ => ⟨S32x8x8, .f32⟩
  | .hbm, ⟨2, _⟩ => ⟨S32x8x64, .f32⟩
  | .hbm, ⟨3, _⟩ => ⟨S1x5120x128x64, .f32⟩
  | .hbm, ⟨4, _⟩ => ⟨S32x128, .i32⟩
  | .hbm, ⟨5, _⟩ => ⟨S_, .f32⟩
  | .hbm, ⟨6, _⟩ => ⟨S32x8x8, .f32⟩
  | .hbm, ⟨7, _⟩ => ⟨S32x8x8, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S16392, .i32⟩
  | .hbm, ⟨13, _⟩ => ⟨S_, .i32⟩
  | .hbm, ⟨14, _⟩ => ⟨S32x128, .i32⟩
  | .hbm, ⟨15, _⟩ => ⟨S32x128, .i1⟩
  | .hbm, ⟨16, _⟩ => ⟨S_, .i32⟩
  | .hbm, ⟨17, _⟩ => ⟨S32x128, .i32⟩
  | .hbm, ⟨18, _⟩ => ⟨S32x128, .i32⟩
  | .hbm, ⟨19, _⟩ => ⟨S32x128, .i32⟩
  | .hbm, ⟨20, _⟩ => ⟨S_, .i32⟩
  | .hbm, ⟨21, _⟩ => ⟨S32x128, .i32⟩
  | .hbm, ⟨22, _⟩ => ⟨S32x128, .i32⟩
  | .hbm, ⟨23, _⟩ => ⟨S32x128x1, .i32⟩
  | .hbm, ⟨24, _⟩ => ⟨S32x128x1, .i32⟩
  | .hbm, ⟨25, _⟩ => ⟨S32x128x2, .i32⟩
  | .hbm, ⟨26, _⟩ => ⟨S32x128x128x64, .f32⟩
  | .hbm, ⟨27, _⟩ => ⟨S32x16384x64, .f32⟩
  | .hbm, ⟨28, _⟩ => ⟨S32x16392x64, .f32⟩
  | .hbm, ⟨29, _⟩ => ⟨S32x8x8x16392, .f32⟩
  | .hbm, ⟨30, _⟩ => ⟨S_, .f32⟩
  | .hbm, ⟨31, _⟩ => ⟨S32x8x8x16392, .f32⟩
  | .hbm, ⟨32, _⟩ => ⟨S32x8x8x16392, .f32⟩
  | .hbm, ⟨33, _⟩ => ⟨S_, .f32⟩
  | .hbm, ⟨34, _⟩ => ⟨S32x8x8x16392, .f32⟩
  | .hbm, ⟨35, _⟩ => ⟨S32x8x8x16392, .f32⟩
  | .hbm, ⟨36, _⟩ => ⟨S32x8x16392, .f32⟩
  | .hbm, ⟨37, _⟩ => ⟨S1x16392, .i32⟩
  | .hbm, ⟨38, _⟩ => ⟨S8x1, .i32⟩
  | .hbm, ⟨39, _⟩ => ⟨S8x16392, .i32⟩
  | .hbm, ⟨40, _⟩ => ⟨S8x16392, .i32⟩
  | .hbm, ⟨41, _⟩ => ⟨S8x16392, .i1⟩
  | .hbm, ⟨42, _⟩ => ⟨S1x8x16392, .i1⟩
  | .hbm, ⟨43, _⟩ => ⟨S_, .f32⟩
  | .hbm, ⟨44, _⟩ => ⟨S_, .f32⟩
  | .hbm, ⟨45, _⟩ => ⟨S32x8x16392, .i1⟩
  | .hbm, ⟨46, _⟩ => ⟨S32x8x16392, .f32⟩
  | .hbm, ⟨47, _⟩ => ⟨S32x8x16392, .f32⟩
  | .hbm, ⟨48, _⟩ => ⟨S_, .f32⟩
  | .hbm, ⟨49, _⟩ => ⟨S_, .f32⟩
  | .hbm, ⟨50, _⟩ => ⟨S32x8x20480, .f32⟩
  | .hbm, ⟨51, _⟩ => ⟨S32x8x160x128, .f32⟩
  | .hbm, ⟨52, _⟩ => ⟨S32x160x8x128, .f32⟩
  | _, _ => ⟨S32x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v30 : Ref sig .tc := ⟨.hbm, 47, rfl⟩
abbrev main_cst_5 : Ref sig .tc := ⟨.hbm, 48, rfl⟩
abbrev main_call2_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel2.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S16384x5632 : Shape := ⟨2, ![16384, 5632]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x5632, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel3.lean ====
abbrev S16384x1024 : Shape := ⟨2, ![16384, 1024]⟩
abbrev S1024x2048 : Shape := ⟨2, ![1024, 2048]⟩
abbrev S2048 : Shape := ⟨1, ![2048]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S1024x2048, .bf16⟩
  | .hbm, ⟨4, _⟩ => ⟨S1x2048, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1024x2048 : Shape := ⟨2, ![1024, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel5.lean ====
abbrev S16384x1024 : Shape := ⟨2, ![16384, 1024]⟩
abbrev S1024x3656 : Shape := ⟨2, ![1024, 3656]⟩
abbrev S1024x1024 : Shape := ⟨2, ![1024, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x72 : Shape := ⟨2, ![1024, 72]⟩
abbrev S1024x128 : Shape := ⟨2, ![1024, 128]⟩
abbrev S1024x8 : Shape := ⟨2, ![1024, 8]⟩
abbrev S8x1024 : Shape := ⟨2, ![8, 1024]⟩
abbrev S16x1024 : Shape := ⟨2, ![16, 1024]⟩
abbrev S16384x128 : Shape := ⟨2, ![16384, 128]⟩
abbrev S1024x16384 : Shape := ⟨2, ![1024, 16384]⟩
abbrev S1152x16384 : Shape := ⟨2, ![1152, 16384]⟩
abbrev S16x16384 : Shape := ⟨2, ![16, 16384]⟩
abbrev S512x1024 : Shape := ⟨2, ![512, 1024]⟩
abbrev S512x128 : Shape := ⟨2, ![512, 128]⟩
abbrev S1152x512 : Shape := ⟨2, ![1152, 512]⟩
abbrev S16x512 : Shape := ⟨2, ![16, 512]⟩
abbrev S128x512 : Shape := ⟨2, ![128, 512]⟩

abbrev nBuf : Space → Nat
  | .hbm => 38
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024x3656, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x512, .f32⟩
  | .hbm, ⟨6, _⟩ => ⟨S1024x8x64, .f32⟩
  | .hbm, ⟨7, _⟩ => ⟨S_, .i32⟩
  | .hbm, ⟨8, _⟩ => ⟨S_, .f32⟩
  | .hbm, ⟨9, _⟩ => ⟨S1024x8x128, .f32⟩
  | .hbm, ⟨10, _⟩ => ⟨S1024x1024, .f32⟩
  | .hbm, ⟨11, _⟩ => ⟨S1024x72, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x128, .bf16⟩
  | .hbm, ⟨20, _⟩ => ⟨S1024x8, .f32⟩
  | .hbm, ⟨21, _⟩ => ⟨S8x1024, .f32⟩
  | .hbm, ⟨22, _⟩ => ⟨S_, .i32⟩
  | .hbm, ⟨23, _⟩ => ⟨S_, .f32⟩
  | .hbm, ⟨24, _⟩ => ⟨S16x1024, .f32⟩
  | .hbm, ⟨25, _⟩ => ⟨S16x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S16384x1024, .f32⟩
  | .hbm, ⟨30, _⟩ => ⟨S16384x1024, .f32⟩
  | .hbm, ⟨31, _⟩ => ⟨S16384x128, .f32⟩
  | .hbm, ⟨32, _⟩ => ⟨S1024x16384, .bf16⟩
  | .hbm, ⟨33, _⟩ => ⟨S16384x1024, .bf16⟩
  | .hbm, ⟨34, _⟩ => ⟨S1152x16384, .bf16⟩
  | .hbm, ⟨35, _⟩ => ⟨S1024x16384, .bf16⟩
  | .hbm, ⟨36, _⟩ => ⟨S16384x128, .bf16⟩
  | .hbm, ⟨37, _⟩ => ⟨S16x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S16x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x128, .f32⟩
  | .local _ .vmem, ⟨14, _⟩ => ⟨S512x128, .f32⟩
  | .local _ .vmem, ⟨15, _⟩ => ⟨S1024x512, .bf16⟩
  | .local _ .vmem, ⟨16, _⟩ => ⟨S1024x512, .bf16⟩
  | .local _ .vmem, ⟨17, _⟩ => ⟨S512x1024, .bf16⟩
  | .local _ .vmem, ⟨18, _⟩ => ⟨S512x1024, .bf16⟩
  | .local _ .vmem, ⟨19, _⟩ => ⟨S1152x512, .bf16⟩
  | .local _ .vmem, ⟨20, _⟩ => ⟨S1152x512, .bf16⟩
  | .local _ .vmem, ⟨21, _⟩ => ⟨S1024x512, .bf16⟩
  | .local _ .vmem, ⟨22, _⟩ => ⟨S1024x512, .bf16⟩
  | .local _ .vmem, ⟨23, _⟩ => ⟨S512x128, .bf16⟩
  | .local _ .vmem, ⟨24, _⟩ => ⟨S512x128, .bf16⟩
  | .local _ .vmem, ⟨25, _⟩ => ⟨S16x512, .f32⟩
  | .local _ .vmem, ⟨26, _⟩ => ⟨S16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_call2_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v21_5 : Ref sig .tc := ⟨.hbm, 34, rfl⟩
abbrev main_v21_6 : Ref sig .tc := ⟨.hbm, 35, rfl⟩
abbrev main_v21_7 : Ref sig .tc := ⟨.hbm, 36, rfl⟩
abbrev main_v21_8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1152x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S16384x1024 : Shape := ⟨2, ![16384, 1024]⟩
abbrev S1024x3656 : Shape := ⟨2, ![1024, 3656]⟩
abbrev S16384x3656 : Shape := ⟨2, ![16384, 3656]⟩
abbrev S16384x512 : Shape := ⟨2, ![16384, 512]⟩
abbrev S16384x72 : Shape := ⟨2, ![16384, 72]⟩
abbrev S_ : Shape := ⟨0, ![]⟩
abbrev S16384x128 : Shape := ⟨2, ![16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3656, .f32⟩
  | .hbm, ⟨2, _⟩ => ⟨S16384x3656, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x512, .f32⟩
  | .hbm, ⟨7, _⟩ => ⟨S16384x72, .f32⟩
  | .hbm, ⟨8, _⟩ => ⟨S_, .i32⟩
  | .hbm, ⟨9, _⟩ => ⟨S_, .f32⟩
  | .hbm, ⟨10, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S256x1024 : Shape := ⟨2, ![256, 1024]⟩
abbrev S1024x3656 : Shape := ⟨2, ![1024, 3656]⟩
abbrev S1024x1024 : Shape := ⟨2, ![1024, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x72 : Shape := ⟨2, ![1024, 72]⟩
abbrev S1024x128 : Shape := ⟨2, ![1024, 128]⟩
abbrev S256x128 : Shape := ⟨2, ![256, 128]⟩

abbrev nBuf : Space → Nat
  | .hbm => 25
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024x3656, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x512, .f32⟩
  | .hbm, ⟨6, _⟩ => ⟨S1024x8x64, .f32⟩
  | .hbm, ⟨7, _⟩ => ⟨S_, .i32⟩
  | .hbm, ⟨8, _⟩ => ⟨S_, .f32⟩
  | .hbm, ⟨9, _⟩ => ⟨S1024x8x128, .f32⟩
  | .hbm, ⟨10, _⟩ => ⟨S1024x1024, .f32⟩
  | .hbm, ⟨11, _⟩ => ⟨S1024x72, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x128, .bf16⟩
  | .hbm, ⟨20, _⟩ => ⟨S256x1024, .bf16⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S256x128, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S256x1024 : Shape := ⟨2, ![256, 1024]⟩
abbrev S1024x3656 : Shape := ⟨2, ![1024, 3656]⟩
abbrev S256x3656 : Shape := ⟨2, ![256, 3656]⟩
abbrev S256x512 : Shape := ⟨2, ![256, 512]⟩
abbrev S256x72 : Shape := ⟨2, ![256, 72]⟩
abbrev S_ : Shape := ⟨0, ![]⟩
abbrev S256x128 : Shape := ⟨2, ![256, 128]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x3656, .f32⟩
  | .hbm, ⟨2, _⟩ => ⟨S256x3656, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x512, .f32⟩
  | .hbm, ⟨7, _⟩ => ⟨S256x72, .f32⟩
  | .hbm, ⟨8, _⟩ => ⟨S_, .i32⟩
  | .hbm, ⟨9, _⟩ => ⟨S_, .f32⟩
  | .hbm, ⟨10, _⟩ => ⟨S256x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S32x8x1024 : Shape := ⟨3, ![32, 8, 1024]⟩
abbrev S32x30x1024 : Shape := ⟨3, ![32, 30, 1024]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S8x30x1024 : Shape := ⟨3, ![8, 30, 1024]⟩
abbrev S8x8x1024 : Shape := ⟨3, ![8, 8, 1024]⟩
abbrev S40x1024 : Shape := ⟨2, ![40, 1024]⟩
abbrev S1x30x1024 : Shape := ⟨3, ![1, 30, 1024]⟩
abbrev S30x1024 : Shape := ⟨2, ![30, 1024]⟩
abbrev S1x8x1024 : Shape := ⟨3, ![1, 8, 1024]⟩
abbrev S8x1024 : Shape := ⟨2, ![8, 1024]⟩
abbrev S8 : Shape := ⟨1, ![8]⟩
abbrev S8x1 : Shape := ⟨2, ![8, 1]⟩

abbrev nBuf : Space → Nat
  | .hbm => 14
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S32x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S32x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S32x8x1024, .f32⟩
  | .hbm, ⟨13, _⟩ => ⟨S32x30x1024, .f32⟩
  | .local _ .vmem, ⟨0, _⟩ => ⟨S8x30x1024, .f32⟩
  | .local _ .vmem, ⟨1, _⟩ => ⟨S8x30x1024, .f32⟩
  | .local _ .vmem, ⟨2, _⟩ => ⟨S8x8x1024, .f32⟩
  | .local _ .vmem, ⟨3, _⟩ => ⟨S8x8x1024, .f32⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8x8x1024, .f32⟩
  | .local _ .vmem, ⟨9, _⟩ => ⟨S8x8x1024, .f32⟩
  | .local _ .vmem, ⟨10, _⟩ => ⟨S8x30x1024, .f32⟩
  | .local _ .vmem, ⟨11, _⟩ => ⟨S8x30x1024, .f32⟩
  | .local _ .vmem, ⟨12, _⟩ => ⟨S40x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x30x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32x8x1024 : Shape := ⟨3, ![32, 8, 1024]⟩
abbrev S32x30x1024 : Shape := ⟨3, ![32, 30, 1024]⟩
abbrev S31x1024 : Shape := ⟨2, ![31, 1024]⟩
abbrev S1024 : Shape := ⟨1, ![1024]⟩
abbrev S32x38x1024 : Shape := ⟨3, ![32, 38, 1024]⟩
abbrev S1x1024 : Shape := ⟨2, ![1, 1024]⟩
abbrev S1x1x1024 : Shape := ⟨3, ![1, 1, 1024]⟩
abbrev S_ : Shape := ⟨0, ![]⟩
abbrev S32x8 : Shape := ⟨2, ![32, 8]⟩
abbrev S32x8x1 : Shape := ⟨3, ![32, 8, 1]⟩

abbrev nBuf : Space → Nat
  | .hbm => 268
  | .vmem => 0
  | .smem => 0
  | _ => 0

abbrev hbmTy0_0 (i : Nat) : BufTy := match i % 128 with
  | 0 => ⟨S32x8x1024, .f32⟩
  | 1 => ⟨S32x30x1024, .f32⟩
  | 2 => ⟨S31x1024, .f32⟩
  | 3 => ⟨S1024, .f32⟩
  | 4 => ⟨S1024, .f32⟩
  | 5 => ⟨S1024, .f32⟩
  | 6 => ⟨S32x38x1024, .f32⟩
  | 7 => ⟨S32x8x1024, .f32⟩
  | 8 => ⟨S1x1024, .f32⟩
  | 9 => ⟨S1024, .f32⟩
  | 10 => ⟨S1x1x1024, .f32⟩
  | 11 => ⟨S32x8x1024, .f32⟩
  | 12 => ⟨S32x8x1024, .f32⟩
  | 13 => ⟨S_, .f32⟩
  | 14 => ⟨S32x8x1024, .f32⟩
  | 15 => ⟨S32x8x1024, .f32⟩
  | 16 => ⟨S32x8x1024, .f32⟩
  | 17 => ⟨S1x1024, .f32⟩
  | 18 => ⟨S1024, .f32⟩
  | 19 => ⟨S1x1x1024, .f32⟩
  | 20 => ⟨S32x8x1024, .f32⟩
  | 21 => ⟨S32x8x1024, .f32⟩
  | 22 => ⟨S32x8x1024, .f32⟩
  | 23 => ⟨S32x8x1024, .f32⟩
  | 24 => ⟨S1x1024, .f32⟩
  | 25 => ⟨S1024, .f32⟩
  | 26 => ⟨S1x1x1024, .f32⟩
  | 27 => ⟨S32x8x1024, .f32⟩
  | 28 => ⟨S32x8x1024, .f32⟩
  | 29 => ⟨S32x8x1024, .f32⟩
  | 30 => ⟨S32x8x1024, .f32⟩
  | 31 => ⟨S1x1024, .f32⟩
  | 32 => ⟨S1024, .f32⟩
  | 33 => ⟨S1x1x1024, .f32⟩
  | 34 => ⟨S32x8x1024, .f32⟩
  | 35 => ⟨S32x8x1024, .f32⟩
  | 36 => ⟨S32x8x1024, .f32⟩
  | 37 => ⟨S32x8x1024, .f32⟩
  | 38 => ⟨S1x1024, .f32⟩
  | 39 => ⟨S1024, .f32⟩
  | 40 => ⟨S1x1x1024, .f32⟩
  | 41 => ⟨S32x8x1024, .f32⟩
  | 42 => ⟨S32x8x1024, .f32⟩
  | 43 => ⟨S32x8x1024, .f32⟩
  | 44 => ⟨S32x8x1024, .f32⟩
  | 45 => ⟨S1x1024, .f32⟩
  | 46 => ⟨S1024, .f32⟩
  | 47 => ⟨S1x1x1024, .f32⟩
  | 48 => ⟨S32x8x1024, .f32⟩
  | 49 => ⟨S32x8x1024, .f32⟩
  | 50 => ⟨S32x8x1024, .f32⟩
  | 51 => ⟨S32x8x1024, .f32⟩
  | 52 => ⟨S1x1024, .f32⟩
  | 53 => ⟨S1024, .f32⟩
  | 54 => ⟨S1x1x1024, .f32⟩
  | 55 => ⟨S32x8x1024, .f32⟩
  | 56 => ⟨S32x8x1024, .f32⟩
  | 57 => ⟨S32x8x1024, .f32⟩
  | 58 => ⟨S32x8x1024, .f32⟩
  | 59 => ⟨S1x1024, .f32⟩
  | 60 => ⟨S1024, .f32⟩
  | 61 => ⟨S1x1x1024, .f32⟩
  | 62 => ⟨S32x8x1024, .f32⟩
  | 63 => ⟨S32x8x1024, .f32⟩
  | 64 => ⟨S32x8x1024, .f32⟩
  | 65 => ⟨S32x8x1024, .f32⟩
  | 66 => ⟨S1x1024, .f32⟩
  | 67 => ⟨S1024, .f32⟩
  | 68 => ⟨S1x1x1024, .f32⟩
  | 69 => ⟨S32x8x1024, .f32⟩
  | 70 => ⟨S32x8x1024, .f32⟩
  | 71 => ⟨S32x8x1024, .f32⟩
  | 72 => ⟨S32x8x1024, .f32⟩
  | 73 => ⟨S1x1024, .f32⟩
  | 74 => ⟨S1024, .f32⟩
  | 75 => ⟨S1x1x1024, .f32⟩
  | 76 => ⟨S32x8x1024, .f32⟩
  | 77 => ⟨S32x8x1024, .f32⟩
  | 78 => ⟨S32x8x1024, .f32⟩
  | 79 => ⟨S32x8x1024, .f32⟩
  | 80 => ⟨S1x1024, .f32⟩
  | 81 => ⟨S1024, .f32⟩
  | 82 => ⟨S1x1x1024, .f32⟩
  | 83 => ⟨S32x8x1024, .f32⟩
  | 84 => ⟨S32x8x1024, .f32⟩
  | 85 => ⟨S32x8x1024, .f32⟩
  | 86 => ⟨S32x8x1024, .f32⟩
  | 87 => ⟨S1x1024, .f32⟩
  | 88 => ⟨S1024, .f32⟩
  | 89 => ⟨S1x1x1024, .f32⟩
  | 90 => ⟨S32x8x1024, .f32⟩
  | 91 => ⟨S32x8x1024, .f32⟩
  | 92 => ⟨S32x8x1024, .f32⟩
  | 93 => ⟨S32x8x1024, .f32⟩
  | 94 => ⟨S1x1024, .f32⟩
  | 95 => ⟨S1024, .f32⟩
  | 96 => ⟨S1x1x1024, .f32⟩
  | 97 => ⟨S32x8x1024, .f32⟩
  | 98 => ⟨S32x8x1024, .f32⟩
  | 99 => ⟨S32x8x1024, .f32⟩
  | 100 => ⟨S32x8x1024, .f32⟩
  | 101 => ⟨S1x1024, .f32⟩
  | 102 => ⟨S1024, .f32⟩
  | 103 => ⟨S1x1x1024, .f32⟩
  | 104 => ⟨S32x8x1024, .f32⟩
  | 105 => ⟨S32x8x1024, .f32⟩
  | 106 => ⟨S32x8x1024, .f32⟩
  | 107 => ⟨S32x8x1024, .f32⟩
  | 108 => ⟨S1x1024, .f32⟩
  | 109 => ⟨S1024, .f32⟩
  | 110 => ⟨S1x1x1024, .f32⟩
  | 111 => ⟨S32x8x1024, .f32⟩
  | 112 => ⟨S32x8x1024, .f32⟩
  | 113 => ⟨S32x8x1024, .f32⟩
  | 114 => ⟨S32x8x1024, .f32⟩
  | 115 => ⟨S1x1024, .f32⟩
  | 116 => ⟨S1024, .f32⟩
  | 117 => ⟨S1x1x1024, .f32⟩
  | 118 => ⟨S32x8x1024, .f32⟩
  | 119 => ⟨S32x8x1024, .f32⟩
  | 120 => ⟨S32x8x1024, .f32⟩
  | 121 => ⟨S32x8x1024, .f32⟩
  | 122 => ⟨S1x1024, .f32⟩
  | 123 => ⟨S1024, .f32⟩
  | 124 => ⟨S1x1x1024, .f32⟩
  | 125 => ⟨S32x8x1024, .f32⟩
  | 126 => ⟨S32x8x1024, .f32⟩
  | 127 => ⟨S32x8x1024, .f32⟩
  | _ => ⟨S32x8x1024, .f32⟩

abbrev hbmTy0_1 (i : Nat) : BufTy := match i % 128 with
  | 0 => ⟨S32x8x1024, .f32⟩
  | 1 => ⟨S1x1024, .f32⟩
  | 2 => ⟨S1024, .f32⟩
  | 3 => ⟨S1x1x1024, .f32⟩
  | 4 => ⟨S32x8x1024, .f32⟩
  | 5 => ⟨S32x8x1024, .f32⟩
  | 6 => ⟨S32x8x1024, .f32⟩
  | 7 => ⟨S32x8x1024, .f32⟩
  | 8 => ⟨S1x1024, .f32⟩
  | 9 => ⟨S1024, .f32⟩
  | 10 => ⟨S1x1x1024, .f32⟩
  | 11 => ⟨S32x8x1024, .f32⟩
  | 12 => ⟨S32x8x1024, .f32⟩
  | 13 => ⟨S32x8x1024, .f32⟩
  | 14 => ⟨S32x8x1024, .f32⟩
  | 15 => ⟨S1x1024, .f32⟩
  | 16 => ⟨S1024, .f32⟩
  | 17 => ⟨S1x1x1024, .f32⟩
  | 18 => ⟨S32x8x1024, .f32⟩
  | 19 => ⟨S32x8x1024, .f32⟩
  | 20 => ⟨S32x8x1024, .f32⟩
  | 21 => ⟨S32x8x1024, .f32⟩
  | 22 => ⟨S1x1024, .f32⟩
  | 23 => ⟨S1024, .f32⟩
  | 24 => ⟨S1x1x1024, .f32⟩
  | 25 => ⟨S32x8x1024, .f32⟩
  | 26 => ⟨S32x8x1024, .f32⟩
  | 27 => ⟨S32x8x1024, .f32⟩
  | 28 => ⟨S32x8x1024, .f32⟩
  | 29 => ⟨S1x1024, .f32⟩
  | 30 => ⟨S1024, .f32⟩
  | 31 => ⟨S1x1x1024, .f32⟩
  | 32 => ⟨S32x8x1024, .f32⟩
  | 33 => ⟨S32x8x1024, .f32⟩
  | 34 => ⟨S32x8x1024, .f32⟩
  | 35 => ⟨S32x8x1024, .f32⟩
  | 36 => ⟨S1x1024, .f32⟩
  | 37 => ⟨S1024, .f32⟩
  | 38 => ⟨S1x1x1024, .f32⟩
  | 39 => ⟨S32x8x1024, .f32⟩
  | 40 => ⟨S32x8x1024, .f32⟩
  | 41 => ⟨S32x8x1024, .f32⟩
  | 42 => ⟨S32x8x1024, .f32⟩
  | 43 => ⟨S1x1024, .f32⟩
  | 44 => ⟨S1024, .f32⟩
  | 45 => ⟨S1x1x1024, .f32⟩
  | 46 => ⟨S32x8x1024, .f32⟩
  | 47 => ⟨S32x8x1024, .f32⟩
  | 48 => ⟨S32x8x1024, .f32⟩
  | 49 => ⟨S32x8x1024, .f32⟩
  | 50 => ⟨S1x1024, .f32⟩
  | 51 => ⟨S1024, .f32⟩
  | 52 => ⟨S1x1x1024, .f32⟩
  | 53 => ⟨S32x8x1024, .f32⟩
  | 54 => ⟨S32x8x1024, .f32⟩
  | 55 => ⟨S32x8x1024, .f32⟩
  | 56 => ⟨S32x8x1024, .f32⟩
  | 57 => ⟨S1x1024, .f32⟩
  | 58 => ⟨S1024, .f32⟩
  | 59 => ⟨S1x1x1024, .f32⟩
  | 60 => ⟨S32x8x1024, .f32⟩
  | 61 => ⟨S32x8x1024, .f32⟩
  | 62 => ⟨S32x8x1024, .f32⟩
  | 63 => ⟨S32x8x1024, .f32⟩
  | 64 => ⟨S1x1024, .f32⟩
  | 65 => ⟨S1024, .f32⟩
  | 66 => ⟨S1x1x1024, .f32⟩
  | 67 => ⟨S32x8x1024, .f32⟩
  | 68 => ⟨S32x8x1024, .f32⟩
  | 69 => ⟨S32x8x1024, .f32⟩
  | 70 => ⟨S32x8x1024, .f32⟩
  | 71 => ⟨S1x1024, .f32⟩
  | 72 => ⟨S1024, .f32⟩
  | 73 => ⟨S1x1x1024, .f32⟩
  | 74 => ⟨S32x8x1024, .f32⟩
  | 75 => ⟨S32x8x1024, .f32⟩
  | 76 => ⟨S32x8x1024, .f32⟩
  | 77 => ⟨S32x8x1024, .f32⟩
  | 78 => ⟨S1x1024, .f32⟩
  | 79 => ⟨S1024, .f32⟩
  | 80 => ⟨S1x1x1024, .f32⟩
  | 81 => ⟨S32x8x1024, .f32⟩
  | 82 => ⟨S32x8x1024, .f32⟩
  | 83 => ⟨S32x8x1024, .f32⟩
  | 84 => ⟨S32x8x1024, .f32⟩
  | 85 => ⟨S1x1024, .f32⟩
  | 86 => ⟨S1024, .f32⟩
  | 87 => ⟨S1x1x1024, .f32⟩
  | 88 => ⟨S32x8x1024, .f32⟩
  | 89 => ⟨S32x8x1024, .f32⟩
  | 90 => ⟨S32x8x1024, .f32⟩
  | 91 => ⟨S32x8x1024, .f32⟩
  | 92 => ⟨S1x1024, .f32⟩
  | 93 => ⟨S1024, .f32⟩
  | 94 => ⟨S1x1x1024, .f32⟩
  | 95 => ⟨S32x8x1024, .f32⟩
  | 96 => ⟨S32x8x1024, .f32⟩
  | 97 => ⟨S32x8x1024, .f32⟩
  | 98 => ⟨S1x1x1024, .f32⟩
  | 99 => ⟨S32x8x1024, .f32⟩
  | 100 => ⟨S32x8x1024, .f32⟩
  | 101 => ⟨S_, .f32⟩
  | 102 => ⟨S32x8, .f32⟩
  | 103 => ⟨S32x8x1, .f32⟩
  | 104 => ⟨S_, .f32⟩
  | 105 => ⟨S32x8x1, .f32⟩
  | 106 => ⟨S32x8x1, .f32⟩
  | 107 => ⟨S32x8x1024, .f32⟩
  | 108 => ⟨S32x8x1024, .f32⟩
  | 109 => ⟨S32x8x1024, .f32⟩
  | 110 => ⟨S_, .f32⟩
  | 111 => ⟨S32x8, .f32⟩
  | 112 => ⟨S32x8x1, .f32⟩
  | 113 => ⟨S_, .f32⟩
  | 114 => ⟨S32x8x1, .f32⟩
  | 115 => ⟨S32x8x1, .f32⟩
  | 116 => ⟨S32x8x1024, .f32⟩
  | 117 => ⟨S32x8x1024, .f32⟩
  | 118 => ⟨S_, .f32⟩
  | 119 => ⟨S32x8x1, .f32⟩
  | 120 => ⟨S32x8x1, .f32⟩
  | 121 => ⟨S32x8x1, .f32⟩
  | 122 => ⟨S32x8x1024, .f32⟩
  | 123 => ⟨S32x8x1024, .f32⟩
  | 124 => ⟨S1x1x1024, .f32⟩
  | 125 => ⟨S32x8x1024, .f32⟩
  | 126 => ⟨S32x8x1024, .f32⟩
  | 127 => ⟨S1x1x1024, .f32⟩
  | _ => ⟨S32x8x1024, .f32⟩

abbrev hbmTy0_2 (i : Nat) : BufTy := match i % 128 with
  | 0 => ⟨S32x8x1024, .f32⟩
  | 1 => ⟨S32x8x1024, .f32⟩
  | 2 => ⟨S32x8x1024, .f32⟩
  | 3 => ⟨S32x8x1024, .f32⟩
  | 4 => ⟨S_, .f32⟩
  | 5 => ⟨S32x8x1024, .f32⟩
  | 6 => ⟨S32x8x1024, .f32⟩
  | 7 => ⟨S_, .f32⟩
  | 8 => ⟨S32x8x1024, .f32⟩
  | 9 => ⟨S32x8x1024, .f32⟩
  | 10 => ⟨S32x8x1024, .f32⟩
  | 11 => ⟨S32x30x1024, .f32⟩
  | _ => ⟨S32x8x1024, .f32⟩

abbrev hbmTy (i : Nat) : BufTy := match i / 128 with
  | 0 => hbmTy0_0 i
  | 1 => hbmTy0_1 i
  | 2 => hbmTy0_2 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_cst_0 : Ref sig .tc := ⟨.hbm, 229, rfl⟩
abbrev main_v222 : Ref sig .tc := ⟨.hbm, 230, rfl⟩
abbrev main_v223 : Ref sig .tc := ⟨.hbm, 231, rfl⟩
abbrev main_cst_1 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_cst_2 : Ref sig .tc := ⟨.hbm, 238, rfl⟩
abbrev main_v229 : Ref sig .tc := ⟨.hbm, 239, rfl⟩
abbrev main_v230 : Ref sig .tc := ⟨.hbm, 240, rfl⟩
abbrev main_cst_3 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_cst_4 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_call0_v0 : Ref sig .tc := ⟨.hbm, 258, rfl⟩
abbrev main_call0_v1 : Ref sig .tc := ⟨.hbm, 259, rfl⟩
abbrev main_call0_cst : Ref sig .tc := ⟨.hbm, 260, rfl⟩
abbrev main_call0_v2 : Ref sig .tc := ⟨.hbm, 261, rfl⟩
abbrev main_call0_v3 : Ref sig .tc := ⟨.hbm, 262, rfl⟩
abbrev main_call0_cst_0 : Ref sig .tc := ⟨.hbm, 263, rfl⟩
abbrev main_call0_v4 : Ref sig .tc := ⟨.hbm, 264, rfl⟩
abbrev main_call0_v5 : Ref sig .tc := ⟨.hbm, 265, rfl⟩
abbrev main_v246 : Ref sig .tc := ⟨.hbm, 266, rfl⟩
abbrev main_v247 : Ref sig .tc := ⟨.hbm, 267, rfl⟩

abbrev nD : Nat := 1
abbrev τ : Topo := Topo.v7x

variable {F : FTy → Type} [FloatOps F]
-- ==== Proof.ScoresForm.lean ====
module

public import proofs.«01_k».proof.Proof.Gen.KernelIdeal.Frame.Runs

@[expose] public section

noncomputable section

namespace Cert.KernelIdeal.Scores
open Cert.KernelIdeal.Gen
open Idealize.ShloMosaic

variable {F : FTy → Type} [FloatOps F]

/-- The key buffer as the first point zeroes it. -/
def zeroKeys : Vec F S128x4096 .bf16 := k0_pay1 (F := F)

/-- The key buffer after the 32 pages were copied in: page `i` fills rows 0 to 63 of columns `128 i` to `128 i + 127`. -/
def keysIn (xs : Vec F S128x4096 .bf16) (pg : Fin 32 → Vec F S1x1x64x128 .f32) : Vec F S128x4096 .bf16 := fun y =>
  if h : (y 0).val < 64 then
    k0_pay5 (pg ⟨(y 1).val / 128, Nat.div_lt_of_lt_mul (show (y 1).val < 128 * 32 from (y 1).isLt)⟩)
      (fun a => match a with
        | 0 => ⟨(y 0).val, h⟩
        | 1 => ⟨(y 1).val % 128, Nat.mod_lt _ (by decide)⟩)
  else xs y

/-- The weight column of a window of broadcast weights. -/
def wcol (x1 : Vec F S1x64x128 .f32) : Vec F S1x64x1 .f32 := fun y =>
  x1 (fun a => match a with
    | 0 => ⟨0, by decide⟩
    | 1 => ⟨(y 1).val, (y 1).isLt⟩
    | 2 => ⟨0, by decide⟩)

/-- The scores of 4096 keys for eight queries, spread over 32 chunks of 128. -/
def spread (s : FVec F S8x4096 .f32) : Vec F S1x32x8x128 .f32 := fun y =>
  s (fun a => match a with
    | 0 => ⟨(y 2).val, (y 2).isLt⟩
    | 1 => ⟨(y 1).val * 128 + (y 3).val, by
        have h1 : (y 1).val < 32 := (y 1).isLt
        have h3 : (y 3).val < 128 := (y 3).isLt
        show (y 1).val * 128 + (y 3).val < 4096
        omega⟩)

/-- What a page point leaves in the output block. -/
def outPages (x0 : Vec F S1x64x128 .bf16) (x1 : Vec F S1x64x128 .f32) (kb : Vec F S128x4096 .bf16) : Vec F S1x32x8x128 .f32 :=
  spread (k0_pay41 (k0_pay2 (wcol x1)) x0 kb)

/-- What the new keys' point leaves in the output block. -/
def outNew (x0 : Vec F S1x64x128 .bf16) (x1 : Vec F S1x64x128 .f32) (x34 : Vec F S1x128x128 .bf16) : Vec F S1x32x8x128 .f32 := fun y =>
  if (y 1).val = 0 then
    k0_pay77 (k0_pay2 (wcol x1)) x0 x34 (fun a => match a with
      | 0 => ⟨0, by decide⟩
      | 1 => ⟨0, by decide⟩
      | 2 => ⟨(y 2).val, (y 2).isLt⟩
      | 3 => ⟨(y 3).val, (y 3).isLt⟩)
  else Scalar.ofBits .f32 0xFF800000#32

end Cert.KernelIdeal.Scores

end
-- ==== Proof.ScoresPieces.lean ====
module

public import proofs.«01_k».proof.Proof.ScoresForm
public import Idealize.ShloMosaic.Lib.Pipeline.Value

@[expose] public section

set_option maxRecDepth 16384

noncomputable section

namespace Cert.KernelIdeal.Scores
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2 : (![0, 0] : Fin 2 → Nat) = fun _ => 0 := by funext a; fin_cases a <;> rfl

/-- The body's stores at a new keys' point, the last first: the masked chunks, then the scores of the new keys. -/
def newPieces (w : Vec F S1x1x8x128 .f32) : List (View.Piece (Elt F) S1x32x8x128 .f32) :=
  [⟨Rect.unit ![0, 31, 0, 0] S1x1x8x128.size inb_S1x32x8x128_S1x1x8x128_0_31_0_0, k0_pay113⟩,
   ⟨Rect.unit ![0, 30, 0, 0] S1x1x8x128.size inb_S1x32x8x128_S1x1x8x128_0_30_0_0, k0_pay112⟩,
   ⟨Rect.unit ![0, 29, 0, 0] S1x1x8x128.size inb_S1x32x8x128_S1x1x8x128_0_29_0_0, k0_pay111⟩,
   ⟨Rect.unit ![0, 28, 0, 0] S1x1x8x128.size inb_S1x32x8x128_S1x1x8x128_0_28_0_0, k0_pay110⟩,
   ⟨Rect.unit ![0, 27, 0, 0] S1x1x8x128.size inb_S1x32x8x128_S1x1x8x128_0_27_0_0, k0_pay109⟩,
   ⟨Rect.unit ![0, 26, 0, 0] S1x1x8x128.size inb_S1x32x8x128_S1x1x8x128_0_26_0_0, k0_pay108 k0_pay107⟩,
   ⟨Rect.unit ![0, 25, 0, 0] S1x1x8x128.size inb_S1x32x8x128_S1x1x8x128_0_25_0_0, k0_pay106⟩,
   ⟨Rect.unit ![0, 24, 0, 0] S1x1x8x128.size inb_S1x32x8x128_S1x1x8x128_0_24_0_0, k0_pay105⟩,
   ⟨Rect.unit ![0, 23, 0, 0] S1x1x8x128.size inb_S1x32x8x128_S1x1x8x128_0_23_0_0, k0_pay104⟩,
   ⟨Rect.unit ![0, 22, 0, 0] S1x1x8x128.size inb_S1x32x8x128_S1x1x8x128_0_22_0_0, k0_pay103⟩,
   ⟨Rect.unit ![0, 21, 0, 0] S1x1x8x128.size inb_S1x32x8x128_S1x1x8x128_0_21_0_0, k0_pay102⟩,
   ⟨Rect.unit ![0, 20, 0, 0] S1x1x8x128.size inb_S1x32x8x128_S1x1x8x128_0_20_0_0, k0_pay101 k0_pay100⟩,
   ⟨Rect.unit ![0, 19, 0, 0] S1x1x8x128.size inb_S1x32x8x128_S1x1x8x128_0_19_0_0, k0_pay99⟩,
   ⟨Rect.unit ![0, 18, 0, 0] S1x1x8x128.size inb_S1x32x8x128_S1x1x8x128_0_18_0_0, k0_pay98⟩,
   ⟨Rect.unit ![0, 17, 0, 0] S1x1x8x128.size inb_S1x32x8x128_S1x1x8x128_0_17_0_0, k0_pay97⟩,
   ⟨Rect.unit ![0, 16, 0, 0] S1x1x8x128.size inb_S1x32x8x128_S1x1x8x128_0_16_0_0, k0_pay96⟩,
   ⟨Rect.unit ![0, 15, 0, 0] S1x1x8x128.size inb_S1x32x8x128_S1x1x8x128_0_15_0_0, k0_pay95⟩,
   ⟨Rect.unit ![0, 14, 0, 0] S1x1x8x128.size inb_S1x32x8x128_S1x1x8x128_0_14_0_0, k0_pay94 k0_pay93⟩,
   ⟨Rect.unit ![0, 13, 0, 0] S1x1x8x128.size inb_S1x32x8x128_S1x1x8x128_0_13_0_0, k0_pay92⟩,
   ⟨Rect.unit ![0, 12, 0, 0] S1x1x8x128.size inb_S1x32x8x128_S1x1x8x128_0_12_0_0, k0_pay91⟩,
   ⟨Rect.unit ![0, 11, 0, 0] S1x1x8x128.size inb_S1x32x8x128_S1x1x8x128_0_11_0_0, k0_pay90⟩,
   ⟨Rect.unit ![0, 10, 0, 0] S1x1x8x128.size inb_S1x32x8x128_S1x1x8x128_0_10_0_0, k0_pay89⟩,
   ⟨Rect.unit ![0, 9, 0, 0] S1x1x8x128.size inb_S1x32x8x128_S1x1x8x128_0_9_0_0, k0_pay88⟩,
   ⟨Rect.unit ![0, 8, 0, 0] S1x1x8x128.size inb_S1x32x8x128_S1x1x8x128_0_8_0_0, k0_pay87 k0_pay86⟩,
   ⟨Rect.unit ![0, 7, 0, 0] S1x1x8x128.size inb_S1x32x8x128_S1x1x8x128_0_7_0_0, k0_pay85⟩,
   ⟨Rect.unit ![0, 6, 0, 0] S1x1x8x128.size inb_S1x32x8x128_S1x1x8x128_0_6_0_0, k0_pay84⟩,
   ⟨Rect.unit ![0, 5, 0, 0] S1x1x8x128.size inb_S1x32x8x128_S1x1x8x128_0_5_0_0, k0_pay83⟩,
   ⟨Rect.unit ![0, 4, 0, 0] S1x1x8x128.size inb_S1x32x8x128_S1x1x8x128_0_4_0_0, k0_pay82⟩,
   ⟨Rect.unit ![0, 3, 0, 0] S1x1x8x128.size inb_S1x32x8x128_S1x1x8x128_0_3_0_0, k0_pay81⟩,
   ⟨Rect.unit ![0, 2, 0, 0] S1x1x8x128.size inb_S1x32x8x128_S1x1x8x128_0_2_0_0, k0_pay80 k0_pay79⟩,
   ⟨Rect.unit ![0, 1, 0, 0] S1x1x8x128.size inb_S1x32x8x128_S1x1x8x128_0_1_0_0, k0_pay78⟩,
   ⟨Rect.unit ![0, 0, 0, 0] S1x1x8x128.size inb_S1x32x8x128_S1x1x8x128_0_0_0_0, w⟩]

/-- A masked chunk agrees with the block. -/
theorem masked (x0 : Vec F S1x64x128 .bf16) (x1 : Vec F S1x64x128 .f32) (x34 : Vec F S1x128x128 .bf16) (j : ℕ) (hj : j ≠ 0)
    (inb : ∀ a, (![0, j, 0, 0] : Fin 4 → ℕ) a + S1x1x8x128.size a ≤ S1x32x8x128.size a)
    (w : Vec F S1x1x8x128 .f32) (hw : w = fun _ => Scalar.ofBits .f32 0xFF800000#32)
    (x : (Rect.unit (s := S1x32x8x128) ![0, j, 0, 0] S1x1x8x128.size inb).shape.Idx) :
    w x = outNew x0 x1 x34 ((Rect.unit (s := S1x32x8x128) ![0, j, 0, 0] S1x1x8x128.size inb).emb x) := by
  subst hw
  unfold outNew
  exact (if_neg (show ¬ j + 1 * (x 1).val = 0 by omega)).symm

/-- The new keys' scores agree with the block. -/
theorem unmasked (x0 : Vec F S1x64x128 .bf16) (x1 : Vec F S1x64x128 .f32) (x34 : Vec F S1x128x128 .bf16)
    (inb : ∀ a, (![0, 0, 0, 0] : Fin 4 → ℕ) a + S1x1x8x128.size a ≤ S1x32x8x128.size a)
    (w : Vec F S1x1x8x128 .f32) (hw : w = k0_pay77 (k0_pay2 (wcol x1)) x0 x34)
    (x : (Rect.unit (s := S1x32x8x128) ![0, 0, 0, 0] S1x1x8x128.size inb).shape.Idx) :
    w x = outNew x0 x1 x34 ((Rect.unit (s := S1x32x8x128) ![0, 0, 0, 0] S1x1x8x128.size inb).emb x) := by
  subst hw
  have h0 : (x 0).val = 0 := by have : (x 0).val < 1 := (x 0).isLt; omega
  have h1 : (x 1).val = 0 := by have : (x 1).val < 1 := (x 1).isLt; omega
  unfold outNew
  refine Eq.trans ?_ (if_pos (show 0 + 1 * (x 1).val = 0 by omega)).symm
  refine congrArg (k0_pay77 (k0_pay2 (wcol x1)) x0 x34) (funext fun a => Fin.ext ?_)
  match a with
  | 0 => exact h0
  | 1 => exact h1
  | 2 => show (x 2).val = 0 + 1 * (x 2).val; omega
  | 3 => show (x 3).val = 0 + 1 * (x 3).val; omega

/-- What the stores of a new keys' point leave in the output block. -/
theorem read_newPieces (v : View sig .tc .vmem S1x32x8x128 .f32) (f : v.ty.Contents (Elt F)) (w : Vec F S1x1x8x128 .f32)
    (x0 : Vec F S1x64x128 .bf16) (x1 : Vec F S1x64x128 .f32) (x34 : Vec F S1x128x128 .bf16)
    (hw : w = k0_pay77 (k0_pay2 (wcol x1)) x0 x34) :
    View.read (Elt F) v (v.writes (Elt F) f (newPieces w)) = outNew x0 x1 x34 := by
  funext y
  refine View.read_writes_apply_of_pieces _ _ (outNew x0 x1 x34) _ ?_ y ?_
  · intro p hp
    unfold newPieces at hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact masked x0 x1 x34 31 (by decide) inb_S1x32x8x128_S1x1x8x128_0_31_0_0 _ rfl
    · exact masked x0 x1 x34 30 (by decide) inb_S1x32x8x128_S1x1x8x128_0_30_0_0 _ rfl
    · exact masked x0 x1 x34 29 (by decide) inb_S1x32x8x128_S1x1x8x128_0_29_0_0 _ rfl
    · exact masked x0 x1 x34 28 (by decide) inb_S1x32x8x128_S1x1x8x128_0_28_0_0 _ rfl
    · exact masked x0 x1 x34 27 (by decide) inb_S1x32x8x128_S1x1x8x128_0_27_0_0 _ rfl
    · exact masked x0 x1 x34 26 (by decide) inb_S1x32x8x128_S1x1x8x128_0_26_0_0 _ rfl
    · exact masked x0 x1 x34 25 (by decide) inb_S1x32x8x128_S1x1x8x128_0_25_0_0 _ rfl
    · exact masked x0 x1 x34 24 (by decide) inb_S1x32x8x128_S1x1x8x128_0_24_0_0 _ rfl
    · exact masked x0 x1 x34 23 (by decide) inb_S1x32x8x128_S1x1x8x128_0_23_0_0 _ rfl
    · exact masked x0 x1 x34 22 (by decide) inb_S1x32x8x128_S1x1x8x128_0_22_0_0 _ rfl
    · exact masked x0 x1 x34 21 (by decide) inb_S1x32x8x128_S1x1x8x128_0_21_0_0 _ rfl
    · exact masked x0 x1 x34 20 (by decide) inb_S1x32x8x128_S1x1x8x128_0_20_0_0 _ rfl
    · exact masked x0 x1 x34 19 (by decide) inb_S1x32x8x128_S1x1x8x128_0_19_0_0 _ rfl
    · exact masked x0 x1 x34 18 (by decide) inb_S1x32x8x128_S1x1x8x128_0_18_0_0 _ rfl
    · exact masked x0 x1 x34 17 (by decide) inb_S1x32x8x128_S1x1x8x128_0_17_0_0 _ rfl
    · exact masked x0 x1 x34 16 (by decide) inb_S1x32x8x128_S1x1x8x128_0_16_0_0 _ rfl
    · exact masked x0 x1 x34 15 (by decide) inb_S1x32x8x128_S1x1x8x128_0_15_0_0 _ rfl
    · exact masked x0 x1 x34 14 (by decide) inb_S1x32x8x128_S1x1x8x128_0_14_0_0 _ rfl
    · exact masked x0 x1 x34 13 (by decide) inb_S1x32x8x128_S1x1x8x128_0_13_0_0 _ rfl
    · exact masked x0 x1 x34 12 (by decide) inb_S1x32x8x128_S1x1x8x128_0_12_0_0 _ rfl
    · exact masked x0 x1 x34 11 (by decide) inb_S1x32x8x128_S1x1x8x128_0_11_0_0 _ rfl
    · exact masked x0 x1 x34 10 (by decide) inb_S1x32x8x128_S1x1x8x128_0_10_0_0 _ rfl
    · exact masked x0 x1 x34 9 (by decide) inb_S1x32x8x128_S1x1x8x128_0_9_0_0 _ rfl
    · exact masked x0 x1 x34 8 (by decide) inb_S1x32x8x128_S1x1x8x128_0_8_0_0 _ rfl
    · exact masked x0 x1 x34 7 (by decide) inb_S1x32x8x128_S1x1x8x128_0_7_0_0 _ rfl
    · exact masked x0 x1 x34 6 (by decide) inb_S1x32x8x128_S1x1x8x128_0_6_0_0 _ rfl
    · exact masked x0 x1 x34 5 (by decide) inb_S1x32x8x128_S1x1x8x128_0_5_0_0 _ rfl
    · exact masked x0 x1 x34 4 (by decide) inb_S1x32x8x128_S1x1x8x128_0_4_0_0 _ rfl
    · exact masked x0 x1 x34 3 (by decide) inb_S1x32x8x128_S1x1x8x128_0_3_0_0 _ rfl
    · exact masked x0 x1 x34 2 (by decide) inb_S1x32x8x128_S1x1x8x128_0_2_0_0 _ rfl
    · exact masked x0 x1 x34 1 (by decide) inb_S1x32x8x128_S1x1x8x128_0_1_0_0 _ rfl
    · exact unmasked x0 x1 x34 inb_S1x32x8x128_S1x1x8x128_0_0_0_0 _ hw
  · exact View.cover_of_tiledL _ ![1, 1, 8, 128] (by rfl) y

/-- The weight column the body loads. -/
theorem wcol_eq (x1 : Vec F S1x64x128 .f32) :
    View.ld x1 (Rect.unit ![0, 0, 0] ![1, 64, 1] inb_S1x64x128_S1x64x1_0_0_0) = wcol x1 := by
  funext y
  unfold wcol
  refine congrArg x1 (funext fun a => Fin.ext ?_)
  match a with
  | 0 => show 0 + 1 * (y 0).val = 0
         have : (y 0).val < 1 := (y 0).isLt
         omega
  | 1 => show 0 + 1 * (y 1).val = (y 1).val
         omega
  | 2 => show 0 + 1 * (y 2).val = 0
         have : (y 2).val < 1 := (y 2).isLt
         omega

/-- The operands of the new keys' scores, as the body loads them. -/
theorem new_loads (arg3 : Memref sig .tc .vmem S1x64x128 .bf16) (harg3 : arg3.IsWhole) (arg4 : Memref sig .tc .vmem S1x64x128 .f32) (harg4 : arg4.IsWhole)
    (arg37 : Memref sig .tc .vmem S1x128x128 .bf16) (harg37 : arg37.IsWhole)
    (x0 : Vec F S1x64x128 .bf16) (x1 : Vec F S1x64x128 .f32) (x34 : Vec F S1x128x128 .bf16) :
    k0_pay77
      (k0_pay2 (View.readAt (Elt F) arg4.view (Rect.unit (s := S1x64x128) ![0, 0, 0] ![1, 64, 1] inb_S1x64x128_S1x64x1_0_0_0).toLoadRect
        (harg4.unread x1)))
      (View.readAt (Elt F) arg3.view (Rect.unit (s := S1x64x128) ![0, 0, 0] S1x64x128.size inb_S1x64x128_S1x64x128_0_0_0).toLoadRect (harg3.unread x0))
      (View.readAt (Elt F) arg37.view (Rect.unit (s := S1x128x128) ![0, 0, 0] S1x128x128.size inb_S1x128x128_S1x128x128_0_0_0).toLoadRect
        (harg37.unread x34))
      = k0_pay77 (k0_pay2 (wcol x1)) x0 x34 := by
  rw [View.readAt_eq_ld, View.readAt_eq_ld, View.readAt_eq_ld, harg4.read_unread, harg3.read_unread, harg37.read_unread,
    wcol_eq, View.ld_unit_zero hz3, View.ld_unit_zero hz3]

end Cert.KernelIdeal.Scores

end
-- ==== Proof.ScoresPages.lean ====
module

public import proofs.«01_k».proof.Proof.ScoresPieces
public import Idealize.ShloMosaic.Lib.Pointwise

@[expose] public section

set_option maxRecDepth 16384

noncomputable section

namespace Cert.KernelIdeal.Scores
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0, 0, 0] : Fin 4 → Nat) = fun _ => 0 := by funext a; fin_cases a <;> rfl

/-! ## The 32 pages in the key buffer -/

/-- The body's stores of the pages into the key buffer, the last first. -/
def keyPieces (p0 p1 p2 p3 p4 p5 p6 p7 p8 p9 p10 p11 p12 p13 p14 p15 p16 p17 p18 p19 p20 p21 p22 p23 p24 p25 p26 p27 p28 p29 p30 p31 : Vec F S1x1x64x128 .f32) : List (View.Piece (Elt F) S128x4096 .bf16) :=
  [⟨Rect.unit (s := S128x4096) ![0, 3968] S64x128.size inb_S128x4096_S64x128_0_3968, k0_pay40 p31⟩,
   ⟨Rect.unit (s := S128x4096) ![0, 3840] S64x128.size inb_S128x4096_S64x128_0_3840, k0_pay39 p30⟩,
   ⟨Rect.unit (s := S128x4096) ![0, 3712] S64x128.size inb_S128x4096_S64x128_0_3712, k0_pay38 p29⟩,
   ⟨Rect.unit (s := S128x4096) ![0, 3584] S64x128.size inb_S128x4096_S64x128_0_3584, k0_pay37 p28⟩,
   ⟨Rect.unit (s := S128x4096) ![0, 3456] S64x128.size inb_S128x4096_S64x128_0_3456, k0_pay36 (k0_pay35 p27)⟩,
   ⟨Rect.unit (s := S128x4096) ![0, 3328] S64x128.size inb_S128x4096_S64x128_0_3328, k0_pay34 p26⟩,
   ⟨Rect.unit (s := S128x4096) ![0, 3200] S64x128.size inb_S128x4096_S64x128_0_3200, k0_pay33 p25⟩,
   ⟨Rect.unit (s := S128x4096) ![0, 3072] S64x128.size inb_S128x4096_S64x128_0_3072, k0_pay32 p24⟩,
   ⟨Rect.unit (s := S128x4096) ![0, 2944] S64x128.size inb_S128x4096_S64x128_0_2944, k0_pay31 p23⟩,
   ⟨Rect.unit (s := S128x4096) ![0, 2816] S64x128.size inb_S128x4096_S64x128_0_2816, k0_pay30 p22⟩,
   ⟨Rect.unit (s := S128x4096) ![0, 2688] S64x128.size inb_S128x4096_S64x128_0_2688, k0_pay29 p21⟩,
   ⟨Rect.unit (s := S128x4096) ![0, 2560] S64x128.size inb_S128x4096_S64x128_0_2560, k0_pay28 p20⟩,
   ⟨Rect.unit (s := S128x4096) ![0, 2432] S64x128.size inb_S128x4096_S64x128_0_2432, k0_pay27 p19⟩,
   ⟨Rect.unit (s := S128x4096) ![0, 2304] S64x128.size inb_S128x4096_S64x128_0_2304, k0_pay26 (k0_pay25 p18)⟩,
   ⟨Rect.unit (s := S128x4096) ![0, 2176] S64x128.size inb_S128x4096_S64x128_0_2176, k0_pay24 p17⟩,
   ⟨Rect.unit (s := S128x4096) ![0, 2048] S64x128.size inb_S128x4096_S64x128_0_2048, k0_pay23 p16⟩,
   ⟨Rect.unit (s := S128x4096) ![0, 1920] S64x128.size inb_S128x4096_S64x128_0_1920, k0_pay22 p15⟩,
   ⟨Rect.unit (s := S128x4096) ![0, 1792] S64x128.size inb_S128x4096_S64x128_0_1792, k0_pay21 p14⟩,
   ⟨Rect.unit (s := S128x4096) ![0, 1664] S64x128.size inb_S128x4096_S64x128_0_1664, k0_pay20 (k0_pay19 p13)⟩,
   ⟨Rect.unit (s := S128x4096) ![0, 1536] S64x128.size inb_S128x4096_S64x128_0_1536, k0_pay18 p12⟩,
   ⟨Rect.unit (s := S128x4096) ![0, 1408] S64x128.size inb_S128x4096_S64x128_0_1408, k0_pay17 p11⟩,
   ⟨Rect.unit (s := S128x4096) ![0, 1280] S64x128.size inb_S128x4096_S64x128_0_1280, k0_pay16 p10⟩,
   ⟨Rect.unit (s := S128x4096) ![0, 1152] S64x128.size inb_S128x4096_S64x128_0_1152, k0_pay15 p9⟩,
   ⟨Rect.unit (s := S128x4096) ![0, 1024] S64x128.size inb_S128x4096_S64x128_0_1024, k0_pay14 p8⟩,
   ⟨Rect.unit (s := S128x4096) ![0, 896] S64x128.size inb_S128x4096_S64x128_0_896, k0_pay13 p7⟩,
   ⟨Rect.unit (s := S128x4096) ![0, 768] S64x128.size inb_S128x4096_S64x128_0_768, k0_pay12 p6⟩,
   ⟨Rect.unit (s := S128x4096) ![0, 640] S64x128.size inb_S128x4096_S64x128_0_640, k0_pay11 p5⟩,
   ⟨Rect.unit (s := S128x4096) ![0, 512] S64x128.size inb_S128x4096_S64x128_0_512, k0_pay10 (k0_pay9 p4)⟩,
   ⟨Rect.unit (s := S128x4096) ![0, 384] S64x128.size inb_S128x4096_S64x128_0_384, k0_pay8 p3⟩,
   ⟨Rect.unit (s := S128x4096) ![0, 256] S64x128.size inb_S128x4096_S64x128_0_256, k0_pay7 p2⟩,
   ⟨Rect.unit (s := S128x4096) ![0, 128] S64x128.size inb_S128x4096_S64x128_0_128, k0_pay6 p1⟩,
   ⟨Rect.unit (s := S128x4096) ![0, 0] S64x128.size inb_S128x4096_S64x128_0_0, k0_pay5 p0⟩]

/-- A place of the upper rows that the newest store holds. -/
theorem key_hit (v : View sig .tc .vmem S128x4096 .bf16) (f : v.ty.Contents (Elt F)) (xs : Vec F S128x4096 .bf16)
    (pg : Fin 32 → Vec F S1x1x64x128 .f32) (j : Fin 32) (o : ℕ) (ho : o = 128 * j.val)
    (inb : ∀ a, (![0, o] : Fin 2 → ℕ) a + S64x128.size a ≤ S128x4096.size a) (w : Vec F S64x128 .bf16) (hw : w = k0_pay5 (pg j))
    (L : List (View.Piece (Elt F) S128x4096 .bf16)) (y : S128x4096.Idx) (h0 : (y 0).val < 64) (h1 : o ≤ (y 1).val)
    (h2 : (y 1).val < o + 128) :
    v.read (Elt F) (v.writes (Elt F) f (⟨Rect.unit (s := S128x4096) ![0, o] S64x128.size inb, w⟩ :: L)) y = keysIn xs pg y := by
  have e : (y 1).val % 128 = (y 1).val - o := by omega
  have ej : (y 1).val / 128 = j.val := by omega
  refine (View.read_writes_cons_hit_of_coords v f (Rect.unit (s := S128x4096) ![0, o] S64x128.size inb) w L
    (fun a => match a with
      | 0 => ⟨(y 0).val, h0⟩
      | 1 => ⟨(y 1).val % 128, Nat.mod_lt _ (by decide)⟩) y ?_).trans ?_
  · intro a
    match a with
    | 0 => show (y 0).val = 0 + 1 * (y 0).val
           rw [Nat.zero_add, Nat.one_mul]
    | 1 => show (y 1).val = o + 1 * ((y 1).val % 128)
           rw [e, Nat.one_mul, Nat.add_sub_cancel' h1]
  · subst hw
    unfold keysIn
    rw [dif_pos h0]
    have hj : ∀ h, (⟨(y 1).val / 128, h⟩ : Fin 32) = j := fun h => Fin.ext ej
    rw [hj]
    refine congrArg (k0_pay5 (pg j)) (funext fun a => ?_)
    match a with
    | 0 => rfl
    | 1 => rfl

/-- A place before the newest store. -/
theorem key_miss (v : View sig .tc .vmem S128x4096 .bf16) (f : v.ty.Contents (Elt F)) (o : ℕ)
    (inb : ∀ a, (![0, o] : Fin 2 → ℕ) a + S64x128.size a ≤ S128x4096.size a) (w : Vec F S64x128 .bf16)
    (L : List (View.Piece (Elt F) S128x4096 .bf16)) (y : S128x4096.Idx) (h1 : (y 1).val < o) :
    v.read (Elt F) (v.writes (Elt F) f (⟨Rect.unit (s := S128x4096) ![0, o] S64x128.size inb, w⟩ :: L)) y
      = v.read (Elt F) (v.writes (Elt F) f L) y :=
  View.read_writes_cons_miss_of_axis v f _ L y 1 o 128 rfl rfl rfl (Or.inl h1)

/-- What the stores of the pages leave in the key buffer. -/
theorem read_keyPieces (v : View sig .tc .vmem S128x4096 .bf16) (f : v.ty.Contents (Elt F)) (xs : Vec F S128x4096 .bf16)
    (hf : v.read (Elt F) f = xs) (p0 p1 p2 p3 p4 p5 p6 p7 p8 p9 p10 p11 p12 p13 p14 p15 p16 p17 p18 p19 p20 p21 p22 p23 p24 p25 p26 p27 p28 p29 p30 p31 : Vec F S1x1x64x128 .f32) (pg : Fin 32 → Vec F S1x1x64x128 .f32)
    (h0 : p0 = pg 0) (h1 : p1 = pg 1) (h2 : p2 = pg 2) (h3 : p3 = pg 3) (h4 : p4 = pg 4) (h5 : p5 = pg 5) (h6 : p6 = pg 6) (h7 : p7 = pg 7) (h8 : p8 = pg 8) (h9 : p9 = pg 9) (h10 : p10 = pg 10) (h11 : p11 = pg 11) (h12 : p12 = pg 12) (h13 : p13 = pg 13) (h14 : p14 = pg 14) (h15 : p15 = pg 15) (h16 : p16 = pg 16) (h17 : p17 = pg 17) (h18 : p18 = pg 18) (h19 : p19 = pg 19) (h20 : p20 = pg 20) (h21 : p21 = pg 21) (h22 : p22 = pg 22) (h23 : p23 = pg 23) (h24 : p24 = pg 24) (h25 : p25 = pg 25) (h26 : p26 = pg 26) (h27 : p27 = pg 27) (h28 : p28 = pg 28) (h29 : p29 = pg 29) (h30 : p30 = pg 30) (h31 : p31 = pg 31) :
    v.read (Elt F) (v.writes (Elt F) f (keyPieces p0 p1 p2 p3 p4 p5 p6 p7 p8 p9 p10 p11 p12 p13 p14 p15 p16 p17 p18 p19 p20 p21 p22 p23 p24 p25 p26 p27 p28 p29 p30 p31)) = keysIn xs pg := by
  funext y
  have hy : (y 1).val < 4096 := (y 1).isLt
  by_cases hr : (y 0).val < 64
  · unfold keyPieces
    by_cases c31 : 3968 ≤ (y 1).val
    · exact key_hit v f xs pg 31 3968 rfl _ _ (by rw [h31]; rfl) _ y hr c31 (by omega)
    refine (key_miss v f 3968 _ _ _ y (by omega)).trans ?_
    by_cases c30 : 3840 ≤ (y 1).val
    · exact key_hit v f xs pg 30 3840 rfl _ _ (by rw [h30]; rfl) _ y hr c30 (by omega)
    refine (key_miss v f 3840 _ _ _ y (by omega)).trans ?_
    by_cases c29 : 3712 ≤ (y 1).val
    · exact key_hit v f xs pg 29 3712 rfl _ _ (by rw [h29]; rfl) _ y hr c29 (by omega)
    refine (key_miss v f 3712 _ _ _ y (by omega)).trans ?_
    by_cases c28 : 3584 ≤ (y 1).val
    · exact key_hit v f xs pg 28 3584 rfl _ _ (by rw [h28]; rfl) _ y hr c28 (by omega)
    refine (key_miss v f 3584 _ _ _ y (by omega)).trans ?_
    by_cases c27 : 3456 ≤ (y 1).val
    · exact key_hit v f xs pg 27 3456 rfl _ _ (by rw [h27]; rfl) _ y hr c27 (by omega)
    refine (key_miss v f 3456 _ _ _ y (by omega)).trans ?_
    by_cases c26 : 3328 ≤ (y 1).val
    · exact key_hit v f xs pg 26 3328 rfl _ _ (by rw [h26]; rfl) _ y hr c26 (by omega)
    refine (key_miss v f 3328 _ _ _ y (by omega)).trans ?_
    by_cases c25 : 3200 ≤ (y 1).val
    · exact key_hit v f xs pg 25 3200 rfl _ _ (by rw [h25]; rfl) _ y hr c25 (by omega)
    refine (key_miss v f 3200 _ _ _ y (by omega)).trans ?_
    by_cases c24 : 3072 ≤ (y 1).val
    · exact key_hit v f xs pg 24 3072 rfl _ _ (by rw [h24]; rfl) _ y hr c24 (by omega)
    refine (key_miss v f 3072 _ _ _ y (by omega)).trans ?_
    by_cases c23 : 2944 ≤ (y 1).val
    · exact key_hit v f xs pg 23 2944 rfl _ _ (by rw [h23]; rfl) _ y hr c23 (by omega)
    refine (key_miss v f 2944 _ _ _ y (by omega)).trans ?_
    by_cases c22 : 2816 ≤ (y 1).val
    · exact key_hit v f xs pg 22 2816 rfl _ _ (by rw [h22]; rfl) _ y hr c22 (by omega)
    refine (key_miss v f 2816 _ _ _ y (by omega)).trans ?_
    by_cases c21 : 2688 ≤ (y 1).val
    · exact key_hit v f xs pg 21 2688 rfl _ _ (by rw [h21]; rfl) _ y hr c21 (by omega)
    refine (key_miss v f 2688 _ _ _ y (by omega)).trans ?_
    by_cases c20 : 2560 ≤ (y 1).val
    · exact key_hit v f xs pg 20 2560 rfl _ _ (by rw [h20]; rfl) _ y hr c20 (by omega)
    refine (key_miss v f 2560 _ _ _ y (by omega)).trans ?_
    by_cases c19 : 2432 ≤ (y 1).val
    · exact key_hit v f xs pg 19 2432 rfl _ _ (by rw [h19]; rfl) _ y hr c19 (by omega)
    refine (key_miss v f 2432 _ _ _ y (by omega)).trans ?_
    by_cases c18 : 2304 ≤ (y 1).val
    · exact key_hit v f xs pg 18 2304 rfl _ _ (by rw [h18]; rfl) _ y hr c18 (by omega)
    refine (key_miss v f 2304 _ _ _ y (by omega)).trans ?_
    by_cases c17 : 2176 ≤ (y 1).val
    · exact key_hit v f xs pg 17 2176 rfl _ _ (by rw [h17]; rfl) _ y hr c17 (by omega)
    refine (key_miss v f 2176 _ _ _ y (by omega)).trans ?_
    by_cases c16 : 2048 ≤ (y 1).val
    · exact key_hit v f xs pg 16 2048 rfl _ _ (by rw [h16]; rfl) _ y hr c16 (by omega)
    refine (key_miss v f 2048 _ _ _ y (by omega)).trans ?_
    by_cases c15 : 1920 ≤ (y 1).val
    · exact key_hit v f xs pg 15 1920 rfl _ _ (by rw [h15]; rfl) _ y hr c15 (by omega)
    refine (key_miss v f 1920 _ _ _ y (by omega)).trans ?_
    by_cases c14 : 1792 ≤ (y 1).val
    · exact key_hit v f xs pg 14 1792 rfl _ _ (by rw [h14]; rfl) _ y hr c14 (by omega)
    refine (key_miss v f 1792 _ _ _ y (by omega)).trans ?_
    by_cases c13 : 1664 ≤ (y 1).val
    · exact key_hit v f xs pg 13 1664 rfl _ _ (by rw [h13]; rfl) _ y hr c13 (by omega)
    refine (key_miss v f 1664 _ _ _ y (by omega)).trans ?_
    by_cases c12 : 1536 ≤ (y 1).val
    · exact key_hit v f xs pg 12 1536 rfl _ _ (by rw [h12]; rfl) _ y hr c12 (by omega)
    refine (key_miss v f 1536 _ _ _ y (by omega)).trans ?_
    by_cases c11 : 1408 ≤ (y 1).val
    · exact key_hit v f xs pg 11 1408 rfl _ _ (by rw [h11]; rfl) _ y hr c11 (by omega)
    refine (key_miss v f 1408 _ _ _ y (by omega)).trans ?_
    by_cases c10 : 1280 ≤ (y 1).val
    · exact key_hit v f xs pg 10 1280 rfl _ _ (by rw [h10]; rfl) _ y hr c10 (by omega)
    refine (key_miss v f 1280 _ _ _ y (by omega)).trans ?_
    by_cases c9 : 1152 ≤ (y 1).val
    · exact key_hit v f xs pg 9 1152 rfl _ _ (by rw [h9]; rfl) _ y hr c9 (by omega)
    refine (key_miss v f 1152 _ _ _ y (by omega)).trans ?_
    by_cases c8 : 1024 ≤ (y 1).val
    · exact key_hit v f xs pg 8 1024 rfl _ _ (by rw [h8]; rfl) _ y hr c8 (by omega)
    refine (key_miss v f 1024 _ _ _ y (by omega)).trans ?_
    by_cases c7 : 896 ≤ (y 1).val
    · exact key_hit v f xs pg 7 896 rfl _ _ (by rw [h7]; rfl) _ y hr c7 (by omega)
    refine (key_miss v f 896 _ _ _ y (by omega)).trans ?_
    by_cases c6 : 768 ≤ (y 1).val
    · exact key_hit v f xs pg 6 768 rfl _ _ (by rw [h6]; rfl) _ y hr c6 (by omega)
    refine (key_miss v f 768 _ _ _ y (by omega)).trans ?_
    by_cases c5 : 640 ≤ (y 1).val
    · exact key_hit v f xs pg 5 640 rfl _ _ (by rw [h5]; rfl) _ y hr c5 (by omega)
    refine (key_miss v f 640 _ _ _ y (by omega)).trans ?_
    by_cases c4 : 512 ≤ (y 1).val
    · exact key_hit v f xs pg 4 512 rfl _ _ (by rw [h4]; rfl) _ y hr c4 (by omega)
    refine (key_miss v f 512 _ _ _ y (by omega)).trans ?_
    by_cases c3 : 384 ≤ (y 1).val
    · exact key_hit v f xs pg 3 384 rfl _ _ (by rw [h3]; rfl) _ y hr c3 (by omega)
    refine (key_miss v f 384 _ _ _ y (by omega)).trans ?_
    by_cases c2 : 256 ≤ (y 1).val
    · exact key_hit v f xs pg 2 256 rfl _ _ (by rw [h2]; rfl) _ y hr c2 (by omega)
    refine (key_miss v f 256 _ _ _ y (by omega)).trans ?_
    by_cases c1 : 128 ≤ (y 1).val
    · exact key_hit v f xs pg 1 128 rfl _ _ (by rw [h1]; rfl) _ y hr c1 (by omega)
    refine (key_miss v f 128 _ _ _ y (by omega)).trans ?_
    exact key_hit v f xs pg 0 0 rfl _ _ (by rw [h0]) _ y hr (Nat.zero_le _) (by omega)
  · rw [View.read_writes_apply_of_forall_not_mem v f y (keyPieces p0 p1 p2 p3 p4 p5 p6 p7 p8 p9 p10 p11 p12 p13 p14 p15 p16 p17 p18 p19 p20 p21 p22 p23 p24 p25 p26 p27 p28 p29 p30 p31) ?_, hf]
    · unfold keysIn
      rw [dif_neg hr]
    · intro p hp
      unfold keyPieces at hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
        exact Rect.not_mem_set_of_axis _ y 0 0 64 rfl rfl rfl (Or.inr (by omega))

/-! ## The 32 chunks of the output block -/

/-- The body's stores of the chunks of scores, the last first. -/
def pagePieces (a : Vec F S64x1 .f32) (b : Vec F S1x64x128 .bf16) (c : Vec F S128x4096 .bf16) : List (View.Piece (Elt F) S1x32x8x128 .f32) :=
  [⟨Rect.unit (s := S1x32x8x128) ![0, 31, 0, 0] S1x1x8x128.size inb_S1x32x8x128_S1x1x8x128_0_31_0_0, k0_pay4 (k0_pay41 a b c)⟩,
   ⟨Rect.unit (s := S1x32x8x128) ![0, 30, 0, 0] S1x1x8x128.size inb_S1x32x8x128_S1x1x8x128_0_30_0_0, k0_pay3 (k0_pay76 (k0_pay41 a b c))⟩,
   ⟨Rect.unit (s := S1x32x8x128) ![0, 29, 0, 0] S1x1x8x128.size inb_S1x32x8x128_S1x1x8x128_0_29_0_0, k0_pay75 (k0_pay41 a b c)⟩,
   ⟨Rect.unit (s := S1x32x8x128) ![0, 28, 0, 0] S1x1x8x128.size inb_S1x32x8x128_S1x1x8x128_0_28_0_0, k0_pay74 (k0_pay41 a b c)⟩,
   ⟨Rect.unit (s := S1x32x8x128) ![0, 27, 0, 0] S1x1x8x128.size inb_S1x32x8x128_S1x1x8x128_0_27_0_0, k0_pay73 (k0_pay41 a b c)⟩,
   ⟨Rect.unit (s := S1x32x8x128) ![0, 26, 0, 0] S1x1x8x128.size inb_S1x32x8x128_S1x1x8x128_0_26_0_0, k0_pay72 (k0_pay41 a b c)⟩,
   ⟨Rect.unit (s := S1x32x8x128) ![0, 25, 0, 0] S1x1x8x128.size inb_S1x32x8x128_S1x1x8x128_0_25_0_0, k0_pay71 (k0_pay41 a b c)⟩,
   ⟨Rect.unit (s := S1x32x8x128) ![0, 24, 0, 0] S1x1x8x128.size inb_S1x32x8x128_S1x1x8x128_0_24_0_0, k0_pay70 (k0_pay41 a b c)⟩,
   ⟨Rect.unit (s := S1x32x8x128) ![0, 23, 0, 0] S1x1x8x128.size inb_S1x32x8x128_S1x1x8x128_0_23_0_0, k0_pay69 (k0_pay68 (k0_pay41 a b c))⟩,
   ⟨Rect.unit (s := S1x32x8x128) ![0, 22, 0, 0] S1x1x8x128.size inb_S1x32x8x128_S1x1x8x128_0_22_0_0, k0_pay67 (k0_pay41 a b c)⟩,
   ⟨Rect.unit (s := S1x32x8x128) ![0, 21, 0, 0] S1x1x8x128.size inb_S1x32x8x128_S1x1x8x128_0_21_0_0, k0_pay66 (k0_pay41 a b c)⟩,
   ⟨Rect.unit (s := S1x32x8x128) ![0, 20, 0, 0] S1x1x8x128.size inb_S1x32x8x128_S1x1x8x128_0_20_0_0, k0_pay65 (k0_pay41 a b c)⟩,
   ⟨Rect.unit (s := S1x32x8x128) ![0, 19, 0, 0] S1x1x8x128.size inb_S1x32x8x128_S1x1x8x128_0_19_0_0, k0_pay64 (k0_pay41 a b c)⟩,
   ⟨Rect.unit (s := S1x32x8x128) ![0, 18, 0, 0] S1x1x8x128.size inb_S1x32x8x128_S1x1x8x128_0_18_0_0, k0_pay63 (k0_pay41 a b c)⟩,
   ⟨Rect.unit (s := S1x32x8x128) ![0, 17, 0, 0] S1x1x8x128.size inb_S1x32x8x128_S1x1x8x128_0_17_0_0, k0_pay62 (k0_pay61 (k0_pay41 a b c))⟩,
   ⟨Rect.unit (s := S1x32x8x128) ![0, 16, 0, 0] S1x1x8x128.size inb_S1x32x8x128_S1x1x8x128_0_16_0_0, k0_pay60 (k0_pay41 a b c)⟩,
   ⟨Rect.unit (s := S1x32x8x128) ![0, 15, 0, 0] S1x1x8x128.size inb_S1x32x8x128_S1x1x8x128_0_15_0_0, k0_pay59 (k0_pay41 a b c)⟩,
   ⟨Rect.unit (s := S1x32x8x128) ![0, 14, 0, 0] S1x1x8x128.size inb_S1x32x8x128_S1x1x8x128_0_14_0_0, k0_pay58 (k0_pay41 a b c)⟩,
   ⟨Rect.unit (s := S1x32x8x128) ![0, 13, 0, 0] S1x1x8x128.size inb_S1x32x8x128_S1x1x8x128_0_13_0_0, k0_pay57 (k0_pay41 a b c)⟩,
   ⟨Rect.unit (s := S1x32x8x128) ![0, 12, 0, 0] S1x1x8x128.size inb_S1x32x8x128_S1x1x8x128_0_12_0_0, k0_pay56 (k0_pay41 a b c)⟩,
   ⟨Rect.unit (s := S1x32x8x128) ![0, 11, 0, 0] S1x1x8x128.size inb_S1x32x8x128_S1x1x8x128_0_11_0_0, k0_pay55 (k0_pay41 a b c)⟩,
   ⟨Rect.unit (s := S1x32x8x128) ![0, 10, 0, 0] S1x1x8x128.size inb_S1x32x8x128_S1x1x8x128_0_10_0_0, k0_pay54 (k0_pay53 (k0_pay41 a b c))⟩,
   ⟨Rect.unit (s := S1x32x8x128) ![0, 9, 0, 0] S1x1x8x128.size inb_S1x32x8x128_S1x1x8x128_0_9_0_0, k0_pay52 (k0_pay41 a b c)⟩,
   ⟨Rect.unit (s := S1x32x8x128) ![0, 8, 0, 0] S1x1x8x128.size inb_S1x32x8x128_S1x1x8x128_0_8_0_0, k0_pay51 (k0_pay41 a b c)⟩,
   ⟨Rect.unit (s := S1x32x8x128) ![0, 7, 0, 0] S1x1x8x128.size inb_S1x32x8x128_S1x1x8x128_0_7_0_0, k0_pay50 (k0_pay41 a b c)⟩,
   ⟨Rect.unit (s := S1x32x8x128) ![0, 6, 0, 0] S1x1x8x128.size inb_S1x32x8x128_S1x1x8x128_0_6_0_0, k0_pay49 (k0_pay41 a b c)⟩,
   ⟨Rect.unit (s := S1x32x8x128) ![0, 5, 0, 0] S1x1x8x128.size inb_S1x32x8x128_S1x1x8x128_0_5_0_0, k0_pay48 (k0_pay41 a b c)⟩,
   ⟨Rect.unit (s := S1x32x8x128) ![0, 4, 0, 0] S1x1x8x128.size inb_S1x32x8x128_S1x1x8x128_0_4_0_0, k0_pay47 (k0_pay41 a b c)⟩,
   ⟨Rect.unit (s := S1x32x8x128) ![0, 3, 0, 0] S1x1x8x128.size inb_S1x32x8x128_S1x1x8x128_0_3_0_0, k0_pay46 (k0_pay45 a b c)⟩,
   ⟨Rect.unit (s := S1x32x8x128) ![0, 2, 0, 0] S1x1x8x128.size inb_S1x32x8x128_S1x1x8x128_0_2_0_0, k0_pay44 a b c⟩,
   ⟨Rect.unit (s := S1x32x8x128) ![0, 1, 0, 0] S1x1x8x128.size inb_S1x32x8x128_S1x1x8x128_0_1_0_0, k0_pay43 a b c⟩,
   ⟨Rect.unit (s := S1x32x8x128) ![0, 0, 0, 0] S1x1x8x128.size inb_S1x32x8x128_S1x1x8x128_0_0_0_0, k0_pay42 a b c⟩]

/-- A chunk agrees with the scores spread over the block. -/
theorem chunk (s : FVec F S8x4096 .f32) (j o : ℕ) (ho : o = j * 128) (sl : S8x4096.Slices ![0, o] S8x128)
    (inb : ∀ a, (![0, j, 0, 0] : Fin 4 → ℕ) a + S1x1x8x128.size a ≤ S1x32x8x128.size a)
    (x : (Rect.unit (s := S1x32x8x128) ![0, j, 0, 0] S1x1x8x128.size inb).shape.Idx) :
    shapeCast S1x1x8x128 (extractStridedSlice S8x128 ![0, o] s sl) shapeCasts_S8x128_S1x1x8x128 x
      = spread s ((Rect.unit (s := S1x32x8x128) ![0, j, 0, 0] S1x1x8x128.size inb).emb x) := by
  subst ho
  have h0 : (x 0).val = 0 := by have : (x 0).val < 1 := (x 0).isLt; omega
  have h1 : (x 1).val = 0 := by have : (x 1).val < 1 := (x 1).isLt; omega
  have k2 : (x 2).val < 8 := (x 2).isLt
  have k3 : (x 3).val < 128 := (x 3).isLt
  refine (shapeCast_apply (s := S8x128) (t := S1x1x8x128) _ _ x (ix2 ⟨(x 2).val, k2⟩ ⟨(x 3).val, k3⟩) ?_).trans ?_
  · rw [Shape.rowMajor_val_two, Shape.rowMajor_val_four]
    show (x 2).val * 128 + (x 3).val = (((x 0).val * 1 + (x 1).val) * 8 + (x 2).val) * 128 + (x 3).val
    rw [h0, h1]
    omega
  · refine (extractStridedSlice_apply _ _ _ _ _ ?_).trans rfl
    intro a
    match a with
    | 0 => show 0 + 1 * (x 2).val = 0 + (x 2).val
           omega
    | 1 => show (j + 1 * (x 1).val) * 128 + (0 + 1 * (x 3).val) = j * 128 + (x 3).val
           rw [h1]; omega

/-- What the stores of a page point leave in the output block. -/
theorem read_pagePieces (v : View sig .tc .vmem S1x32x8x128 .f32) (f : v.ty.Contents (Elt F)) (a : Vec F S64x1 .f32)
    (b : Vec F S1x64x128 .bf16) (c : Vec F S128x4096 .bf16)
    (x0 : Vec F S1x64x128 .bf16) (x1 : Vec F S1x64x128 .f32) (kb : Vec F S128x4096 .bf16)
    (ha : a = k0_pay2 (wcol x1)) (hb : b = x0) (hc : c = kb) :
    View.read (Elt F) v (v.writes (Elt F) f (pagePieces a b c)) = outPages x0 x1 kb := by
  subst ha hb hc
  funext y
  refine View.read_writes_apply_of_pieces _ _ (outPages b x1 c) _ ?_ y ?_
  · intro p hp
    unfold pagePieces at hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact chunk (k0_pay41 (k0_pay2 (wcol x1)) b c) 31 3968 rfl slices_S8x4096_o0_3968_S8x128 inb_S1x32x8x128_S1x1x8x128_0_31_0_0
    · exact chunk (k0_pay41 (k0_pay2 (wcol x1)) b c) 30 3840 rfl slices_S8x4096_o0_3840_S8x128 inb_S1x32x8x128_S1x1x8x128_0_30_0_0
    · exact chunk (k0_pay41 (k0_pay2 (wcol x1)) b c) 29 3712 rfl slices_S8x4096_o0_3712_S8x128 inb_S1x32x8x128_S1x1x8x128_0_29_0_0
    · exact chunk (k0_pay41 (k0_pay2 (wcol x1)) b c) 28 3584 rfl slices_S8x4096_o0_3584_S8x128 inb_S1x32x8x128_S1x1x8x128_0_28_0_0
    · exact chunk (k0_pay41 (k0_pay2 (wcol x1)) b c) 27 3456 rfl slices_S8x4096_o0_3456_S8x128 inb_S1x32x8x128_S1x1x8x128_0_27_0_0
    · exact chunk (k0_pay41 (k0_pay2 (wcol x1)) b c) 26 3328 rfl slices_S8x4096_o0_3328_S8x128 inb_S1x32x8x128_S1x1x8x128_0_26_0_0
    · exact chunk (k0_pay41 (k0_pay2 (wcol x1)) b c) 25 3200 rfl slices_S8x4096_o0_3200_S8x128 inb_S1x32x8x128_S1x1x8x128_0_25_0_0
    · exact chunk (k0_pay41 (k0_pay2 (wcol x1)) b c) 24 3072 rfl slices_S8x4096_o0_3072_S8x128 inb_S1x32x8x128_S1x1x8x128_0_24_0_0
    · exact chunk (k0_pay41 (k0_pay2 (wcol x1)) b c) 23 2944 rfl slices_S8x4096_o0_2944_S8x128 inb_S1x32x8x128_S1x1x8x128_0_23_0_0
    · exact chunk (k0_pay41 (k0_pay2 (wcol x1)) b c) 22 2816 rfl slices_S8x4096_o0_2816_S8x128 inb_S1x32x8x128_S1x1x8x128_0_22_0_0
    · exact chunk (k0_pay41 (k0_pay2 (wcol x1)) b c) 21 2688 rfl slices_S8x4096_o0_2688_S8x128 inb_S1x32x8x128_S1x1x8x128_0_21_0_0
    · exact chunk (k0_pay41 (k0_pay2 (wcol x1)) b c) 20 2560 rfl slices_S8x4096_o0_2560_S8x128 inb_S1x32x8x128_S1x1x8x128_0_20_0_0
    · exact chunk (k0_pay41 (k0_pay2 (wcol x1)) b c) 19 2432 rfl slices_S8x4096_o0_2432_S8x128 inb_S1x32x8x128_S1x1x8x128_0_19_0_0
    · exact chunk (k0_pay41 (k0_pay2 (wcol x1)) b c) 18 2304 rfl slices_S8x4096_o0_2304_S8x128 inb_S1x32x8x128_S1x1x8x128_0_18_0_0
    · exact chunk (k0_pay41 (k0_pay2 (wcol x1)) b c) 17 2176 rfl slices_S8x4096_o0_2176_S8x128 inb_S1x32x8x128_S1x1x8x128_0_17_0_0
    · exact chunk (k0_pay41 (k0_pay2 (wcol x1)) b c) 16 2048 rfl slices_S8x4096_o0_2048_S8x128 inb_S1x32x8x128_S1x1x8x128_0_16_0_0
    · exact chunk (k0_pay41 (k0_pay2 (wcol x1)) b c) 15 1920 rfl slices_S8x4096_o0_1920_S8x128 inb_S1x32x8x128_S1x1x8x128_0_15_0_0
    · exact chunk (k0_pay41 (k0_pay2 (wcol x1)) b c) 14 1792 rfl slices_S8x4096_o0_1792_S8x128 inb_S1x32x8x128_S1x1x8x128_0_14_0_0
    · exact chunk (k0_pay41 (k0_pay2 (wcol x1)) b c) 13 1664 rfl slices_S8x4096_o0_1664_S8x128 inb_S1x32x8x128_S1x1x8x128_0_13_0_0
    · exact chunk (k0_pay41 (k0_pay2 (wcol x1)) b c) 12 1536 rfl slices_S8x4096_o0_1536_S8x128 inb_S1x32x8x128_S1x1x8x128_0_12_0_0
    · exact chunk (k0_pay41 (k0_pay2 (wcol x1)) b c) 11 1408 rfl slices_S8x4096_o0_1408_S8x128 inb_S1x32x8x128_S1x1x8x128_0_11_0_0
    · exact chunk (k0_pay41 (k0_pay2 (wcol x1)) b c) 10 1280 rfl slices_S8x4096_o0_1280_S8x128 inb_S1x32x8x128_S1x1x8x128_0_10_0_0
    · exact chunk (k0_pay41 (k0_pay2 (wcol x1)) b c) 9 1152 rfl slices_S8x4096_o0_1152_S8x128 inb_S1x32x8x128_S1x1x8x128_0_9_0_0
    · exact chunk (k0_pay41 (k0_pay2 (wcol x1)) b c) 8 1024 rfl slices_S8x4096_o0_1024_S8x128 inb_S1x32x8x128_S1x1x8x128_0_8_0_0
    · exact chunk (k0_pay41 (k0_pay2 (wcol x1)) b c) 7 896 rfl slices_S8x4096_o0_896_S8x128 inb_S1x32x8x128_S1x1x8x128_0_7_0_0
    · exact chunk (k0_pay41 (k0_pay2 (wcol x1)) b c) 6 768 rfl slices_S8x4096_o0_768_S8x128 inb_S1x32x8x128_S1x1x8x128_0_6_0_0
    · exact chunk (k0_pay41 (k0_pay2 (wcol x1)) b c) 5 640 rfl slices_S8x4096_o0_640_S8x128 inb_S1x32x8x128_S1x1x8x128_0_5_0_0
    · exact chunk (k0_pay41 (k0_pay2 (wcol x1)) b c) 4 512 rfl slices_S8x4096_o0_512_S8x128 inb_S1x32x8x128_S1x1x8x128_0_4_0_0
    · exact chunk (k0_pay41 (k0_pay2 (wcol x1)) b c) 3 384 rfl slices_S8x4096_o0_384_S8x128 inb_S1x32x8x128_S1x1x8x128_0_3_0_0
    · exact chunk (k0_pay41 (k0_pay2 (wcol x1)) b c) 2 256 rfl slices_S8x4096_o0_256_S8x128 inb_S1x32x8x128_S1x1x8x128_0_2_0_0
    · exact chunk (k0_pay41 (k0_pay2 (wcol x1)) b c) 1 128 rfl slices_S8x4096_o0_128_S8x128 inb_S1x32x8x128_S1x1x8x128_0_1_0_0
    · exact chunk (k0_pay41 (k0_pay2 (wcol x1)) b c) 0 0 rfl slices_S8x4096_o0_0_S8x128 inb_S1x32x8x128_S1x1x8x128_0_0_0_0
  · exact View.cover_of_tiledL _ ![1, 1, 8, 128] (by rfl) y

/-- A whole page read back from its buffer. -/
theorem page_load (a : Memref sig .tc .vmem S1x1x64x128 .f32) (ha : a.IsWhole) (x : Vec F S1x1x64x128 .f32) :
    View.readAt (Elt F) a.view (Rect.unit (s := S1x1x64x128) ![0, 0, 0, 0] S1x1x64x128.size inb_S1x1x64x128_S1x1x64x128_0_0_0_0).toLoadRect
      (ha.unread x) = x := by
  rw [View.readAt_eq_ld, ha.read_unread, View.ld_unit_zero hz4]

/-- The queries read back from their buffer. -/
theorem q_load (a : Memref sig .tc .vmem S1x64x128 .bf16) (ha : a.IsWhole) (x : Vec F S1x64x128 .bf16) :
    View.readAt (Elt F) a.view (Rect.unit (s := S1x64x128) ![0, 0, 0] S1x64x128.size inb_S1x64x128_S1x64x128_0_0_0).toLoadRect
      (ha.unread x) = x := by
  rw [View.readAt_eq_ld, ha.read_unread, View.ld_unit_zero hz3]

/-- The weight column read back from its buffer. -/
theorem w_load (a : Memref sig .tc .vmem S1x64x128 .f32) (ha : a.IsWhole) (x : Vec F S1x64x128 .f32) :
    k0_pay2 (View.readAt (Elt F) a.view (Rect.unit (s := S1x64x128) ![0, 0, 0] ![1, 64, 1] inb_S1x64x128_S1x64x1_0_0_0).toLoadRect
      (ha.unread x)) = k0_pay2 (wcol x) := by
  rw [View.readAt_eq_ld, ha.read_unread, wcol_eq]

/-- The key buffer read whole. -/
theorem keys_load (v : View sig .tc .vmem S128x4096 .bf16) (f : v.ty.Contents (Elt F)) (kb : Vec F S128x4096 .bf16)
    (h : v.read (Elt F) f = kb) :
    View.readAt (Elt F) v (Rect.unit (s := S128x4096) ![0, 0] S128x4096.size inb_S128x4096_S128x4096_0_0).toLoadRect f = kb := by
  rw [View.readAt_eq_ld, h, View.ld_unit_zero hz2]

/-- The key buffer zeroed. -/
theorem read_zero (v : View sig .tc .vmem S128x4096 .bf16) (f : v.ty.Contents (Elt F)) :
    v.read (Elt F) (v.writes (Elt F) f
      [⟨Rect.unit (s := S128x4096) ![0, 0] S128x4096.size inb_S128x4096_S128x4096_0_0, k0_pay1 (F := F)⟩]) = zeroKeys := by
  funext y
  refine (View.read_writes_cons_hit_of_coords v f (Rect.unit (s := S128x4096) ![0, 0] S128x4096.size inb_S128x4096_S128x4096_0_0) _ []
    y y ?_).trans rfl
  intro a
  match a with
  | ⟨0, _⟩ => show (y 0).val = 0 + 1 * (y 0).val; omega
  | ⟨1, _⟩ => show (y 1).val = 0 + 1 * (y 1).val; omega

/-- The key buffer zeroed and then filled with the 32 pages. -/
theorem read_zero_keyPieces (v : View sig .tc .vmem S128x4096 .bf16) (f : v.ty.Contents (Elt F))
    (p0 p1 p2 p3 p4 p5 p6 p7 p8 p9 p10 p11 p12 p13 p14 p15 p16 p17 p18 p19 p20 p21 p22 p23 p24 p25 p26 p27 p28 p29 p30 p31 : Vec F S1x1x64x128 .f32) (pg : Fin 32 → Vec F S1x1x64x128 .f32)
    (h0 : p0 = pg 0) (h1 : p1 = pg 1) (h2 : p2 = pg 2) (h3 : p3 = pg 3) (h4 : p4 = pg 4) (h5 : p5 = pg 5) (h6 : p6 = pg 6) (h7 : p7 = pg 7) (h8 : p8 = pg 8) (h9 : p9 = pg 9) (h10 : p10 = pg 10) (h11 : p11 = pg 11) (h12 : p12 = pg 12) (h13 : p13 = pg 13) (h14 : p14 = pg 14) (h15 : p15 = pg 15) (h16 : p16 = pg 16) (h17 : p17 = pg 17) (h18 : p18 = pg 18) (h19 : p19 = pg 19) (h20 : p20 = pg 20) (h21 : p21 = pg 21) (h22 : p22 = pg 22) (h23 : p23 = pg 23) (h24 : p24 = pg 24) (h25 : p25 = pg 25) (h26 : p26 = pg 26) (h27 : p27 = pg 27) (h28 : p28 = pg 28) (h29 : p29 = pg 29) (h30 : p30 = pg 30) (h31 : p31 = pg 31) :
    v.read (Elt F) (v.writes (Elt F) f (keyPieces p0 p1 p2 p3 p4 p5 p6 p7 p8 p9 p10 p11 p12 p13 p14 p15 p16 p17 p18 p19 p20 p21 p22 p23 p24 p25 p26 p27 p28 p29 p30 p31
      ++ [⟨Rect.unit (s := S128x4096) ![0, 0] S128x4096.size inb_S128x4096_S128x4096_0_0, k0_pay1 (F := F)⟩])) = keysIn zeroKeys pg := by
  rw [View.writes_append]
  exact read_keyPieces v _ zeroKeys (read_zero v f) p0 p1 p2 p3 p4 p5 p6 p7 p8 p9 p10 p11 p12 p13 p14 p15 p16 p17 p18 p19 p20 p21 p22 p23 p24 p25 p26 p27 p28 p29 p30 p31 pg h0 h1 h2 h3 h4 h5 h6 h7 h8 h9 h10 h11 h12 h13 h14 h15 h16 h17 h18 h19 h20 h21 h22 h23 h24 h25 h26 h27 h28 h29 h30 h31

end Cert.KernelIdeal.Scores

end
-- ==== Proof.ScoresRunA.lean ====
module

public import proofs.«01_k».proof.Proof.ScoresPages

@[expose] public section

set_option maxRecDepth 16384

noncomputable section

namespace Cert.KernelIdeal.Scores
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at the first point: it zeroes the key buffer, gathers the 32 pages and stores their scores. -/
theorem runA (c : Dev nD) (i : grid0.Coords) (arg3 : Memref sig .tc .vmem S1x64x128 .bf16) (harg3 : arg3.IsWhole) (arg4 : Memref sig .tc .vmem S1x64x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x128 .f32) (harg10 : arg10.IsWhole) (arg11 : Memref sig .tc .vmem S1x1x64x128 .f32) (harg11 : arg11.IsWhole) (arg12 : Memref sig .tc .vmem S1x1x64x128 .f32) (harg12 : arg12.IsWhole) (arg13 : Memref sig .tc .vmem S1x1x64x128 .f32) (harg13 : arg13.IsWhole) (arg14 : Memref sig .tc .vmem S1x1x64x128 .f32) (harg14 : arg14.IsWhole) (arg15 : Memref sig .tc .vmem S1x1x64x128 .f32) (harg15 : arg15.IsWhole) (arg16 : Memref sig .tc .vmem S1x1x64x128 .f32) (harg16 : arg16.IsWhole) (arg17 : Memref sig .tc .vmem S1x1x64x128 .f32) (harg17 : arg17.IsWhole) (arg18 : Memref sig .tc .vmem S1x1x64x128 .f32) (harg18 : arg18.IsWhole) (arg19 : Memref sig .tc .vmem S1x1x64x128 .f32) (harg19 : arg19.IsWhole) (arg20 : Memref sig .tc .vmem S1x1x64x128 .f32) (harg20 : arg20.IsWhole) (arg21 : Memref sig .tc .vmem S1x1x64x128 .f32) (harg21 : arg21.IsWhole) (arg22 : Memref sig .tc .vmem S1x1x64x128 .f32) (harg22 : arg22.IsWhole) (arg23 : Memref sig .tc .vmem S1x1x64x128 .f32) (harg23 : arg23.IsWhole) (arg24 : Memref sig .tc .vmem S1x1x64x128 .f32) (harg24 : arg24.IsWhole) (arg25 : Memref sig .tc .vmem S1x1x64x128 .f32) (harg25 : arg25.IsWhole) (arg26 : Memref sig .tc .vmem S1x1x64x128 .f32) (harg26 : arg26.IsWhole) (arg27 : Memref sig .tc .vmem S1x1x64x128 .f32) (harg27 : arg27.IsWhole) (arg28 : Memref sig .tc .vmem S1x1x64x128 .f32) (harg28 : arg28.IsWhole) (arg29 : Memref sig .tc .vmem S1x1x64x128 .f32) (harg29 : arg29.IsWhole) (arg30 : Memref sig .tc .vmem S1x1x64x128 .f32) (harg30 : arg30.IsWhole) (arg31 : Memref sig .tc .vmem S1x1x64x128 .f32) (harg31 : arg31.IsWhole) (arg32 : Memref sig .tc .vmem S1x1x64x128 .f32) (harg32 : arg32.IsWhole) (arg33 : Memref sig .tc .vmem S1x1x64x128 .f32) (harg33 : arg33.IsWhole) (arg34 : Memref sig .tc .vmem S1x1x64x128 .f32) (harg34 : arg34.IsWhole) (arg35 : Memref sig .tc .vmem S1x1x64x128 .f32) (harg35 : arg35.IsWhole) (arg36 : Memref sig .tc .vmem S1x1x64x128 .f32) (harg36 : arg36.IsWhole) (arg37 : Memref sig .tc .vmem S1x128x128 .bf16) (harg37 : arg37.IsWhole) (arg38 : Memref sig .tc .vmem S1x32x8x128 .f32) (harg38 : arg38.IsWhole) (arg39 : Memref sig .tc .vmem S128x4096 .bf16) (harg39 : arg39.IsWhole) (hc0 : cond0_0 i) (hc1 : cond0_1 i) (hc2 : ¬cond0_2 i)
    (x0 : Vec F S1x64x128 .bf16) (x1 : Vec F S1x64x128 .f32) (pg : Fin 32 → Vec F S1x1x64x128 .f32) (x34 : Vec F S1x128x128 .bf16) (xt0 : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare (pg 0) ∗ owns (c : Thread nD τ) arg6 fullShare (pg 1) ∗ owns (c : Thread nD τ) arg7 fullShare (pg 2) ∗ owns (c : Thread nD τ) arg8 fullShare (pg 3) ∗ owns (c : Thread nD τ) arg9 fullShare (pg 4) ∗ owns (c : Thread nD τ) arg10 fullShare (pg 5) ∗ owns (c : Thread nD τ) arg11 fullShare (pg 6) ∗ owns (c : Thread nD τ) arg12 fullShare (pg 7) ∗ owns (c : Thread nD τ) arg13 fullShare (pg 8) ∗ owns (c : Thread nD τ) arg14 fullShare (pg 9) ∗ owns (c : Thread nD τ) arg15 fullShare (pg 10) ∗ owns (c : Thread nD τ) arg16 fullShare (pg 11) ∗ owns (c : Thread nD τ) arg17 fullShare (pg 12) ∗ owns (c : Thread nD τ) arg18 fullShare (pg 13) ∗ owns (c : Thread nD τ) arg19 fullShare (pg 14) ∗ owns (c : Thread nD τ) arg20 fullShare (pg 15) ∗ owns (c : Thread nD τ) arg21 fullShare (pg 16) ∗ owns (c : Thread nD τ) arg22 fullShare (pg 17) ∗ owns (c : Thread nD τ) arg23 fullShare (pg 18) ∗ owns (c : Thread nD τ) arg24 fullShare (pg 19) ∗ owns (c : Thread nD τ) arg25 fullShare (pg 20) ∗ owns (c : Thread nD τ) arg26 fullShare (pg 21) ∗ owns (c : Thread nD τ) arg27 fullShare (pg 22) ∗ owns (c : Thread nD τ) arg28 fullShare (pg 23) ∗ owns (c : Thread nD τ) arg29 fullShare (pg 24) ∗ owns (c : Thread nD τ) arg30 fullShare (pg 25) ∗ owns (c : Thread nD τ) arg31 fullShare (pg 26) ∗ owns (c : Thread nD τ) arg32 fullShare (pg 27) ∗ owns (c : Thread nD τ) arg33 fullShare (pg 28) ∗ owns (c : Thread nD τ) arg34 fullShare (pg 29) ∗ owns (c : Thread nD τ) arg35 fullShare (pg 30) ∗ owns (c : Thread nD τ) arg36 fullShare (pg 31) ∗ owns (c : Thread nD τ) arg37 fullShare x34 ∗ (∃ d, owns (c : Thread nD τ) arg38 fullShare d) ∗ (∃ d, owns (c : Thread nD τ) arg39 fullShare d) ∗ tbPt0 c tbM0_0 xt0
      ∗ (iprop(owns (c : Thread nD τ) arg3 fullShare x0 ∗ owns (c : Thread nD τ) arg4 fullShare x1 ∗ owns (c : Thread nD τ) arg5 fullShare (pg 0) ∗ owns (c : Thread nD τ) arg6 fullShare (pg 1) ∗ owns (c : Thread nD τ) arg7 fullShare (pg 2) ∗ owns (c : Thread nD τ) arg8 fullShare (pg 3) ∗ owns (c : Thread nD τ) arg9 fullShare (pg 4) ∗ owns (c : Thread nD τ) arg10 fullShare (pg 5) ∗ owns (c : Thread nD τ) arg11 fullShare (pg 6) ∗ owns (c : Thread nD τ) arg12 fullShare (pg 7) ∗ owns (c : Thread nD τ) arg13 fullShare (pg 8) ∗ owns (c : Thread nD τ) arg14 fullShare (pg 9) ∗ owns (c : Thread nD τ) arg15 fullShare (pg 10) ∗ owns (c : Thread nD τ) arg16 fullShare (pg 11) ∗ owns (c : Thread nD τ) arg17 fullShare (pg 12) ∗ owns (c : Thread nD τ) arg18 fullShare (pg 13) ∗ owns (c : Thread nD τ) arg19 fullShare (pg 14) ∗ owns (c : Thread nD τ) arg20 fullShare (pg 15) ∗ owns (c : Thread nD τ) arg21 fullShare (pg 16) ∗ owns (c : Thread nD τ) arg22 fullShare (pg 17) ∗ owns (c : Thread nD τ) arg23 fullShare (pg 18) ∗ owns (c : Thread nD τ) arg24 fullShare (pg 19) ∗ owns (c : Thread nD τ) arg25 fullShare (pg 20) ∗ owns (c : Thread nD τ) arg26 fullShare (pg 21) ∗ owns (c : Thread nD τ) arg27 fullShare (pg 22) ∗ owns (c : Thread nD τ) arg28 fullShare (pg 23) ∗ owns (c : Thread nD τ) arg29 fullShare (pg 24) ∗ owns (c : Thread nD τ) arg30 fullShare (pg 25) ∗ owns (c : Thread nD τ) arg31 fullShare (pg 26) ∗ owns (c : Thread nD τ) arg32 fullShare (pg 27) ∗ owns (c : Thread nD τ) arg33 fullShare (pg 28) ∗ owns (c : Thread nD τ) arg34 fullShare (pg 29) ∗ owns (c : Thread nD τ) arg35 fullShare (pg 30) ∗ owns (c : Thread nD τ) arg36 fullShare (pg 31) ∗ owns (c : Thread nD τ) arg37 fullShare x34 ∗ owns (c : Thread nD τ) arg38 fullShare (outPages x0 x1 (keysIn zeroKeys pg)) ∗ owns (c : Thread nD τ) arg39 fullShare (keysIn zeroKeys pg) ∗ tbPt0 c tbM0_0 xt0) -∗ K ⟨⟩))
    ⊢ wp frame (wpE (defs₀ (F := F)) Variants.none c none) E (cc0_sample_scores i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0_sample_scores_eq_skeleton]; unfold cc0_sample_scores_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, ⟨%ds0, %fs0, -, HS0⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33; obtain rfl := harg37.eq_unread hf34
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]
  · iexists _; isplitr; · ipureintro; exact harg28.read_unread _
    iexact H25
  isplitl [H26]
  · iexists _; isplitr; · ipureintro; exact harg29.read_unread _
    iexact H26
  isplitl [H27]
  · iexists _; isplitr; · ipureintro; exact harg30.read_unread _
    iexact H27
  isplitl [H28]
  · iexists _; isplitr; · ipureintro; exact harg31.read_unread _
    iexact H28
  isplitl [H29]
  · iexists _; isplitr; · ipureintro; exact harg32.read_unread _
    iexact H29
  isplitl [H30]
  · iexists _; isplitr; · ipureintro; exact harg33.read_unread _
    iexact H30
  isplitl [H31]
  · iexists _; isplitr; · ipureintro; exact harg34.read_unread _
    iexact H31
  isplitl [H32]
  · iexists _; isplitr; · ipureintro; exact harg35.read_unread _
    iexact H32
  isplitl [H33]
  · iexists _; isplitr; · ipureintro; exact harg36.read_unread _
    iexact H33
  isplitl [H34]
  · iexists _; isplitr; · ipureintro; exact harg37.read_unread _
    iexact H34
  isplitl [H35]
  · iexists _; isplitr
    swap; · iexact H35
    ipureintro
    exact read_pagePieces _ _ _ _ _ x0 x1 _ (w_load arg4 harg4 x1) (q_load arg3 harg3 x0)
      (keys_load arg39.view _ _ (read_zero_keyPieces arg39.view _ _ _ _ _ _ _ _ _ _ _ _ _ _ _ _ _ _ _ _ _ _ _ _ _ _ _ _ _ _ _ _ _ pg (page_load arg5 harg5 _) (page_load arg6 harg6 _) (page_load arg7 harg7 _) (page_load arg8 harg8 _) (page_load arg9 harg9 _) (page_load arg10 harg10 _) (page_load arg11 harg11 _) (page_load arg12 harg12 _) (page_load arg13 harg13 _) (page_load arg14 harg14 _) (page_load arg15 harg15 _) (page_load arg16 harg16 _) (page_load arg17 harg17 _) (page_load arg18 harg18 _) (page_load arg19 harg19 _) (page_load arg20 harg20 _) (page_load arg21 harg21 _) (page_load arg22 harg22 _) (page_load arg23 harg23 _) (page_load arg24 harg24 _) (page_load arg25 harg25 _) (page_load arg26 harg26 _) (page_load arg27 harg27 _) (page_load arg28 harg28 _) (page_load arg29 harg29 _) (page_load arg30 harg30 _) (page_load arg31 harg31 _) (page_load arg32 harg32 _) (page_load arg33 harg33 _) (page_load arg34 harg34 _) (page_load arg35 harg35 _) (page_load arg36 harg36 _)))
  isplitl [HS0]
  · iexists _; isplitr
    swap; · iexact HS0
    ipureintro
    exact read_zero_keyPieces arg39.view _ _ _ _ _ _ _ _ _ _ _ _ _ _ _ _ _ _ _ _ _ _ _ _ _ _ _ _ _ _ _ _ _ pg (page_load arg5 harg5 _) (page_load arg6 harg6 _) (page_load arg7 harg7 _) (page_load arg8 harg8 _) (page_load arg9 harg9 _) (page_load arg10 harg10 _) (page_load arg11 harg11 _) (page_load arg12 harg12 _) (page_load arg13 harg13 _) (page_load arg14 harg14 _) (page_load arg15 harg15 _) (page_load arg16 harg16 _) (page_load arg17 harg17 _) (page_load arg18 harg18 _) (page_load arg19 harg19 _) (page_load arg20 harg20 _) (page_load arg21 harg21 _) (page_load arg22 harg22 _) (page_load arg23 harg23 _) (page_load arg24 harg24 _) (page_load arg25 harg25 _) (page_load arg26 harg26 _) (page_load arg27 harg27 _) (page_load arg28 harg28 _) (page_load arg29 harg29 _) (page_load arg30 harg30 _) (page_load arg31 harg31 _) (page_load arg32 harg32 _) (page_load arg33 harg33 _) (page_load arg34 harg34 _) (page_load arg35 harg35 _) (page_load arg36 harg36 _)
  iexact HT0

end Cert.KernelIdeal.Scores

end
-- ==== Proof.ScoresRunB.lean ====
module

public import proofs.«01_k».proof.Proof.ScoresPages

@[expose] public section

set_option maxRecDepth 16384

noncomputable section

namespace Cert.KernelIdeal.Scores
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at a later page point: the key buffer keeps its lower rows, the pages replace its upper ones. -/
theorem runB (c : Dev nD) (i : grid0.Coords) (arg3 : Memref sig .tc .vmem S1x64x128 .bf16) (harg3 : arg3.IsWhole) (arg4 : Memref sig .tc .vmem S1x64x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x128 .f32) (harg10 : arg10.IsWhole) (arg11 : Memref sig .tc .vmem S1x1x64x128 .f32) (harg11 : arg11.IsWhole) (arg12 : Memref sig .tc .vmem S1x1x64x128 .f32) (harg12 : arg12.IsWhole) (arg13 : Memref sig .tc .vmem S1x1x64x128 .f32) (harg13 : arg13.IsWhole) (arg14 : Memref sig .tc .vmem S1x1x64x128 .f32) (harg14 : arg14.IsWhole) (arg15 : Memref sig .tc .vmem S1x1x64x128 .f32) (harg15 : arg15.IsWhole) (arg16 : Memref sig .tc .vmem S1x1x64x128 .f32) (harg16 : arg16.IsWhole) (arg17 : Memref sig .tc .vmem S1x1x64x128 .f32) (harg17 : arg17.IsWhole) (arg18 : Memref sig .tc .vmem S1x1x64x128 .f32) (harg18 : arg18.IsWhole) (arg19 : Memref sig .tc .vmem S1x1x64x128 .f32) (harg19 : arg19.IsWhole) (arg20 : Memref sig .tc .vmem S1x1x64x128 .f32) (harg20 : arg20.IsWhole) (arg21 : Memref sig .tc .vmem S1x1x64x128 .f32) (harg21 : arg21.IsWhole) (arg22 : Memref sig .tc .vmem S1x1x64x128 .f32) (harg22 : arg22.IsWhole) (arg23 : Memref sig .tc .vmem S1x1x64x128 .f32) (harg23 : arg23.IsWhole) (arg24 : Memref sig .tc .vmem S1x1x64x128 .f32) (harg24 : arg24.IsWhole) (arg25 : Memref sig .tc .vmem S1x1x64x128 .f32) (harg25 : arg25.IsWhole) (arg26 : Memref sig .tc .vmem S1x1x64x128 .f32) (harg26 : arg26.IsWhole) (arg27 : Memref sig .tc .vmem S1x1x64x128 .f32) (harg27 : arg27.IsWhole) (arg28 : Memref sig .tc .vmem S1x1x64x128 .f32) (harg28 : arg28.IsWhole) (arg29 : Memref sig .tc .vmem S1x1x64x128 .f32) (harg29 : arg29.IsWhole) (arg30 : Memref sig .tc .vmem S1x1x64x128 .f32) (harg30 : arg30.IsWhole) (arg31 : Memref sig .tc .vmem S1x1x64x128 .f32) (harg31 : arg31.IsWhole) (arg32 : Memref sig .tc .vmem S1x1x64x128 .f32) (harg32 : arg32.IsWhole) (arg33 : Memref sig .tc .vmem S1x1x64x128 .f32) (harg33 : arg33.IsWhole) (arg34 : Memref sig .tc .vmem S1x1x64x128 .f32) (harg34 : arg34.IsWhole) (arg35 : Memref sig .tc .vmem S1x1x64x128 .f32) (harg35 : arg35.IsWhole) (arg36 : Memref sig .tc .vmem S1x1x64x128 .f32) (harg36 : arg36.IsWhole) (arg37 : Memref sig .tc .vmem S1x128x128 .bf16) (harg37 : arg37.IsWhole) (arg38 : Memref sig .tc .vmem S1x32x8x128 .f32) (harg38 : arg38.IsWhole) (arg39 : Memref sig .tc .vmem S128x4096 .bf16) (harg39 : arg39.IsWhole) (hc0 : ¬cond0_0 i) (hc1 : cond0_1 i) (hc2 : ¬cond0_2 i)
    (x0 : Vec F S1x64x128 .bf16) (x1 : Vec F S1x64x128 .f32) (pg : Fin 32 → Vec F S1x1x64x128 .f32) (x34 : Vec F S1x128x128 .bf16) (xt0 : TbBuf0 (F := F) c tbM0_0) (xs0 : Vec F S128x4096 .bf16) (E : Set ℕ) (K : PUnit → sProp 𝕄) :
    iprop(owns (c : Thread nD τ) arg3 fullShare x0 ∗ owns (c : Thread nD τ) arg4 fullShare x1 ∗ owns (c : Thread nD τ) arg5 fullShare (pg 0) ∗ owns (c : Thread nD τ) arg6 fullShare (pg 1) ∗ owns (c : Thread nD τ) arg7 fullShare (pg 2) ∗ owns (c : Thread nD τ) arg8 fullShare (pg 3) ∗ owns (c : Thread nD τ) arg9 fullShare (pg 4) ∗ owns (c : Thread nD τ) arg10 fullShare (pg 5) ∗ owns (c : Thread nD τ) arg11 fullShare (pg 6) ∗ owns (c : Thread nD τ) arg12 fullShare (pg 7) ∗ owns (c : Thread nD τ) arg13 fullShare (pg 8) ∗ owns (c : Thread nD τ) arg14 fullShare (pg 9) ∗ owns (c : Thread nD τ) arg15 fullShare (pg 10) ∗ owns (c : Thread nD τ) arg16 fullShare (pg 11) ∗ owns (c : Thread nD τ) arg17 fullShare (pg 12) ∗ owns (c : Thread nD τ) arg18 fullShare (pg 13) ∗ owns (c : Thread nD τ) arg19 fullShare (pg 14) ∗ owns (c : Thread nD τ) arg20 fullShare (pg 15) ∗ owns (c : Thread nD τ) arg21 fullShare (pg 16) ∗ owns (c : Thread nD τ) arg22 fullShare (pg 17) ∗ owns (c : Thread nD τ) arg23 fullShare (pg 18) ∗ owns (c : Thread nD τ) arg24 fullShare (pg 19) ∗ owns (c : Thread nD τ) arg25 fullShare (pg 20) ∗ owns (c : Thread nD τ) arg26 fullShare (pg 21) ∗ owns (c : Thread nD τ) arg27 fullShare (pg 22) ∗ owns (c : Thread nD τ) arg28 fullShare (pg 23) ∗ owns (c : Thread nD τ) arg29 fullShare (pg 24) ∗ owns (c : Thread nD τ) arg30 fullShare (pg 25) ∗ owns (c : Thread nD τ) arg31 fullShare (pg 26) ∗ owns (c : Thread nD τ) arg32 fullShare (pg 27) ∗ owns (c : Thread nD τ) arg33 fullShare (pg 28) ∗ owns (c : Thread nD τ) arg34 fullShare (pg 29) ∗ owns (c : Thread nD τ) arg35 fullShare (pg 30) ∗ owns (c : Thread nD τ) arg36 fullShare (pg 31) ∗ owns (c : Thread nD τ) arg37 fullShare x34 ∗ (∃ d, owns (c : Thread nD τ) arg38 fullShare d) ∗ owns (c : Thread nD τ) arg39 fullShare xs0 ∗ tbPt0 c tbM0_0 xt0
      ∗ (iprop(owns (c : Thread nD τ) arg3 fullShare x0 ∗ owns (c : Thread nD τ) arg4 fullShare x1 ∗ owns (c : Thread nD τ) arg5 fullShare (pg 0) ∗ owns (c : Thread nD τ) arg6 fullShare (pg 1) ∗ owns (c : Thread nD τ) arg7 fullShare (pg 2) ∗ owns (c : Thread nD τ) arg8 fullShare (pg 3) ∗ owns (c : Thread nD τ) arg9 fullShare (pg 4) ∗ owns (c : Thread nD τ) arg10 fullShare (pg 5) ∗ owns (c : Thread nD τ) arg11 fullShare (pg 6) ∗ owns (c : Thread nD τ) arg12 fullShare (pg 7) ∗ owns (c : Thread nD τ) arg13 fullShare (pg 8) ∗ owns (c : Thread nD τ) arg14 fullShare (pg 9) ∗ owns (c : Thread nD τ) arg15 fullShare (pg 10) ∗ owns (c : Thread nD τ) arg16 fullShare (pg 11) ∗ owns (c : Thread nD τ) arg17 fullShare (pg 12) ∗ owns (c : Thread nD τ) arg18 fullShare (pg 13) ∗ owns (c : Thread nD τ) arg19 fullShare (pg 14) ∗ owns (c : Thread nD τ) arg20 fullShare (pg 15) ∗ owns (c : Thread nD τ) arg21 fullShare (pg 16) ∗ owns (c : Thread nD τ) arg22 fullShare (pg 17) ∗ owns (c : Thread nD τ) arg23 fullShare (pg 18) ∗ owns (c : Thread nD τ) arg24 fullShare (pg 19) ∗ owns (c : Thread nD τ) arg25 fullShare (pg 20) ∗ owns (c : Thread nD τ) arg26 fullShare (pg 21) ∗ owns (c : Thread nD τ) arg27 fullShare (pg 22) ∗ owns (c : Thread nD τ) arg28 fullShare (pg 23) ∗ owns (c : Thread nD τ) arg29 fullShare (pg 24) ∗ owns (c : Thread nD τ) arg30 fullShare (pg 25) ∗ owns (c : Thread nD τ) arg31 fullShare (pg 26) ∗ owns (c : Thread nD τ) arg32 fullShare (pg 27) ∗ owns (c : Thread nD τ) arg33 fullShare (pg 28) ∗ owns (c : Thread nD τ) arg34 fullShare (pg 29) ∗ owns (c : Thread nD τ) arg35 fullShare (pg 30) ∗ owns (c : Thread nD τ) arg36 fullShare (pg 31) ∗ owns (c : Thread nD τ) arg37 fullShare x34 ∗ owns (c : Thread nD τ) arg38 fullShare (outPages x0 x1 (keysIn xs0 pg)) ∗ owns (c : Thread nD τ) arg39 fullShare (keysIn xs0 pg) ∗ tbPt0 c tbM0_0 xt0) -∗ K ⟨⟩))
    ⊢ wp frame (wpE (defs₀ (F := F)) Variants.none c none) E (cc0_sample_scores i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0_sample_scores_eq_skeleton]; unfold cc0_sample_scores_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, ⟨%fs0, %hfs0, HS0⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33; obtain rfl := harg37.eq_unread hf34; obtain rfl := harg39.eq_unread hfs0
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]
  · iexists _; isplitr; · ipureintro; exact harg28.read_unread _
    iexact H25
  isplitl [H26]
  · iexists _; isplitr; · ipureintro; exact harg29.read_unread _
    iexact H26
  isplitl [H27]
  · iexists _; isplitr; · ipureintro; exact harg30.read_unread _
    iexact H27
  isplitl [H28]
  · iexists _; isplitr; · ipureintro; exact harg31.read_unread _
    iexact H28
  isplitl [H29]
  · iexists _; isplitr; · ipureintro; exact harg32.read_unread _
    iexact H29
  isplitl [H30]
  · iexists _; isplitr; · ipureintro; exact harg33.read_unread _
    iexact H30
  isplitl [H31]
  · iexists _; isplitr; · ipureintro; exact harg34.read_unread _
    iexact H31
  isplitl [H32]
  · iexists _; isplitr; · ipureintro; exact harg35.read_unread _
    iexact H32
  isplitl [H33]
  · iexists _; isplitr; · ipureintro; exact harg36.read_unread _
    iexact H33
  isplitl [H34]
  · iexists _; isplitr; · ipureintro; exact harg37.read_unread _
    iexact H34
  isplitl [H35]
  · iexists _; isplitr
    swap; · iexact H35
    ipureintro
    exact read_pagePieces _ _ _ _ _ x0 x1 _ (w_load arg4 harg4 x1) (q_load arg3 harg3 x0)
      (keys_load arg39.view _ _ (read_keyPieces arg39.view _ xs0 (harg39.read_unread _) _ _ _ _ _ _ _ _ _ _ _ _ _ _ _ _ _ _ _ _ _ _ _ _ _ _ _ _ _ _ _ _ pg (page_load arg5 harg5 _) (page_load arg6 harg6 _) (page_load arg7 harg7 _) (page_load arg8 harg8 _) (page_load arg9 harg9 _) (page_load arg10 harg10 _) (page_load arg11 harg11 _) (page_load arg12 harg12 _) (page_load arg13 harg13 _) (page_load arg14 harg14 _) (page_load arg15 harg15 _) (page_load arg16 harg16 _) (page_load arg17 harg17 _) (page_load arg18 harg18 _) (page_load arg19 harg19 _) (page_load arg20 harg20 _) (page_load arg21 harg21 _) (page_load arg22 harg22 _) (page_load arg23 harg23 _) (page_load arg24 harg24 _) (page_load arg25 harg25 _) (page_load arg26 harg26 _) (page_load arg27 harg27 _) (page_load arg28 harg28 _) (page_load arg29 harg29 _) (page_load arg30 harg30 _) (page_load arg31 harg31 _) (page_load arg32 harg32 _) (page_load arg33 harg33 _) (page_load arg34 harg34 _) (page_load arg35 harg35 _) (page_load arg36 harg36 _)))
  isplitl [HS0]
  · iexists _; isplitr
    swap; · iexact HS0
    ipureintro
    exact read_keyPieces arg39.view _ xs0 (harg39.read_unread _) _ _ _ _ _ _ _ _ _ _ _ _ _ _ _ _ _ _ _ _ _ _ _ _ _ _ _ _ _ _ _ _ pg (page_load arg5 harg5 _) (page_load arg6 harg6 _) (page_load arg7 harg7 _) (page_load arg8 harg8 _) (page_load arg9 harg9 _) (page_load arg10 harg10 _) (page_load arg11 harg11 _) (page_load arg12 harg12 _) (page_load arg13 harg13 _) (page_load arg14 harg14 _) (page_load arg15 harg15 _) (page_load arg16 harg16 _) (page_load arg17 harg17 _) (page_load arg18 harg18 _) (page_load arg19 harg19 _) (page_load arg20 harg20 _) (page_load arg21 harg21 _) (page_load arg22 harg22 _) (page_load arg23 harg23 _) (page_load arg24 harg24 _) (page_load arg25 harg25 _) (page_load arg26 harg26 _) (page_load arg27 harg27 _) (page_load arg28 harg28 _) (page_load arg29 harg29 _) (page_load arg30 harg30 _) (page_load arg31 harg31 _) (page_load arg32 harg32 _) (page_load arg33 harg33 _) (page_load arg34 harg34 _) (page_load arg35 harg35 _) (page_load arg36 harg36 _)
  iexact HT0

end Cert.KernelIdeal.Scores

end
-- ==== Proof.ScoresRunC.lean ====
module

public import proofs.«01_k».proof.Proof.ScoresPieces

@[expose] public section

set_option maxRecDepth 16384

noncomputable section

namespace Cert.KernelIdeal.Scores
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at the last point of a request: the scores of the new keys, the other chunks masked. -/
theorem runC (c : Dev nD) (i : grid0.Coords) (arg3 : Memref sig .tc .vmem S1x64x128 .bf16) (harg3 : arg3.IsWhole) (arg4 : Memref sig .tc .vmem S1x64x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x1x64x128 .f32) (harg8 : arg8.IsWhole) (arg9 : Memref sig .tc .vmem S1x1x64x128 .f32) (harg9 : arg9.IsWhole) (arg10 : Memref sig .tc .vmem S1x1x64x128 .f32) (harg10 : arg10.IsWhole) (arg11 : Memref sig .tc .vmem S1x1x64x128 .f32) (harg11 : arg11.IsWhole) (arg12 : Memref sig .tc .vmem S1x1x64x128 .f32) (harg12 : arg12.IsWhole) (arg13 : Memref sig .tc .vmem S1x1x64x128 .f32) (harg13 : arg13.IsWhole) (arg14 : Memref sig .tc .vmem S1x1x64x128 .f32) (harg14 : arg14.IsWhole) (arg15 : Memref sig .tc .vmem S1x1x64x128 .f32) (harg15 : arg15.IsWhole) (arg16 : Memref sig .tc .vmem S1x1x64x128 .f32) (harg16 : arg16.IsWhole) (arg17 : Memref sig .tc .vmem S1x1x64x128 .f32) (harg17 : arg17.IsWhole) (arg18 : Memref sig .tc .vmem S1x1x64x128 .f32) (harg18 : arg18.IsWhole) (arg19 : Memref sig .tc .vmem S1x1x64x128 .f32) (harg19 : arg19.IsWhole) (arg20 : Memref sig .tc .vmem S1x1x64x128 .f32) (harg20 : arg20.IsWhole) (arg21 : Memref sig .tc .vmem S1x1x64x128 .f32) (harg21 : arg21.IsWhole) (arg22 : Memref sig .tc .vmem S1x1x64x128 .f32) (harg22 : arg22.IsWhole) (arg23 : Memref sig .tc .vmem S1x1x64x128 .f32) (harg23 : arg23.IsWhole) (arg24 : Memref sig .tc .vmem S1x1x64x128 .f32) (harg24 : arg24.IsWhole) (arg25 : Memref sig .tc .vmem S1x1x64x128 .f32) (harg25 : arg25.IsWhole) (arg26 : Memref sig .tc .vmem S1x1x64x128 .f32) (harg26 : arg26.IsWhole) (arg27 : Memref sig .tc .vmem S1x1x64x128 .f32) (harg27 : arg27.IsWhole) (arg28 : Memref sig .tc .vmem S1x1x64x128 .f32) (harg28 : arg28.IsWhole) (arg29 : Memref sig .tc .vmem S1x1x64x128 .f32) (harg29 : arg29.IsWhole) (arg30 : Memref sig .tc .vmem S1x1x64x128 .f32) (harg30 : arg30.IsWhole) (arg31 : Memref sig .tc .vmem S1x1x64x128 .f32) (harg31 : arg31.IsWhole) (arg32 : Memref sig .tc .vmem S1x1x64x128 .f32) (harg32 : arg32.IsWhole) (arg33 : Memref sig .tc .vmem S1x1x64x128 .f32) (harg33 : arg33.IsWhole) (arg34 : Memref sig .tc .vmem S1x1x64x128 .f32) (harg34 : arg34.IsWhole) (arg35 : Memref sig .tc .vmem S1x1x64x128 .f32) (harg35 : arg35.IsWhole) (arg36 : Memref sig .tc .vmem S1x1x64x128 .f32) (harg36 : arg36.IsWhole) (arg37 : Memref sig .tc .vmem S1x128x128 .bf16) (harg37 : arg37.IsWhole) (arg38 : Memref sig .tc .vmem S1x32x8x128 .f32) (harg38 : arg38.IsWhole) (arg39 : Memref sig .tc .vmem S128x4096 .bf16) (harg39 : arg39.IsWhole) (hc0 : ¬cond0_0 i) (hc1 : ¬cond0_1 i) (hc2 : cond0_2 i)
    (x0 : Vec F S1x64x128 .bf16) (x1 : Vec F S1x64x128 .f32) (pg : Fin 32 → Vec F S1x1x64x128 .f32) (x34 : Vec F S1x128x128 .bf16) (xt0 : TbBuf0 (F := F) c tbM0_0) (xs0 : Vec F S128x4096 .bf16) (E : Set ℕ) (K : PUnit → sProp 𝕄) :
    iprop(owns (c : Thread nD τ) arg3 fullShare x0 ∗ owns (c : Thread nD τ) arg4 fullShare x1 ∗ owns (c : Thread nD τ) arg5 fullShare (pg 0) ∗ owns (c : Thread nD τ) arg6 fullShare (pg 1) ∗ owns (c : Thread nD τ) arg7 fullShare (pg 2) ∗ owns (c : Thread nD τ) arg8 fullShare (pg 3) ∗ owns (c : Thread nD τ) arg9 fullShare (pg 4) ∗ owns (c : Thread nD τ) arg10 fullShare (pg 5) ∗ owns (c : Thread nD τ) arg11 fullShare (pg 6) ∗ owns (c : Thread nD τ) arg12 fullShare (pg 7) ∗ owns (c : Thread nD τ) arg13 fullShare (pg 8) ∗ owns (c : Thread nD τ) arg14 fullShare (pg 9) ∗ owns (c : Thread nD τ) arg15 fullShare (pg 10) ∗ owns (c : Thread nD τ) arg16 fullShare (pg 11) ∗ owns (c : Thread nD τ) arg17 fullShare (pg 12) ∗ owns (c : Thread nD τ) arg18 fullShare (pg 13) ∗ owns (c : Thread nD τ) arg19 fullShare (pg 14) ∗ owns (c : Thread nD τ) arg20 fullShare (pg 15) ∗ owns (c : Thread nD τ) arg21 fullShare (pg 16) ∗ owns (c : Thread nD τ) arg22 fullShare (pg 17) ∗ owns (c : Thread nD τ) arg23 fullShare (pg 18) ∗ owns (c : Thread nD τ) arg24 fullShare (pg 19) ∗ owns (c : Thread nD τ) arg25 fullShare (pg 20) ∗ owns (c : Thread nD τ) arg26 fullShare (pg 21) ∗ owns (c : Thread nD τ) arg27 fullShare (pg 22) ∗ owns (c : Thread nD τ) arg28 fullShare (pg 23) ∗ owns (c : Thread nD τ) arg29 fullShare (pg 24) ∗ owns (c : Thread nD τ) arg30 fullShare (pg 25) ∗ owns (c : Thread nD τ) arg31 fullShare (pg 26) ∗ owns (c : Thread nD τ) arg32 fullShare (pg 27) ∗ owns (c : Thread nD τ) arg33 fullShare (pg 28) ∗ owns (c : Thread nD τ) arg34 fullShare (pg 29) ∗ owns (c : Thread nD τ) arg35 fullShare (pg 30) ∗ owns (c : Thread nD τ) arg36 fullShare (pg 31) ∗ owns (c : Thread nD τ) arg37 fullShare x34 ∗ (∃ d, owns (c : Thread nD τ) arg38 fullShare d) ∗ owns (c : Thread nD τ) arg39 fullShare xs0 ∗ tbPt0 c tbM0_0 xt0
      ∗ (iprop(owns (c : Thread nD τ) arg3 fullShare x0 ∗ owns (c : Thread nD τ) arg4 fullShare x1 ∗ owns (c : Thread nD τ) arg5 fullShare (pg 0) ∗ owns (c : Thread nD τ) arg6 fullShare (pg 1) ∗ owns (c : Thread nD τ) arg7 fullShare (pg 2) ∗ owns (c : Thread nD τ) arg8 fullShare (pg 3) ∗ owns (c : Thread nD τ) arg9 fullShare (pg 4) ∗ owns (c : Thread nD τ) arg10 fullShare (pg 5) ∗ owns (c : Thread nD τ) arg11 fullShare (pg 6) ∗ owns (c : Thread nD τ) arg12 fullShare (pg 7) ∗ owns (c : Thread nD τ) arg13 fullShare (pg 8) ∗ owns (c : Thread nD τ) arg14 fullShare (pg 9) ∗ owns (c : Thread nD τ) arg15 fullShare (pg 10) ∗ owns (c : Thread nD τ) arg16 fullShare (pg 11) ∗ owns (c : Thread nD τ) arg17 fullShare (pg 12) ∗ owns (c : Thread nD τ) arg18 fullShare (pg 13) ∗ owns (c : Thread nD τ) arg19 fullShare (pg 14) ∗ owns (c : Thread nD τ) arg20 fullShare (pg 15) ∗ owns (c : Thread nD τ) arg21 fullShare (pg 16) ∗ owns (c : Thread nD τ) arg22 fullShare (pg 17) ∗ owns (c : Thread nD τ) arg23 fullShare (pg 18) ∗ owns (c : Thread nD τ) arg24 fullShare (pg 19) ∗ owns (c : Thread nD τ) arg25 fullShare (pg 20) ∗ owns (c : Thread nD τ) arg26 fullShare (pg 21) ∗ owns (c : Thread nD τ) arg27 fullShare (pg 22) ∗ owns (c : Thread nD τ) arg28 fullShare (pg 23) ∗ owns (c : Thread nD τ) arg29 fullShare (pg 24) ∗ owns (c : Thread nD τ) arg30 fullShare (pg 25) ∗ owns (c : Thread nD τ) arg31 fullShare (pg 26) ∗ owns (c : Thread nD τ) arg32 fullShare (pg 27) ∗ owns (c : Thread nD τ) arg33 fullShare (pg 28) ∗ owns (c : Thread nD τ) arg34 fullShare (pg 29) ∗ owns (c : Thread nD τ) arg35 fullShare (pg 30) ∗ owns (c : Thread nD τ) arg36 fullShare (pg 31) ∗ owns (c : Thread nD τ) arg37 fullShare x34 ∗ owns (c : Thread nD τ) arg38 fullShare (outNew x0 x1 x34) ∗ owns (c : Thread nD τ) arg39 fullShare (xs0) ∗ tbPt0 c tbM0_0 xt0) -∗ K ⟨⟩))
    ⊢ wp frame (wpE (defs₀ (F := F)) Variants.none c none) E (cc0_sample_scores i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0_sample_scores_eq_skeleton]; unfold cc0_sample_scores_skel
  simp only [k0_part18_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, ⟨%fs0, %hfs0, HS0⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33; obtain rfl := harg37.eq_unread hf34; obtain rfl := harg39.eq_unread hfs0
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; · ipureintro; exact harg24.read_unread _
    iexact H21
  isplitl [H22]
  · iexists _; isplitr; · ipureintro; exact harg25.read_unread _
    iexact H22
  isplitl [H23]
  · iexists _; isplitr; · ipureintro; exact harg26.read_unread _
    iexact H23
  isplitl [H24]
  · iexists _; isplitr; · ipureintro; exact harg27.read_unread _
    iexact H24
  isplitl [H25]
  · iexists _; isplitr; · ipureintro; exact harg28.read_unread _
    iexact H25
  isplitl [H26]
  · iexists _; isplitr; · ipureintro; exact harg29.read_unread _
    iexact H26
  isplitl [H27]
  · iexists _; isplitr; · ipureintro; exact harg30.read_unread _
    iexact H27
  isplitl [H28]
  · iexists _; isplitr; · ipureintro; exact harg31.read_unread _
    iexact H28
  isplitl [H29]
  · iexists _; isplitr; · ipureintro; exact harg32.read_unread _
    iexact H29
  isplitl [H30]
  · iexists _; isplitr; · ipureintro; exact harg33.read_unread _
    iexact H30
  isplitl [H31]
  · iexists _; isplitr; · ipureintro; exact harg34.read_unread _
    iexact H31
  isplitl [H32]
  · iexists _; isplitr; · ipureintro; exact harg35.read_unread _
    iexact H32
  isplitl [H33]
  · iexists _; isplitr; · ipureintro; exact harg36.read_unread _
    iexact H33
  isplitl [H34]
  · iexists _; isplitr; · ipureintro; exact harg37.read_unread _
    iexact H34
  isplitl [H35]
  · iexists _; isplitr
    swap; · iexact H35
    ipureintro
    exact read_newPieces _ _ _ x0 x1 x34 (new_loads arg3 harg3 arg4 harg4 arg37 harg37 x0 x1 x34)
  isplitl [HS0]
  · iexists _; isplitr
    swap; · iexact HS0
    ipureintro
    exact harg39.read_unread _
  iexact HT0

end Cert.KernelIdeal.Scores

end
-- ==== Proof.ScoresFrame.lean ====
/-
  The frame of the scores: what the key buffer and the output block hold after each point, and the run of the grid.
-/
module

public import proofs.«01_k».proof.Proof.ScoresRunA
public import proofs.«01_k».proof.Proof.ScoresRunB
public import proofs.«01_k».proof.Proof.ScoresRunC
public import Idealize.ShloMosaic.Lib.Claim

@[expose] public section

set_option maxRecDepth 16384

noncomputable section

namespace Cert.KernelIdeal.Scores
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 32 pages a point's windows hold. -/
def pages (hO : Ok m) (c : Dev nD) (t : Fin (cfgM m hO).N) : Fin 32 → Vec F S1x1x64x128 .f32
  | ⟨0, _⟩ => iblk m hO c 2 t
  | ⟨1, _⟩ => iblk m hO c 3 t
  | ⟨2, _⟩ => iblk m hO c 4 t
  | ⟨3, _⟩ => iblk m hO c 5 t
  | ⟨4, _⟩ => iblk m hO c 6 t
  | ⟨5, _⟩ => iblk m hO c 7 t
  | ⟨6, _⟩ => iblk m hO c 8 t
  | ⟨7, _⟩ => iblk m hO c 9 t
  | ⟨8, _⟩ => iblk m hO c 10 t
  | ⟨9, _⟩ => iblk m hO c 11 t
  | ⟨10, _⟩ => iblk m hO c 12 t
  | ⟨11, _⟩ => iblk m hO c 13 t
  | ⟨12, _⟩ => iblk m hO c 14 t
  | ⟨13, _⟩ => iblk m hO c 15 t
  | ⟨14, _⟩ => iblk m hO c 16 t
  | ⟨15, _⟩ => iblk m hO c 17 t
  | ⟨16, _⟩ => iblk m hO c 18 t
  | ⟨17, _⟩ => iblk m hO c 19 t
  | ⟨18, _⟩ => iblk m hO c 20 t
  | ⟨19, _⟩ => iblk m hO c 21 t
  | ⟨20, _⟩ => iblk m hO c 22 t
  | ⟨21, _⟩ => iblk m hO c 23 t
  | ⟨22, _⟩ => iblk m hO c 24 t
  | ⟨23, _⟩ => iblk m hO c 25 t
  | ⟨24, _⟩ => iblk m hO c 26 t
  | ⟨25, _⟩ => iblk m hO c 27 t
  | ⟨26, _⟩ => iblk m hO c 28 t
  | ⟨27, _⟩ => iblk m hO c 29 t
  | ⟨28, _⟩ => iblk m hO c 30 t
  | ⟨29, _⟩ => iblk m hO c 31 t
  | ⟨30, _⟩ => iblk m hO c 32 t
  | ⟨31, _⟩ => iblk m hO c 33 t
  | ⟨_ + 32, h⟩ => absurd h (Nat.not_lt.2 (Nat.le_add_left _ _))

/-- The key buffer after a point: a page point copies its pages in, the new keys' point leaves it. -/
def keysAt (hO : Ok m) (c : Dev nD) : (n : ℕ) → n < (cfgM m hO).N → Vec F S128x4096 .bf16
  | 0, hn => keysIn zeroKeys (pages m hO c ⟨0, hn⟩)
  | n + 1, hn =>
    if (n + 1) % 5 ≤ 3 then keysIn (keysAt hO c n (Nat.lt_of_succ_lt hn)) (pages m hO c ⟨n + 1, hn⟩)
    else keysAt hO c n (Nat.lt_of_succ_lt hn)

/-- The output block after a point. -/
def outAt (hO : Ok m) (c : Dev nD) (t : Fin (cfgM m hO).N) : Vec F S1x32x8x128 .f32 :=
  if t.val % 5 ≤ 3 then outPages (iblk m hO c 0 t) (iblk m hO c 1 t) (keysAt m hO c t.val t.isLt)
  else outNew (iblk m hO c 0 t) (iblk m hO c 1 t) (iblk m hO c 34 t)

/-- The key buffer before a point: at anything before the first, then as the point before left it. -/
def keysBefore (hO : Ok m) (c : Dev nD) : (n : ℕ) → n < (cfgM m hO).N → sProp 𝕄
  | 0, _ => iprop(∃ d, owns (c : Thread nD τ) scM0_0 fullShare d)
  | n + 1, hn => owns (c : Thread nD τ) scM0_0 fullShare (keysAt m hO c n (Nat.lt_of_succ_lt hn))

/-- The invariant before position `n`. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) scM0_0 fullShare (keysAt m hO c n hn) ∗ (∃ r, prngReg c r)) ∗ Pipeline.ΦT pre0 (tbl m) c)

theorem PhiS_start (hO : Ok m) (c : Dev nD) (n : ℕ) (hn : n < (cfgM m hO).N) :
    PhiS m hO c n (Nat.le_of_lt hn)
      = iprop(iprop(keysBefore m hO c n hn ∗ (∃ r, prngReg c r)) ∗ Pipeline.ΦT pre0 (tbl m) c) := by
  cases n with
  | zero => show iprop(Pipeline.ΦA spec0 c ∗ Pipeline.ΦT pre0 (tbl m) c) = _
            rw [PhiA0_eq]; rfl
  | succ n => rfl

theorem PhiS_succ (hO : Ok m) (c : Dev nD) (n : ℕ) (hn : n < (cfgM m hO).N) :
    PhiS m hO c (n + 1) hn
      = iprop(iprop(owns (c : Thread nD τ) scM0_0 fullShare (keysAt m hO c n hn) ∗ (∃ r, prngReg c r)) ∗ Pipeline.ΦT pre0 (tbl m) c) := rfl

/-- The proof data: each input's buffer at its block, the output's at `outAt`, the invariant `PhiS`, nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => pages m hO c t 0
    | ⟨3, _⟩ => pages m hO c t 1
    | ⟨4, _⟩ => pages m hO c t 2
    | ⟨5, _⟩ => pages m hO c t 3
    | ⟨6, _⟩ => pages m hO c t 4
    | ⟨7, _⟩ => pages m hO c t 5
    | ⟨8, _⟩ => pages m hO c t 6
    | ⟨9, _⟩ => pages m hO c t 7
    | ⟨10, _⟩ => pages m hO c t 8
    | ⟨11, _⟩ => pages m hO c t 9
    | ⟨12, _⟩ => pages m hO c t 10
    | ⟨13, _⟩ => pages m hO c t 11
    | ⟨14, _⟩ => pages m hO c t 12
    | ⟨15, _⟩ => pages m hO c t 13
    | ⟨16, _⟩ => pages m hO c t 14
    | ⟨17, _⟩ => pages m hO c t 15
    | ⟨18, _⟩ => pages m hO c t 16
    | ⟨19, _⟩ => pages m hO c t 17
    | ⟨20, _⟩ => pages m hO c t 18
    | ⟨21, _⟩ => pages m hO c t 19
    | ⟨22, _⟩ => pages m hO c t 20
    | ⟨23, _⟩ => pages m hO c t 21
    | ⟨24, _⟩ => pages m hO c t 22
    | ⟨25, _⟩ => pages m hO c t 23
    | ⟨26, _⟩ => pages m hO c t 24
    | ⟨27, _⟩ => pages m hO c t 25
    | ⟨28, _⟩ => pages m hO c t 26
    | ⟨29, _⟩ => pages m hO c t 27
    | ⟨30, _⟩ => pages m hO c t 28
    | ⟨31, _⟩ => pages m hO c t 29
    | ⟨32, _⟩ => pages m hO c t 30
    | ⟨33, _⟩ => pages m hO c t 31
    | ⟨34, _⟩ => iblk m hO c 34 t
    | ⟨35, _⟩ => outAt m hO c t
    | ⟨_ + 36, h⟩ => absurd h (Nat.not_lt.2 (Nat.le_add_left _ _))
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-! What the body leaves in each window's buffer, and what it finds in each input's. -/

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = pages m hO c t 0 := by dsimp only [dats]; try rfl
theorem after0_3 (hO : Ok m) (c : Dev nD) (t : Fin (cfgM m hO).N) : (dats m hO 0 c).after 3 t = pages m hO c t 1 := by dsimp only [dats]; try rfl
theorem after0_4 (hO : Ok m) (c : Dev nD) (t : Fin (cfgM m hO).N) : (dats m hO 0 c).after 4 t = pages m hO c t 2 := by dsimp only [dats]; try rfl
theorem after0_5 (hO : Ok m) (c : Dev nD) (t : Fin (cfgM m hO).N) : (dats m hO 0 c).after 5 t = pages m hO c t 3 := by dsimp only [dats]; try rfl
theorem after0_6 (hO : Ok m) (c : Dev nD) (t : Fin (cfgM m hO).N) : (dats m hO 0 c).after 6 t = pages m hO c t 4 := by dsimp only [dats]; try rfl
theorem after0_7 (hO : Ok m) (c : Dev nD) (t : Fin (cfgM m hO).N) : (dats m hO 0 c).after 7 t = pages m hO c t 5 := by dsimp only [dats]; try rfl
theorem after0_8 (hO : Ok m) (c : Dev nD) (t : Fin (cfgM m hO).N) : (dats m hO 0 c).after 8 t = pages m hO c t 6 := by dsimp only [dats]; try rfl
theorem after0_9 (hO : Ok m) (c : Dev nD) (t : Fin (cfgM m hO).N) : (dats m hO 0 c).after 9 t = pages m hO c t 7 := by dsimp only [dats]; try rfl
theorem after0_10 (hO : Ok m) (c : Dev nD) (t : Fin (cfgM m hO).N) : (dats m hO 0 c).after 10 t = pages m hO c t 8 := by dsimp only [dats]; try rfl
theorem after0_11 (hO : Ok m) (c : Dev nD) (t : Fin (cfgM m hO).N) : (dats m hO 0 c).after 11 t = pages m hO c t 9 := by dsimp only [dats]; try rfl
theorem after0_12 (hO : Ok m) (c : Dev nD) (t : Fin (cfgM m hO).N) : (dats m hO 0 c).after 12 t = pages m hO c t 10 := by dsimp only [dats]; try rfl
theorem after0_13 (hO : Ok m) (c : Dev nD) (t : Fin (cfgM m hO).N) : (dats m hO 0 c).after 13 t = pages m hO c t 11 := by dsimp only [dats]; try rfl
theorem after0_14 (hO : Ok m) (c : Dev nD) (t : Fin (cfgM m hO).N) : (dats m hO 0 c).after 14 t = pages m hO c t 12 := by dsimp only [dats]; try rfl
theorem after0_15 (hO : Ok m) (c : Dev nD) (t : Fin (cfgM m hO).N) : (dats m hO 0 c).after 15 t = pages m hO c t 13 := by dsimp only [dats]; try rfl
theorem after0_16 (hO : Ok m) (c : Dev nD) (t : Fin (cfgM m hO).N) : (dats m hO 0 c).after 16 t = pages m hO c t 14 := by dsimp only [dats]; try rfl
theorem after0_17 (hO : Ok m) (c : Dev nD) (t : Fin (cfgM m hO).N) : (dats m hO 0 c).after 17 t = pages m hO c t 15 := by dsimp only [dats]; try rfl
theorem after0_18 (hO : Ok m) (c : Dev nD) (t : Fin (cfgM m hO).N) : (dats m hO 0 c).after 18 t = pages m hO c t 16 := by dsimp only [dats]; try rfl
theorem after0_19 (hO : Ok m) (c : Dev nD) (t : Fin (cfgM m hO).N) : (dats m hO 0 c).after 19 t = pages m hO c t 17 := by dsimp only [dats]; try rfl
theorem after0_20 (hO : Ok m) (c : Dev nD) (t : Fin (cfgM m hO).N) : (dats m hO 0 c).after 20 t = pages m hO c t 18 := by dsimp only [dats]; try rfl
theorem after0_21 (hO : Ok m) (c : Dev nD) (t : Fin (cfgM m hO).N) : (dats m hO 0 c).after 21 t = pages m hO c t 19 := by dsimp only [dats]; try rfl
theorem after0_22 (hO : Ok m) (c : Dev nD) (t : Fin (cfgM m hO).N) : (dats m hO 0 c).after 22 t = pages m hO c t 20 := by dsimp only [dats]; try rfl
theorem after0_23 (hO : Ok m) (c : Dev nD) (t : Fin (cfgM m hO).N) : (dats m hO 0 c).after 23 t = pages m hO c t 21 := by dsimp only [dats]; try rfl
theorem after0_24 (hO : Ok m) (c : Dev nD) (t : Fin (cfgM m hO).N) : (dats m hO 0 c).after 24 t = pages m hO c t 22 := by dsimp only [dats]; try rfl
theorem after0_25 (hO : Ok m) (c : Dev nD) (t : Fin (cfgM m hO).N) : (dats m hO 0 c).after 25 t = pages m hO c t 23 := by dsimp only [dats]; try rfl
theorem after0_26 (hO : Ok m) (c : Dev nD) (t : Fin (cfgM m hO).N) : (dats m hO 0 c).after 26 t = pages m hO c t 24 := by dsimp only [dats]; try rfl
theorem after0_27 (hO : Ok m) (c : Dev nD) (t : Fin (cfgM m hO).N) : (dats m hO 0 c).after 27 t = pages m hO c t 25 := by dsimp only [dats]; try rfl
theorem after0_28 (hO : Ok m) (c : Dev nD) (t : Fin (cfgM m hO).N) : (dats m hO 0 c).after 28 t = pages m hO c t 26 := by dsimp only [dats]; try rfl
theorem after0_29 (hO : Ok m) (c : Dev nD) (t : Fin (cfgM m hO).N) : (dats m hO 0 c).after 29 t = pages m hO c t 27 := by dsimp only [dats]; try rfl
theorem after0_30 (hO : Ok m) (c : Dev nD) (t : Fin (cfgM m hO).N) : (dats m hO 0 c).after 30 t = pages m hO c t 28 := by dsimp only [dats]; try rfl
theorem after0_31 (hO : Ok m) (c : Dev nD) (t : Fin (cfgM m hO).N) : (dats m hO 0 c).after 31 t = pages m hO c t 29 := by dsimp only [dats]; try rfl
theorem after0_32 (hO : Ok m) (c : Dev nD) (t : Fin (cfgM m hO).N) : (dats m hO 0 c).after 32 t = pages m hO c t 30 := by dsimp only [dats]; try rfl
theorem after0_33 (hO : Ok m) (c : Dev nD) (t : Fin (cfgM m hO).N) : (dats m hO 0 c).after 33 t = pages m hO c t 31 := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (fun t => (after0_0 m hO c t).trans rfl) t d
theorem before0_1 (hO : Ok m) (c : Dev nD) (t : Fin (cfgM m hO).N) (d) : (dats m hO 0 c).before 1 t d = iblk m hO c 1 t :=
  before0_1_of m hO (dats m hO 0 c) (A_eq m hO c 1) (fun t => (after0_1 m hO c t).trans rfl) t d
theorem before0_2 (hO : Ok m) (c : Dev nD) (t : Fin (cfgM m hO).N) (d) : (dats m hO 0 c).before 2 t d = pages m hO c t 0 :=
  before0_2_of m hO (dats m hO 0 c) (A_eq m hO c 2) (fun t => (after0_2 m hO c t).trans rfl) t d
theorem before0_3 (hO : Ok m) (c : Dev nD) (t : Fin (cfgM m hO).N) (d) : (dats m hO 0 c).before 3 t d = pages m hO c t 1 :=
  before0_3_of m hO (dats m hO 0 c) (A_eq m hO c 3) (fun t => (after0_3 m hO c t).trans rfl) t d
theorem before0_4 (hO : Ok m) (c : Dev nD) (t : Fin (cfgM m hO).N) (d) : (dats m hO 0 c).before 4 t d = pages m hO c t 2 :=
  before0_4_of m hO (dats m hO 0 c) (A_eq m hO c 4) (fun t => (after0_4 m hO c t).trans rfl) t d
theorem before0_5 (hO : Ok m) (c : Dev nD) (t : Fin (cfgM m hO).N) (d) : (dats m hO 0 c).before 5 t d = pages m hO c t 3 :=
  before0_5_of m hO (dats m hO 0 c) (A_eq m hO c 5) (fun t => (after0_5 m hO c t).trans rfl) t d
theorem before0_6 (hO : Ok m) (c : Dev nD) (t : Fin (cfgM m hO).N) (d) : (dats m hO 0 c).before 6 t d = pages m hO c t 4 :=
  before0_6_of m hO (dats m hO 0 c) (A_eq m hO c 6) (fun t => (after0_6 m hO c t).trans rfl) t d
theorem before0_7 (hO : Ok m) (c : Dev nD) (t : Fin (cfgM m hO).N) (d) : (dats m hO 0 c).before 7 t d = pages m hO c t 5 :=
  before0_7_of m hO (dats m hO 0 c) (A_eq m hO c 7) (fun t => (after0_7 m hO c t).trans rfl) t d
theorem before0_8 (hO : Ok m) (c : Dev nD) (t : Fin (cfgM m hO).N) (d) : (dats m hO 0 c).before 8 t d = pages m hO c t 6 :=
  before0_8_of m hO (dats m hO 0 c) (A_eq m hO c 8) (fun t => (after0_8 m hO c t).trans rfl) t d
theorem before0_9 (hO : Ok m) (c : Dev nD) (t : Fin (cfgM m hO).N) (d) : (dats m hO 0 c).before 9 t d = pages m hO c t 7 :=
  before0_9_of m hO (dats m hO 0 c) (A_eq m hO c 9) (fun t => (after0_9 m hO c t).trans rfl) t d
theorem before0_10 (hO : Ok m) (c : Dev nD) (t : Fin (cfgM m hO).N) (d) : (dats m hO 0 c).before 10 t d = pages m hO c t 8 :=
  before0_10_of m hO (dats m hO 0 c) (A_eq m hO c 10) (fun t => (after0_10 m hO c t).trans rfl) t d
theorem before0_11 (hO : Ok m) (c : Dev nD) (t : Fin (cfgM m hO).N) (d) : (dats m hO 0 c).before 11 t d = pages m hO c t 9 :=
  before0_11_of m hO (dats m hO 0 c) (A_eq m hO c 11) (fun t => (after0_11 m hO c t).trans rfl) t d
theorem before0_12 (hO : Ok m) (c : Dev nD) (t : Fin (cfgM m hO).N) (d) : (dats m hO 0 c).before 12 t d = pages m hO c t 10 :=
  before0_12_of m hO (dats m hO 0 c) (A_eq m hO c 12) (fun t => (after0_12 m hO c t).trans rfl) t d
theorem before0_13 (hO : Ok m) (c : Dev nD) (t : Fin (cfgM m hO).N) (d) : (dats m hO 0 c).before 13 t d = pages m hO c t 11 :=
  before0_13_of m hO (dats m hO 0 c) (A_eq m hO c 13) (fun t => (after0_13 m hO c t).trans rfl) t d
theorem before0_14 (hO : Ok m) (c : Dev nD) (t : Fin (cfgM m hO).N) (d) : (dats m hO 0 c).before 14 t d = pages m hO c t 12 :=
  before0_14_of m hO (dats m hO 0 c) (A_eq m hO c 14) (fun t => (after0_14 m hO c t).trans rfl) t d
theorem before0_15 (hO : Ok m) (c : Dev nD) (t : Fin (cfgM m hO).N) (d) : (dats m hO 0 c).before 15 t d = pages m hO c t 13 :=
  before0_15_of m hO (dats m hO 0 c) (A_eq m hO c 15) (fun t => (after0_15 m hO c t).trans rfl) t d
theorem before0_16 (hO : Ok m) (c : Dev nD) (t : Fin (cfgM m hO).N) (d) : (dats m hO 0 c).before 16 t d = pages m hO c t 14 :=
  before0_16_of m hO (dats m hO 0 c) (A_eq m hO c 16) (fun t => (after0_16 m hO c t).trans rfl) t d
theorem before0_17 (hO : Ok m) (c : Dev nD) (t : Fin (cfgM m hO).N) (d) : (dats m hO 0 c).before 17 t d = pages m hO c t 15 :=
  before0_17_of m hO (dats m hO 0 c) (A_eq m hO c 17) (fun t => (after0_17 m hO c t).trans rfl) t d
theorem before0_18 (hO : Ok m) (c : Dev nD) (t : Fin (cfgM m hO).N) (d) : (dats m hO 0 c).before 18 t d = pages m hO c t 16 :=
  before0_18_of m hO (dats m hO 0 c) (A_eq m hO c 18) (fun t => (after0_18 m hO c t).trans rfl) t d
theorem before0_19 (hO : Ok m) (c : Dev nD) (t : Fin (cfgM m hO).N) (d) : (dats m hO 0 c).before 19 t d = pages m hO c t 17 :=
  before0_19_of m hO (dats m hO 0 c) (A_eq m hO c 19) (fun t => (after0_19 m hO c t).trans rfl) t d
theorem before0_20 (hO : Ok m) (c : Dev nD) (t : Fin (cfgM m hO).N) (d) : (dats m hO 0 c).before 20 t d = pages m hO c t 18 :=
  before0_20_of m hO (dats m hO 0 c) (A_eq m hO c 20) (fun t => (after0_20 m hO c t).trans rfl) t d
theorem before0_21 (hO : Ok m) (c : Dev nD) (t : Fin (cfgM m hO).N) (d) : (dats m hO 0 c).before 21 t d = pages m hO c t 19 :=
  before0_21_of m hO (dats m hO 0 c) (A_eq m hO c 21) (fun t => (after0_21 m hO c t).trans rfl) t d
theorem before0_22 (hO : Ok m) (c : Dev nD) (t : Fin (cfgM m hO).N) (d) : (dats m hO 0 c).before 22 t d = pages m hO c t 20 :=
  before0_22_of m hO (dats m hO 0 c) (A_eq m hO c 22) (fun t => (after0_22 m hO c t).trans rfl) t d
theorem before0_23 (hO : Ok m) (c : Dev nD) (t : Fin (cfgM m hO).N) (d) : (dats m hO 0 c).before 23 t d = pages m hO c t 21 :=
  before0_23_of m hO (dats m hO 0 c) (A_eq m hO c 23) (fun t => (after0_23 m hO c t).trans rfl) t d
theorem before0_24 (hO : Ok m) (c : Dev nD) (t : Fin (cfgM m hO).N) (d) : (dats m hO 0 c).before 24 t d = pages m hO c t 22 :=
  before0_24_of m hO (dats m hO 0 c) (A_eq m hO c 24) (fun t => (after0_24 m hO c t).trans rfl) t d
theorem before0_25 (hO : Ok m) (c : Dev nD) (t : Fin (cfgM m hO).N) (d) : (dats m hO 0 c).before 25 t d = pages m hO c t 23 :=
  before0_25_of m hO (dats m hO 0 c) (A_eq m hO c 25) (fun t => (after0_25 m hO c t).trans rfl) t d
theorem before0_26 (hO : Ok m) (c : Dev nD) (t : Fin (cfgM m hO).N) (d) : (dats m hO 0 c).before 26 t d = pages m hO c t 24 :=
  before0_26_of m hO (dats m hO 0 c) (A_eq m hO c 26) (fun t => (after0_26 m hO c t).trans rfl) t d
theorem before0_27 (hO : Ok m) (c : Dev nD) (t : Fin (cfgM m hO).N) (d) : (dats m hO 0 c).before 27 t d = pages m hO c t 25 :=
  before0_27_of m hO (dats m hO 0 c) (A_eq m hO c 27) (fun t => (after0_27 m hO c t).trans rfl) t d
theorem before0_28 (hO : Ok m) (c : Dev nD) (t : Fin (cfgM m hO).N) (d) : (dats m hO 0 c).before 28 t d = pages m hO c t 26 :=
  before0_28_of m hO (dats m hO 0 c) (A_eq m hO c 28) (fun t => (after0_28 m hO c t).trans rfl) t d
theorem before0_29 (hO : Ok m) (c : Dev nD) (t : Fin (cfgM m hO).N) (d) : (dats m hO 0 c).before 29 t d = pages m hO c t 27 :=
  before0_29_of m hO (dats m hO 0 c) (A_eq m hO c 29) (fun t => (after0_29 m hO c t).trans rfl) t d
theorem before0_30 (hO : Ok m) (c : Dev nD) (t : Fin (cfgM m hO).N) (d) : (dats m hO 0 c).before 30 t d = pages m hO c t 28 :=
  before0_30_of m hO (dats m hO 0 c) (A_eq m hO c 30) (fun t => (after0_30 m hO c t).trans rfl) t d
theorem before0_31 (hO : Ok m) (c : Dev nD) (t : Fin (cfgM m hO).N) (d) : (dats m hO 0 c).before 31 t d = pages m hO c t 29 :=
  before0_31_of m hO (dats m hO 0 c) (A_eq m hO c 31) (fun t => (after0_31 m hO c t).trans rfl) t d
theorem before0_32 (hO : Ok m) (c : Dev nD) (t : Fin (cfgM m hO).N) (d) : (dats m hO 0 c).before 32 t d = pages m hO c t 30 :=
  before0_32_of m hO (dats m hO 0 c) (A_eq m hO c 32) (fun t => (after0_32 m hO c t).trans rfl) t d
theorem before0_33 (hO : Ok m) (c : Dev nD) (t : Fin (cfgM m hO).N) (d) : (dats m hO 0 c).before 33 t d = pages m hO c t 31 :=
  before0_33_of m hO (dats m hO 0 c) (A_eq m hO c 33) (fun t => (after0_33 m hO c t).trans rfl) t d
theorem before0_34 (hO : Ok m) (c : Dev nD) (t : Fin (cfgM m hO).N) (d) : (dats m hO 0 c).before 34 t d = iblk m hO c 34 t :=
  before0_34_of m hO (dats m hO 0 c) (A_eq m hO c 34) (fun t => (after0_34 m hO c t).trans rfl) t d

/-- The output is stored into at every point. -/
theorem live35 (hO : Ok m) : ∀ t : Fin (cfgM m hO).N, (cfgM m hO).idle 35 (grid0.coords t) = false :=
  (by decide +kernel : ∀ t : Fin grid0.N, idle0 35 (grid0.coords t) = false)
theorem leaves0_0 (hO : Ok m) (c : Dev nD) (t : Fin (cfgM m hO).N) :
    (dats m hO 0 c).leavesExact 0 t = owns (c : Thread nD τ) (ms0_0 m hO t) fullShare (iblk m hO c 0 t) := by
  rw [← after0_0 m hO c t]; unfold Dat.leavesExact; rw [liveAt0_0 m hO t]; try rfl
theorem leaves0_1 (hO : Ok m) (c : Dev nD) (t : Fin (cfgM m hO).N) :
    (dats m hO 0 c).leavesExact 1 t = owns (c : Thread nD τ) (ms0_1 m hO t) fullShare (iblk m hO c 1 t) := by
  rw [← after0_1 m hO c t]; unfold Dat.leavesExact; rw [liveAt0_1 m hO t]; try rfl
theorem leaves0_2 (hO : Ok m) (c : Dev nD) (t : Fin (cfgM m hO).N) :
    (dats m hO 0 c).leavesExact 2 t = owns (c : Thread nD τ) (ms0_2 m hO t) fullShare (pages m hO c t 0) := by
  rw [← after0_2 m hO c t]; unfold Dat.leavesExact; rw [liveAt0_2 m hO t]; try rfl
theorem leaves0_3 (hO : Ok m) (c : Dev nD) (t : Fin (cfgM m hO).N) :
    (dats m hO 0 c).leavesExact 3 t = owns (c : Thread nD τ) (ms0_3 m hO t) fullShare (pages m hO c t 1) := by
  rw [← after0_3 m hO c t]; unfold Dat.leavesExact; rw [liveAt0_3 m hO t]; try rfl
theorem leaves0_4 (hO : Ok m) (c : Dev nD) (t : Fin (cfgM m hO).N) :
    (dats m hO 0 c).leavesExact 4 t = owns (c : Thread nD τ) (ms0_4 m hO t) fullShare (pages m hO c t 2) := by
  rw [← after0_4 m hO c t]; unfold Dat.leavesExact; rw [liveAt0_4 m hO t]; try rfl
theorem leaves0_5 (hO : Ok m) (c : Dev nD) (t : Fin (cfgM m hO).N) :
    (dats m hO 0 c).leavesExact 5 t = owns (c : Thread nD τ) (ms0_5 m hO t) fullShare (pages m hO c t 3) := by
  rw [← after0_5 m hO c t]; unfold Dat.leavesExact; rw [liveAt0_5 m hO t]; try rfl
theorem leaves0_6 (hO : Ok m) (c : Dev nD) (t : Fin (cfgM m hO).N) :
    (dats m hO 0 c).leavesExact 6 t = owns (c : Thread nD τ) (ms0_6 m hO t) fullShare (pages m hO c t 4) := by
  rw [← after0_6 m hO c t]; unfold Dat.leavesExact; rw [liveAt0_6 m hO t]; try rfl
theorem leaves0_7 (hO : Ok m) (c : Dev nD) (t : Fin (cfgM m hO).N) :
    (dats m hO 0 c).leavesExact 7 t = owns (c : Thread nD τ) (ms0_7 m hO t) fullShare (pages m hO c t 5) := by
  rw [← after0_7 m hO c t]; unfold Dat.leavesExact; rw [liveAt0_7 m hO t]; try rfl
theorem leaves0_8 (hO : Ok m) (c : Dev nD) (t : Fin (cfgM m hO).N) :
    (dats m hO 0 c).leavesExact 8 t = owns (c : Thread nD τ) (ms0_8 m hO t) fullShare (pages m hO c t 6) := by
  rw [← after0_8 m hO c t]; unfold Dat.leavesExact; rw [liveAt0_8 m hO t]; try rfl
theorem leaves0_9 (hO : Ok m) (c : Dev nD) (t : Fin (cfgM m hO).N) :
    (dats m hO 0 c).leavesExact 9 t = owns (c : Thread nD τ) (ms0_9 m hO t) fullShare (pages m hO c t 7) := by
  rw [← after0_9 m hO c t]; unfold Dat.leavesExact; rw [liveAt0_9 m hO t]; try rfl
theorem leaves0_10 (hO : Ok m) (c : Dev nD) (t : Fin (cfgM m hO).N) :
    (dats m hO 0 c).leavesExact 10 t = owns (c : Thread nD τ) (ms0_10 m hO t) fullShare (pages m hO c t 8) := by
  rw [← after0_10 m hO c t]; unfold Dat.leavesExact; rw [liveAt0_10 m hO t]; try rfl
theorem leaves0_11 (hO : Ok m) (c : Dev nD) (t : Fin (cfgM m hO).N) :
    (dats m hO 0 c).leavesExact 11 t = owns (c : Thread nD τ) (ms0_11 m hO t) fullShare (pages m hO c t 9) := by
  rw [← after0_11 m hO c t]; unfold Dat.leavesExact; rw [liveAt0_11 m hO t]; try rfl
theorem leaves0_12 (hO : Ok m) (c : Dev nD) (t : Fin (cfgM m hO).N) :
    (dats m hO 0 c).leavesExact 12 t = owns (c : Thread nD τ) (ms0_12 m hO t) fullShare (pages m hO c t 10) := by
  rw [← after0_12 m hO c t]; unfold Dat.leavesExact; rw [liveAt0_12 m hO t]; try rfl
theorem leaves0_13 (hO : Ok m) (c : Dev nD) (t : Fin (cfgM m hO).N) :
    (dats m hO 0 c).leavesExact 13 t = owns (c : Thread nD τ) (ms0_13 m hO t) fullShare (pages m hO c t 11) := by
  rw [← after0_13 m hO c t]; unfold Dat.leavesExact; rw [liveAt0_13 m hO t]; try rfl
theorem leaves0_14 (hO : Ok m) (c : Dev nD) (t : Fin (cfgM m hO).N) :
    (dats m hO 0 c).leavesExact 14 t = owns (c : Thread nD τ) (ms0_14 m hO t) fullShare (pages m hO c t 12) := by
  rw [← after0_14 m hO c t]; unfold Dat.leavesExact; rw [liveAt0_14 m hO t]; try rfl
theorem leaves0_15 (hO : Ok m) (c : Dev nD) (t : Fin (cfgM m hO).N) :
    (dats m hO 0 c).leavesExact 15 t = owns (c : Thread nD τ) (ms0_15 m hO t) fullShare (pages m hO c t 13) := by
  rw [← after0_15 m hO c t]; unfold Dat.leavesExact; rw [liveAt0_15 m hO t]; try rfl
theorem leaves0_16 (hO : Ok m) (c : Dev nD) (t : Fin (cfgM m hO).N) :
    (dats m hO 0 c).leavesExact 16 t = owns (c : Thread nD τ) (ms0_16 m hO t) fullShare (pages m hO c t 14) := by
  rw [← after0_16 m hO c t]; unfold Dat.leavesExact; rw [liveAt0_16 m hO t]; try rfl
theorem leaves0_17 (hO : Ok m) (c : Dev nD) (t : Fin (cfgM m hO).N) :
    (dats m hO 0 c).leavesExact 17 t = owns (c : Thread nD τ) (ms0_17 m hO t) fullShare (pages m hO c t 15) := by
  rw [← after0_17 m hO c t]; unfold Dat.leavesExact; rw [liveAt0_17 m hO t]; try rfl
theorem leaves0_18 (hO : Ok m) (c : Dev nD) (t : Fin (cfgM m hO).N) :
    (dats m hO 0 c).leavesExact 18 t = owns (c : Thread nD τ) (ms0_18 m hO t) fullShare (pages m hO c t 16) := by
  rw [← after0_18 m hO c t]; unfold Dat.leavesExact; rw [liveAt0_18 m hO t]; try rfl
theorem leaves0_19 (hO : Ok m) (c : Dev nD) (t : Fin (cfgM m hO).N) :
    (dats m hO 0 c).leavesExact 19 t = owns (c : Thread nD τ) (ms0_19 m hO t) fullShare (pages m hO c t 17) := by
  rw [← after0_19 m hO c t]; unfold Dat.leavesExact; rw [liveAt0_19 m hO t]; try rfl
theorem leaves0_20 (hO : Ok m) (c : Dev nD) (t : Fin (cfgM m hO).N) :
    (dats m hO 0 c).leavesExact 20 t = owns (c : Thread nD τ) (ms0_20 m hO t) fullShare (pages m hO c t 18) := by
  rw [← after0_20 m hO c t]; unfold Dat.leavesExact; rw [liveAt0_20 m hO t]; try rfl
theorem leaves0_21 (hO : Ok m) (c : Dev nD) (t : Fin (cfgM m hO).N) :
    (dats m hO 0 c).leavesExact 21 t = owns (c : Thread nD τ) (ms0_21 m hO t) fullShare (pages m hO c t 19) := by
  rw [← after0_21 m hO c t]; unfold Dat.leavesExact; rw [liveAt0_21 m hO t]; try rfl
theorem leaves0_22 (hO : Ok m) (c : Dev nD) (t : Fin (cfgM m hO).N) :
    (dats m hO 0 c).leavesExact 22 t = owns (c : Thread nD τ) (ms0_22 m hO t) fullShare (pages m hO c t 20) := by
  rw [← after0_22 m hO c t]; unfold Dat.leavesExact; rw [liveAt0_22 m hO t]; try rfl
theorem leaves0_23 (hO : Ok m) (c : Dev nD) (t : Fin (cfgM m hO).N) :
    (dats m hO 0 c).leavesExact 23 t = owns (c : Thread nD τ) (ms0_23 m hO t) fullShare (pages m hO c t 21) := by
  rw [← after0_23 m hO c t]; unfold Dat.leavesExact; rw [liveAt0_23 m hO t]; try rfl
theorem leaves0_24 (hO : Ok m) (c : Dev nD) (t : Fin (cfgM m hO).N) :
    (dats m hO 0 c).leavesExact 24 t = owns (c : Thread nD τ) (ms0_24 m hO t) fullShare (pages m hO c t 22) := by
  rw [← after0_24 m hO c t]; unfold Dat.leavesExact; rw [liveAt0_24 m hO t]; try rfl
theorem leaves0_25 (hO : Ok m) (c : Dev nD) (t : Fin (cfgM m hO).N) :
    (dats m hO 0 c).leavesExact 25 t = owns (c : Thread nD τ) (ms0_25 m hO t) fullShare (pages m hO c t 23) := by
  rw [← after0_25 m hO c t]; unfold Dat.leavesExact; rw [liveAt0_25 m hO t]; try rfl
theorem leaves0_26 (hO : Ok m) (c : Dev nD) (t : Fin (cfgM m hO).N) :
    (dats m hO 0 c).leavesExact 26 t = owns (c : Thread nD τ) (ms0_26 m hO t) fullShare (pages m hO c t 24) := by
  rw [← after0_26 m hO c t]; unfold Dat.leavesExact; rw [liveAt0_26 m hO t]; try rfl
theorem leaves0_27 (hO : Ok m) (c : Dev nD) (t : Fin (cfgM m hO).N) :
    (dats m hO 0 c).leavesExact 27 t = owns (c : Thread nD τ) (ms0_27 m hO t) fullShare (pages m hO c t 25) := by
  rw [← after0_27 m hO c t]; unfold Dat.leavesExact; rw [liveAt0_27 m hO t]; try rfl
theorem leaves0_28 (hO : Ok m) (c : Dev nD) (t : Fin (cfgM m hO).N) :
    (dats m hO 0 c).leavesExact 28 t = owns (c : Thread nD τ) (ms0_28 m hO t) fullShare (pages m hO c t 26) := by
  rw [← after0_28 m hO c t]; unfold Dat.leavesExact; rw [liveAt0_28 m hO t]; try rfl
theorem leaves0_29 (hO : Ok m) (c : Dev nD) (t : Fin (cfgM m hO).N) :
    (dats m hO 0 c).leavesExact 29 t = owns (c : Thread nD τ) (ms0_29 m hO t) fullShare (pages m hO c t 27) := by
  rw [← after0_29 m hO c t]; unfold Dat.leavesExact; rw [liveAt0_29 m hO t]; try rfl
theorem leaves0_30 (hO : Ok m) (c : Dev nD) (t : Fin (cfgM m hO).N) :
    (dats m hO 0 c).leavesExact 30 t = owns (c : Thread nD τ) (ms0_30 m hO t) fullShare (pages m hO c t 28) := by
  rw [← after0_30 m hO c t]; unfold Dat.leavesExact; rw [liveAt0_30 m hO t]; try rfl
theorem leaves0_31 (hO : Ok m) (c : Dev nD) (t : Fin (cfgM m hO).N) :
    (dats m hO 0 c).leavesExact 31 t = owns (c : Thread nD τ) (ms0_31 m hO t) fullShare (pages m hO c t 29) := by
  rw [← after0_31 m hO c t]; unfold Dat.leavesExact; rw [liveAt0_31 m hO t]; try rfl
theorem leaves0_32 (hO : Ok m) (c : Dev nD) (t : Fin (cfgM m hO).N) :
    (dats m hO 0 c).leavesExact 32 t = owns (c : Thread nD τ) (ms0_32 m hO t) fullShare (pages m hO c t 30) := by
  rw [← after0_32 m hO c t]; unfold Dat.leavesExact; rw [liveAt0_32 m hO t]; try rfl
theorem leaves0_33 (hO : Ok m) (c : Dev nD) (t : Fin (cfgM m hO).N) :
    (dats m hO 0 c).leavesExact 33 t = owns (c : Thread nD τ) (ms0_33 m hO t) fullShare (pages m hO c t 31) := by
  rw [← after0_33 m hO c t]; unfold Dat.leavesExact; rw [liveAt0_33 m hO t]; try rfl
theorem leaves0_34 (hO : Ok m) (c : Dev nD) (t : Fin (cfgM m hO).N) :
    (dats m hO 0 c).leavesExact 34 t = owns (c : Thread nD τ) (ms0_34 m hO t) fullShare (iblk m hO c 34 t) := by
  rw [← after0_34 m hO c t]; unfold Dat.leavesExact; rw [liveAt0_34 m hO t]; try rfl
theorem leaves0_35 (hO : Ok m) (c : Dev nD) (t : Fin (cfgM m hO).N) :
    (dats m hO 0 c).leavesExact 35 t = owns (c : Thread nD τ) (ms0_35 m hO t) fullShare (outAt m hO c t) := by
  rw [← after0_35 m hO c t]; unfold Dat.leavesExact; rw [live35 m hO t]; try rfl

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d)))

/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t
    ∗ (dats m hO 0 c).leavesExact 21 t
    ∗ (dats m hO 0 c).leavesExact 22 t
    ∗ (dats m hO 0 c).leavesExact 23 t
    ∗ (dats m hO 0 c).leavesExact 24 t
    ∗ (dats m hO 0 c).leavesExact 25 t
    ∗ (dats m hO 0 c).leavesExact 26 t
    ∗ (dats m hO 0 c).leavesExact 27 t
    ∗ (dats m hO 0 c).leavesExact 28 t
    ∗ (dats m hO 0 c).leavesExact 29 t
    ∗ (dats m hO 0 c).leavesExact 30 t
    ∗ (dats m hO 0 c).leavesExact 31 t
    ∗ (dats m hO 0 c).leavesExact 32 t
    ∗ (dats m hO 0 c).leavesExact 33 t
    ∗ (dats m hO 0 c).leavesExact 34 t
    ∗ (dats m hO 0 c).leavesExact 35 t)

set_option maxHeartbeats 4000000 in
/-- The body at any point, the case chosen by the point's place in its request. -/
theorem run_at (hO : Ok m) (c : Dev nD) (t : Fin (cfgM m hO).N) (E : Set ℕ) (K : PUnit → sProp 𝕄) :
    iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (pages m hO c t 0) ∗ owns (c : Thread nD τ) (ms0_3 m hO t) fullShare (pages m hO c t 1) ∗ owns (c : Thread nD τ) (ms0_4 m hO t) fullShare (pages m hO c t 2) ∗ owns (c : Thread nD τ) (ms0_5 m hO t) fullShare (pages m hO c t 3) ∗ owns (c : Thread nD τ) (ms0_6 m hO t) fullShare (pages m hO c t 4) ∗ owns (c : Thread nD τ) (ms0_7 m hO t) fullShare (pages m hO c t 5) ∗ owns (c : Thread nD τ) (ms0_8 m hO t) fullShare (pages m hO c t 6) ∗ owns (c : Thread nD τ) (ms0_9 m hO t) fullShare (pages m hO c t 7) ∗ owns (c : Thread nD τ) (ms0_10 m hO t) fullShare (pages m hO c t 8) ∗ owns (c : Thread nD τ) (ms0_11 m hO t) fullShare (pages m hO c t 9) ∗ owns (c : Thread nD τ) (ms0_12 m hO t) fullShare (pages m hO c t 10) ∗ owns (c : Thread nD τ) (ms0_13 m hO t) fullShare (pages m hO c t 11) ∗ owns (c : Thread nD τ) (ms0_14 m hO t) fullShare (pages m hO c t 12) ∗ owns (c : Thread nD τ) (ms0_15 m hO t) fullShare (pages m hO c t 13) ∗ owns (c : Thread nD τ) (ms0_16 m hO t) fullShare (pages m hO c t 14) ∗ owns (c : Thread nD τ) (ms0_17 m hO t) fullShare (pages m hO c t 15) ∗ owns (c : Thread nD τ) (ms0_18 m hO t) fullShare (pages m hO c t 16) ∗ owns (c : Thread nD τ) (ms0_19 m hO t) fullShare (pages m hO c t 17) ∗ owns (c : Thread nD τ) (ms0_20 m hO t) fullShare (pages m hO c t 18) ∗ owns (c : Thread nD τ) (ms0_21 m hO t) fullShare (pages m hO c t 19) ∗ owns (c : Thread nD τ) (ms0_22 m hO t) fullShare (pages m hO c t 20) ∗ owns (c : Thread nD τ) (ms0_23 m hO t) fullShare (pages m hO c t 21) ∗ owns (c : Thread nD τ) (ms0_24 m hO t) fullShare (pages m hO c t 22) ∗ owns (c : Thread nD τ) (ms0_25 m hO t) fullShare (pages m hO c t 23) ∗ owns (c : Thread nD τ) (ms0_26 m hO t) fullShare (pages m hO c t 24) ∗ owns (c : Thread nD τ) (ms0_27 m hO t) fullShare (pages m hO c t 25) ∗ owns (c : Thread nD τ) (ms0_28 m hO t) fullShare (pages m hO c t 26) ∗ owns (c : Thread nD τ) (ms0_29 m hO t) fullShare (pages m hO c t 27) ∗ owns (c : Thread nD τ) (ms0_30 m hO t) fullShare (pages m hO c t 28) ∗ owns (c : Thread nD τ) (ms0_31 m hO t) fullShare (pages m hO c t 29) ∗ owns (c : Thread nD τ) (ms0_32 m hO t) fullShare (pages m hO c t 30) ∗ owns (c : Thread nD τ) (ms0_33 m hO t) fullShare (pages m hO c t 31) ∗ owns (c : Thread nD τ) (ms0_34 m hO t) fullShare (iblk m hO c 34 t) ∗ (∃ d, owns (c : Thread nD τ) (ms0_35 m hO t) fullShare d) ∗ keysBefore m hO c t.val t.isLt ∗ tbPt0 c tbM0_0 (tbl m 0)
      ∗ (iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (pages m hO c t 0) ∗ owns (c : Thread nD τ) (ms0_3 m hO t) fullShare (pages m hO c t 1) ∗ owns (c : Thread nD τ) (ms0_4 m hO t) fullShare (pages m hO c t 2) ∗ owns (c : Thread nD τ) (ms0_5 m hO t) fullShare (pages m hO c t 3) ∗ owns (c : Thread nD τ) (ms0_6 m hO t) fullShare (pages m hO c t 4) ∗ owns (c : Thread nD τ) (ms0_7 m hO t) fullShare (pages m hO c t 5) ∗ owns (c : Thread nD τ) (ms0_8 m hO t) fullShare (pages m hO c t 6) ∗ owns (c : Thread nD τ) (ms0_9 m hO t) fullShare (pages m hO c t 7) ∗ owns (c : Thread nD τ) (ms0_10 m hO t) fullShare (pages m hO c t 8) ∗ owns (c : Thread nD τ) (ms0_11 m hO t) fullShare (pages m hO c t 9) ∗ owns (c : Thread nD τ) (ms0_12 m hO t) fullShare (pages m hO c t 10) ∗ owns (c : Thread nD τ) (ms0_13 m hO t) fullShare (pages m hO c t 11) ∗ owns (c : Thread nD τ) (ms0_14 m hO t) fullShare (pages m hO c t 12) ∗ owns (c : Thread nD τ) (ms0_15 m hO t) fullShare (pages m hO c t 13) ∗ owns (c : Thread nD τ) (ms0_16 m hO t) fullShare (pages m hO c t 14) ∗ owns (c : Thread nD τ) (ms0_17 m hO t) fullShare (pages m hO c t 15) ∗ owns (c : Thread nD τ) (ms0_18 m hO t) fullShare (pages m hO c t 16) ∗ owns (c : Thread nD τ) (ms0_19 m hO t) fullShare (pages m hO c t 17) ∗ owns (c : Thread nD τ) (ms0_20 m hO t) fullShare (pages m hO c t 18) ∗ owns (c : Thread nD τ) (ms0_21 m hO t) fullShare (pages m hO c t 19) ∗ owns (c : Thread nD τ) (ms0_22 m hO t) fullShare (pages m hO c t 20) ∗ owns (c : Thread nD τ) (ms0_23 m hO t) fullShare (pages m hO c t 21) ∗ owns (c : Thread nD τ) (ms0_24 m hO t) fullShare (pages m hO c t 22) ∗ owns (c : Thread nD τ) (ms0_25 m hO t) fullShare (pages m hO c t 23) ∗ owns (c : Thread nD τ) (ms0_26 m hO t) fullShare (pages m hO c t 24) ∗ owns (c : Thread nD τ) (ms0_27 m hO t) fullShare (pages m hO c t 25) ∗ owns (c : Thread nD τ) (ms0_28 m hO t) fullShare (pages m hO c t 26) ∗ owns (c : Thread nD τ) (ms0_29 m hO t) fullShare (pages m hO c t 27) ∗ owns (c : Thread nD τ) (ms0_30 m hO t) fullShare (pages m hO c t 28) ∗ owns (c : Thread nD τ) (ms0_31 m hO t) fullShare (pages m hO c t 29) ∗ owns (c : Thread nD τ) (ms0_32 m hO t) fullShare (pages m hO c t 30) ∗ owns (c : Thread nD τ) (ms0_33 m hO t) fullShare (pages m hO c t 31) ∗ owns (c : Thread nD τ) (ms0_34 m hO t) fullShare (iblk m hO c 34 t) ∗ owns (c : Thread nD τ) (ms0_35 m hO t) fullShare (outAt m hO c t) ∗ owns (c : Thread nD τ) scM0_0 fullShare (keysAt m hO c t.val t.isLt) ∗ tbPt0 c tbM0_0 (tbl m 0)) -∗ K ⟨⟩))
    ⊢ wp frame (wpE (defs₀ (F := F)) Variants.none c none) E (bodyAt0 (adm m hO) t) K := by
  have hN : t.val < 160 := lt_of_lt_of_eq t.isLt (show (cfgM m hO).N = 160 from N_0)
  unfold bodyAt0
  by_cases h1 : t.val % 5 ≤ 3
  · have h2 : ¬t.val % 5 = 4 := by omega
    have ho : outAt m hO c t = outPages (iblk m hO c 0 t) (iblk m hO c 1 t) (keysAt m hO c t.val t.isLt) := if_pos h1
    rw [ho]
    by_cases h0 : t.val % 160 = 0
    · obtain ⟨n, hn⟩ := t
      obtain rfl : n = 0 := by dsimp only at h0 hN; omega
      generalize ht : (⟨0, hn⟩ : Fin (cfgM m hO).N) = t at *
      have hk : keysAt m hO c t.val t.isLt = keysIn zeroKeys (pages m hO c t) := by subst ht; rfl
      have hb : keysBefore m hO c t.val t.isLt = iprop(∃ d, owns (c : Thread nD τ) scM0_0 fullShare d) := by subst ht; rfl
      rw [hk, hb]
      exact runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) _ _ ((hcond0_0 t).mpr h0) ((hcond0_1 t).mpr h1) (fun h => h2 ((hcond0_2 t).mp h))
        (iblk m hO c 0 t) (iblk m hO c 1 t) (pages m hO c t) (iblk m hO c 34 t) (tbl m 0) E K
    · obtain ⟨n, hn⟩ := t
      cases n with
      | zero => exact absurd (Nat.zero_mod _) h0
      | succ n =>
        generalize ht : (⟨n + 1, hn⟩ : Fin (cfgM m hO).N) = t at *
        have hk : keysAt m hO c t.val t.isLt = keysIn (keysAt m hO c n (Nat.lt_of_succ_lt hn)) (pages m hO c t) := by
          subst ht; exact if_pos h1
        have hb : keysBefore m hO c t.val t.isLt = owns (c : Thread nD τ) scM0_0 fullShare (keysAt m hO c n (Nat.lt_of_succ_lt hn)) := by subst ht; rfl
        rw [hk, hb]
        exact runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) _ _ (fun h => h0 ((hcond0_0 t).mp h)) ((hcond0_1 t).mpr h1) (fun h => h2 ((hcond0_2 t).mp h))
          (iblk m hO c 0 t) (iblk m hO c 1 t) (pages m hO c t) (iblk m hO c 34 t) (tbl m 0) (keysAt m hO c n (Nat.lt_of_succ_lt hn)) E K
  · have h2 : t.val % 5 = 4 := by omega
    have h0 : ¬t.val % 160 = 0 := by omega
    have ho : outAt m hO c t = outNew (iblk m hO c 0 t) (iblk m hO c 1 t) (iblk m hO c 34 t) := if_neg h1
    rw [ho]
    obtain ⟨n, hn⟩ := t
    cases n with
    | zero => exact absurd (Nat.zero_mod _) h0
    | succ n =>
      generalize ht : (⟨n + 1, hn⟩ : Fin (cfgM m hO).N) = t at *
      have hk : keysAt m hO c t.val t.isLt = keysAt m hO c n (Nat.lt_of_succ_lt hn) := by
        subst ht; exact if_neg h1
      have hb : keysBefore m hO c t.val t.isLt = owns (c : Thread nD τ) scM0_0 fullShare (keysAt m hO c n (Nat.lt_of_succ_lt hn)) := by subst ht; rfl
      rw [hk, hb]
      exact runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) _ _ (fun h => h0 ((hcond0_0 t).mp h)) (fun h => h1 ((hcond0_1 t).mp h)) ((hcond0_2 t).mpr h2)
        (iblk m hO c 0 t) (iblk m hO c 1 t) (pages m hO c t) (iblk m hO c 34 t) (tbl m 0) (keysAt m hO c n (Nat.lt_of_succ_lt hn)) E K

set_option maxHeartbeats 20000000 in
/-- The body's triple at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34]
  rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t, leaves0_11 m hO c t, leaves0_12 m hO c t, leaves0_13 m hO c t, leaves0_14 m hO c t, leaves0_15 m hO c t, leaves0_16 m hO c t, leaves0_17 m hO c t, leaves0_18 m hO c t, leaves0_19 m hO c t, leaves0_20 m hO c t, leaves0_21 m hO c t, leaves0_22 m hO c t, leaves0_23 m hO c t, leaves0_24 m hO c t, leaves0_25 m hO c t, leaves0_26 m hO c t, leaves0_27 m hO c t, leaves0_28 m hO c t, leaves0_29 m hO c t, leaves0_30 m hO c t, leaves0_31 m hO c t, leaves0_32 m hO c t, leaves0_33 m hO c t, leaves0_34 m hO c t, leaves0_35 m hO c t]
  rw [show (dats m hO 0 c).owesAt () t.succ = (dats m hO 0 c).owesAt () t.castSucc from rfl]
  rw [show (dats m hO 0 c).Φ t.succ = PhiS m hO c (t.val + 1) t.isLt from rfl, PhiS_succ, PhiS_castSucc, PhiS_start, PhiT0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (run_at m hO c t Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexists _; iexact H35
  isplitl [HS0]; · iexact HS0
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

theorem hout (hO : Ok m) (c : Dev nD) : (dats m hO 0 c).Φ (Fin.last (cfgM m hO).N) ⊢ Pipeline.ΦA spec0 c := by
  have hN : (cfgM m hO).N = 159 + 1 := N_0
  have e : ∀ (k : ℕ) (hk : k ≤ (cfgM m hO).N), k = 159 + 1 → PhiS m hO c k hk ⊢ Pipeline.ΦA spec0 c := by
    rintro k hk rfl
    rw [PhiS_succ, PhiA0_eq]
    iintro ⟨⟨HS0, Hg⟩, -⟩
    isplitl [HS0]
    · iexists _; iexact HS0
    iexact Hg
  exact e _ _ hN

set_option backward.isDefEq.respectTransparency.types false in
/-- The run of the grid: every array of the pipeline at what the proof data says, every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they were. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: the arguments end as they were, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Scores

end
-- ==== Proof.ScoresOk.lean ====
/-
  The page table's precondition gives the side condition of the page windows: every page number read is in the cache.
  Which cell of the table a page window reads, and what the two frames are.
-/
module

public import proofs.«01_k».proof.Defs
public import proofs.«01_k».proof.Proof.ScoresFrame
public import proofs.«01_k».proof.Proof.Gen.Pre_pages_exist
public import proofs.«01_k».proof.Proof.Gen.ReferenceIdeal.Run
public import Idealize.ShloMosaic.Lib.ReduceAll
public import Idealize.ShloMosaic.Lib.Quiescent
public import Idealize.ShloMosaic.Lib.Claim
public import Idealize.ShloMosaic.Lib.Pointwise

@[expose] public section

set_option maxRecDepth 16384

noncomputable section

namespace Cert.KernelIdeal.Scores
open Cert.KernelIdeal.Gen
open Idealize.ShloMosaic Idealize.ShloMosaic.TcCoe Idealize.ShloMosaic.Tactic
open Idealize.SL Idealize.SL.Sem

variable {F : FTy → Type} [FloatOps F]

/-- The cell of the page table that page window `j` reads at a point. -/
theorem off_eq (i : grid0.Coords) (j : Fin 32) :
    k0_off1 i (BitVec.ofNat 32 j.val) = ![(i 0).val, min (i 1).val 3 * 32 + j.val] := by
  have e0 : ∀ b : Fin 32, (Scalar.indexCast (BitVec.ofNat 32 b.val)).toNat = b.val := by decide +kernel
  have e1 : ∀ (g : Fin 5) (j : Fin 32), (Scalar.indexCast (Scalar.addi (Scalar.muli (Scalar.minsi (BitVec.ofNat 32 g.val) 3#32) 32#32)
      (BitVec.ofNat 32 j.val))).toNat = min g.val 3 * 32 + j.val := by decide +kernel
  unfold k0_off1
  exact congrArg₂ (fun a b => ![a, b]) (e0 (i 0)) (e1 (i 1) j)

/-- The page number page window `j` reads at a point. -/
def pageNo (pf : pre0.Contents (Elt F)) (i : grid0.Coords) (j : Fin 32) : BitVec 32 :=
  pf.at 0 (Rect.unit (s := S32x128) (k0_off1 i (BitVec.ofNat 32 j.val)) S1x1.size (k0_off1_inb i j)) numel1_S1x1

/-- Where page window `j`'s block lies at a point. -/
def pageRow (pf : pre0.Contents (Elt F)) (i : grid0.Coords) (j : Fin 32) : Fin 4 → Nat :=
  ![0, (pageNo pf i j).toNat, 0, 0]

theorem pageNo_lt (pf : pre0.Contents (Elt F)) (h : ∀ y : S32x128.Idx, (pf 0 y : BitVec 32).toNat < 5120) (i : grid0.Coords) (j : Fin 32) :
    (pageNo pf i j).toNat < 5120 := h _

theorem row_ok (pf : pre0.Contents (Elt F)) (h : ∀ y : S32x128.Idx, (pf 0 y : BitVec 32).toNat < 5120) (j : Fin 32) (i : grid0.Coords) :
    ∃ h : (∀ a, (pageRow pf i j a + 1) * S1x1x64x128.size a ≤ S1x5120x64x128.size a),
      EltTy.bits .f32 = 32 ∨ (Rect.block (s := S1x5120x64x128) S1x1x64x128.size (pageRow pf i j) h).WholeWords (EltTy.packing .f32) := by
  refine ⟨fun a => ?_, Or.inl rfl⟩
  have := pageNo_lt pf h i j
  match a with
  | ⟨0, _⟩ => show (0 + 1) * 1 ≤ 1; omega
  | ⟨1, _⟩ => show ((pageNo pf i j).toNat + 1) * 1 ≤ 5120; omega
  | ⟨2, _⟩ => show (0 + 1) * 64 ≤ 64; omega
  | ⟨3, _⟩ => show (0 + 1) * 128 ≤ 128; omega

/-- Page numbers in range put every page window's block in the cache. -/
theorem ok_of_lt (pf : pre0.Contents (Elt F)) (h : ∀ y : S32x128.Idx, (pf 0 y : BitVec 32).toNat < 5120) : ok0 (F := F) pf :=
  ⟨row_ok pf h 0, row_ok pf h 1, row_ok pf h 2, row_ok pf h 3, row_ok pf h 4, row_ok pf h 5, row_ok pf h 6, row_ok pf h 7, row_ok pf h 8, row_ok pf h 9, row_ok pf h 10, row_ok pf h 11, row_ok pf h 12, row_ok pf h 13, row_ok pf h 14, row_ok pf h 15, row_ok pf h 16, row_ok pf h 17, row_ok pf h 18, row_ok pf h 19, row_ok pf h 20, row_ok pf h 21, row_ok pf h 22, row_ok pf h 23, row_ok pf h 24, row_ok pf h 25, row_ok pf h 26, row_ok pf h 27, row_ok pf h 28, row_ok pf h 29, row_ok pf h 30, row_ok pf h 31⟩

/-- The precondition, read at a cell of the table. -/
theorem lt_of_pre {a0 a1 a2 a3} (T : IVec S32x128 32)
    (h : Cert.Pre_pages_exist.fn (F := F) a0 a1 a2 a3 T = fun _ => 1#1) (y : S32x128.Idx) : (T y).toNat < 5120 := by
  have e := congrFun h (fun a => a.elim0)
  have e2 := Host.reduce_andi_all _ _ _ _ _ e y
  obtain ⟨h1, h2⟩ := IntOp.andi_eq_one.1 e2
  have h3 : (0 : Int) ≤ (T y).toInt := IntOp.cmpi_sge.1 h1
  have h4 : (T y).toInt < 5120 := IntOp.cmpi_slt.1 h2
  rw [BitVec.toInt_eq_toNat_cond] at h3 h4
  split at h4 <;> omega

theorem ok_of_tbl (m : (ℓ : Loc nD τ sig) → Buf (Elt F) ℓ)
    (h : ∀ y : S32x128.Idx, (m (((0 : Dev nD) : Thread nD τ).loc main_arg4) y : BitVec 32).toNat < 5120) : Ok m :=
  ok_of_lt (tbl m) (fun y => by
    rw [show tbl m 0 = m (((0 : Dev nD) : Thread nD τ).loc main_arg4) from V_main_arg4 m 0]
    exact h y)

end Cert.KernelIdeal.Scores

namespace Cert.Proof.ScoresClaims
open Idealize.ShloMosaic Idealize.SL.Sem

theorem ok_of_pre (m : (ℓ : Loc Cert.KernelIdeal.nD Cert.KernelIdeal.τ Cert.KernelIdeal.sig) → Buf (Elt Ideal) ℓ)
    (h : Cert.Pre_KernelIdeal m) : Cert.KernelIdeal.Gen.Ok m :=
  Cert.KernelIdeal.Scores.ok_of_tbl m (fun y => Cert.KernelIdeal.Scores.lt_of_pre _ (h 0) y)

theorem frame_i : Cert.quiescent_KernelIdeal := fun m ρ h =>
  Cert.KernelIdeal.Scores.frame (F := Ideal) m ρ (ok_of_pre m h)

theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof.ScoresClaims

end
-- ==== Proof.ScoresRef.lean ====
/-
  The indexer's score of one key, and what the reference computes: the scores against the gathered pages, then
  against the new keys up to the query's own, then minus infinity.
-/
module

public import proofs.«01_k».proof.Proof.Gen.ReferenceIdeal.Read
public import Idealize.ShloMosaic.Lib.Pipeline.Value
public import Idealize.ShloMosaic.Lib.Pointwise

@[expose] public section

set_option maxRecDepth 16384

noncomputable section

open Idealize.ShloMosaic Idealize.ShloMosaic.TcCoe

namespace Cert.Proof.ScoresRef
open Cert.ReferenceIdeal Cert.ReferenceIdeal.Gen Cert.ReferenceIdeal.Read

/-- The scale of a head weight: an eighth of the root of an eighth, as a float. -/
abbrev scale : EReal := Ideal.ofBits .f32 0x3D3504F3#32

/-- The score of one key: over the heads, the positive part of the product times the scaled head weight. -/
def score (q : Fin 8 → Fin 64 → EReal) (w : Fin 8 → EReal) (k : Fin 64 → EReal) : EReal :=
  ∑ h, max (∑ d, q h d * k d) 0 * (w h * scale)

theorem eighth : Ideal.ofBits .f32 0x3E000000#32 = (((1 / 8 : ℝ)) : EReal) := by
  simp [Ideal.ofBits, Ideal.ieee]
  norm_num
  simp only [← EReal.coe_mul]
  norm_num

theorem scale_eq : Ideal.ofBits .f32 0x3EB504F3#32 * Ideal.ofBits .f32 0x3E000000#32 = scale := by
  simp [scale, Ideal.ofBits, Ideal.ieee]
  norm_num
  simp only [← EReal.coe_mul]
  norm_num

/-- Scaling the product before the positive part, or the weight after it, is the same. -/
theorem term_eq (s w : EReal) :
    max (s * Ideal.ofBits .f32 0x3E000000#32) 0 * (w * Ideal.ofBits .f32 0x3EB504F3#32) = max s 0 * (w * scale) := by
  have he : (0 : EReal) ≤ Ideal.ofBits .f32 0x3E000000#32 := by
    rw [eighth]; exact_mod_cast (by norm_num : (0 : ℝ) ≤ 1 / 8)
  have h1 : max (s * Ideal.ofBits .f32 0x3E000000#32) 0 = max s 0 * Ideal.ofBits .f32 0x3E000000#32 := by
    rcases le_total 0 s with h | h
    · rw [max_eq_left h, max_eq_left (mul_nonneg h he)]
    · rw [max_eq_right h, zero_mul, max_eq_right]
      have := mul_le_mul_of_nonneg_right h he
      rwa [zero_mul] at this
  rw [h1, ← scale_eq]
  simp only [mul_assoc, mul_comm, mul_left_comm]

variable (x0 : FVec Ideal S32x8x8x64 .f32) (x1 : FVec Ideal S32x8x8 .f32) (x2 : FVec Ideal S32x8x64 .f32)
  (x3 : FVec Ideal S1x5120x128x64 .f32) (x4 : IVec S32x128 32)

/-- The gather's start indices: layer zero, then the page number, which is not negative. -/
theorem start0 (b : Fin 32) (s : Fin 128) : val_main_v15 (F := Ideal) x4 (ix3 b s (0 : Fin 2)) = 0#32 := by
  pointwise [val_main_v15, val_main_v13, val_main_v12, val_main_v11, val_main_c_2]
  rfl

theorem start1 (b : Fin 32) (s : Fin 128) (h : (x4 (ix2 b s)).toNat < 5120) :
    val_main_v15 (F := Ideal) x4 (ix3 b s (1 : Fin 2)) = x4 (ix2 b s) := by
  pointwise [val_main_v15, val_main_v14, val_main_v10, val_main_v7, val_main_v6, val_main_c_0]
  have hn : ¬ IntOp.cmpi .slt (x4 (ix2 b s)) 0#32 = 1#1 := by
    rw [IntOp.cmpi_slt, BitVec.toInt_eq_toNat_of_lt (by omega)]
    show ¬ ((_ : Nat) : Int) < 0
    omega
  exact if_neg hn

/-- The gather reads the page that the table names. -/
theorem gathered (b : Fin 32) (s r : Fin 128) (d : Fin 64) (h : (x4 (ix2 b s)).toNat < 5120) :
    val_main_v16 (F := Ideal) x3 x4 (ix4 b s r d) = x3 (ix4 0 ⟨(x4 (ix2 b s)).toNat, h⟩ r d) := by
  unfold val_main_v16 Host.gather
  refine congrArg x3 (funext fun a => Fin.ext ?_)
  generalize hD : gather_S1x5120x128x64_S32x128x2_S32x128x128x64_23_01_n_n_01_2_1112864 = D
  have hoff : D.offsetDims = [2, 3] := by rw [← hD]; rfl
  have hcoll : D.collapsedSliceDims = [0, 1] := by rw [← hD]; rfl
  have hob : D.operandBatchingDims = [] := by rw [← hD]; rfl
  have hsim : D.startIndexMap = [0, 1] := by rw [← hD]; rfl
  have hivd : D.indexVectorDim = 2 := by rw [← hD]; rfl
  have hbN : ∀ a', a' ∉ D.operandBatchingDims := fun a' => by rw [hob]; exact List.not_mem_nil
  show D.start (ix4 b s r d) _ a + D.batchCoord (ix4 b s r d) a + D.offCoord (ix4 b s r d) a = _
  rw [D.batchCoord_eq_zero _ _ (hbN a)]
  subst hD
  match a with
  | ⟨0, _⟩ =>
    have hk : (0 : Fin 4) ∉ gather_S1x5120x128x64_S32x128x2_S32x128x128x64_23_01_n_n_01_2_1112864.sKept := by decide
    have := GatherDims.start_le gather_S1x5120x128x64_S32x128x2_S32x128x128x64_23_01_n_n_01_2_1112864 (ix4 b s r d) (val_main_v15 (F := Ideal) x4) 0
    show GatherDims.start _ _ _ 0 + 0 + GatherDims.offCoord _ _ (0 : Fin S1x5120x128x64.rank) = 0
    rw [GatherDims.offCoord_eq_zero _ _ _ hk]
    exact Nat.le_zero.1 this
  | ⟨1, _⟩ =>
    have hk : (1 : Fin 4) ∉ gather_S1x5120x128x64_S32x128x2_S32x128x128x64_23_01_n_n_01_2_1112864.sKept := by decide
    show GatherDims.start _ _ _ 1 + 0 + GatherDims.offCoord _ _ (1 : Fin S1x5120x128x64.rank) = (x4 (ix2 b s)).toNat
    rw [GatherDims.offCoord_eq_zero _ _ _ hk]
    unfold GatherDims.start
    rw [dif_pos (by decide)]
    have hsi : gather_S1x5120x128x64_S32x128x2_S32x128x128x64_23_01_n_n_01_2_1112864.siIdx (ix4 b s r d) ⟨1, by decide⟩ = ix3 b s (1 : Fin 2) := by
      funext b'; refine Fin.ext ?_
      match b' with
      | ⟨0, _⟩ => rfl
      | ⟨1, _⟩ => rfl
      | ⟨2, _⟩ => rfl
    have hsi' : ∀ k : Fin _, k.val = 1 → gather_S1x5120x128x64_S32x128x2_S32x128x128x64_23_01_n_n_01_2_1112864.siIdx (ix4 b s r d) k = ix3 b s (1 : Fin 2) := by
      rintro ⟨k, hk⟩ rfl; exact hsi
    rw [hsi' _ (by decide), start1 x4 b s h, BitVec.toInt_eq_toNat_of_lt (by omega)]
    show min (((x4 (ix2 b s)).toNat : Int)).toNat (5120 - 1) + 0 + 0 = (x4 (ix2 b s)).toNat
    omega
  | ⟨2, _⟩ =>
    show GatherDims.start _ _ _ 2 + 0 + GatherDims.offCoord _ _ 2 = r.val
    unfold GatherDims.start GatherDims.offCoord
    rw [dif_neg (by decide), dif_pos (by decide)]
    refine (Nat.zero_add _).trans (congrArg (fun a => (ix4 b s r d a).val) (?_ : _ = (2 : Fin 4)))
    decide
  | ⟨3, _⟩ =>
    show GatherDims.start _ _ _ 3 + 0 + GatherDims.offCoord _ _ 3 = d.val
    unfold GatherDims.start GatherDims.offCoord
    rw [dif_neg (by decide), dif_pos (by decide)]
    refine (Nat.zero_add _).trans (congrArg (fun a => (ix4 b s r d a).val) (?_ : _ = (3 : Fin 4)))
    decide

/-- The keys: the gathered pages, then the new keys. -/
theorem keys_past (b : Fin 32) (j r : Fin 128) (d : Fin 64) (h : (x4 (ix2 b j)).toNat < 5120) :
    val_main_v18 (F := Ideal) x2 x3 x4 (ix3 b ⟨j.val * 128 + r.val, by omega⟩ d) = x3 (ix4 0 ⟨(x4 (ix2 b j)).toNat, h⟩ r d) := by
  rw [← gathered x3 x4 b j r d h]
  pointwise [val_main_v18, val_main_v17]
  exact dif_pos (by omega)

theorem keys_new (b : Fin 32) (r : Fin 8) (d : Fin 64) :
    val_main_v18 (F := Ideal) x2 x3 x4 (ix3 b ⟨16384 + r.val, by omega⟩ d) = x2 (ix3 b r d) := by
  pointwise [val_main_v18]

/-- The scores before the mask. -/
theorem scores (b : Fin 32) (t : Fin 8) (n : Fin 16392) :
    val_main_v23 (F := Ideal) x0 x1 x2 x3 x4 (ix3 b t n)
      = score (fun h d => x0 (ix4 b t h d)) (fun h => x1 (ix3 b t h)) (fun d => val_main_v18 (F := Ideal) x2 x3 x4 (ix3 b n d)) := by
  unfold score
  rw [val_main_v23_apply]
  refine Finset.sum_congr rfl fun h _ => ?_
  rw [val_main_v22_apply, val_main_v21_apply, val_main_v19_apply]
  rw [← term_eq]
  pointwise [val_main_v20, val_main_cst_3, val_main_call0_v0, val_main_call0_cst, val_main_v1, val_main_v0, val_main_cst]
  have e : ∀ d : Fin 64, lidx_main_v19 (lidx_main_v23 (ix3 b t n) h) d = ix4 b t h d ∧ ridx_main_v19 (lidx_main_v23 (ix3 b t n) h) d = ix3 b n d :=
    fun d => ⟨by funext a; match a with | ⟨0, _⟩ => rfl | ⟨1, _⟩ => rfl | ⟨2, _⟩ => rfl | ⟨3, _⟩ => rfl,
      by funext a; match a with | ⟨0, _⟩ => rfl | ⟨1, _⟩ => rfl | ⟨2, _⟩ => rfl⟩
  have e' : ridx_main_v23 (ix3 b t n) h = ix3 b t h := by
    funext a; match a with | ⟨0, _⟩ => rfl | ⟨1, _⟩ => rfl | ⟨2, _⟩ => rfl
  simp only [fun d => (e d).1, fun d => (e d).2, e']

/-- The mask: a query sees the keys up to its own. -/
theorem mask (b : Fin 32) (t : Fin 8) (n : Fin 16392) :
    val_main_call1_v1 (F := Ideal) (ix3 b t n) = 1#1 ↔ n.val ≤ 16384 + t.val := by
  pointwise [val_main_call1_v1, val_main_v29, val_main_v28, val_main_v27, val_main_v26, val_main_v25, val_main_v24, val_main_v5,
    val_main_v4, val_main_v3, val_main_v2, val_main_c]
  have hn := n.isLt
  have ht := t.isLt
  have hs : IntOp.addi (16384#32) (BitVec.ofNat 32 t.val) = BitVec.ofNat 32 (16384 + t.val) := by
    show (16384#32 + BitVec.ofNat 32 t.val) = _
    rw [BitVec.ofNat_add]
  rw [hs, IntOp.cmpi_sle, BitVec.toInt_eq_toNat_of_lt (by simp; omega), BitVec.toInt_eq_toNat_of_lt (by simp; omega),
    BitVec.toNat_ofNat, BitVec.toNat_ofNat, Nat.mod_eq_of_lt (by omega), Nat.mod_eq_of_lt (by omega)]
  omega

/-- The reference's value where the keys are the cache's. -/
theorem ref_past (b : Fin 32) (j : Fin 160) (hj : j.val < 128) (t : Fin 8) (l : Fin 128) (h : (x4 (ix2 b ⟨j.val, hj⟩)).toNat < 5120) :
    val_main_v33 (F := Ideal) x0 x1 x2 x3 x4 (ix4 b j t l)
      = score (fun h d => x0 (ix4 b t h d)) (fun h => x1 (ix3 b t h))
          (fun d => x3 (ix4 0 ⟨(x4 (ix2 b ⟨j.val, hj⟩)).toNat, h⟩ l d)) := by
  simp only [← keys_past x2 x3 x4 b ⟨j.val, hj⟩ l _ h]
  rw [← scores]
  pointwise [val_main_v33, val_main_v32, val_main_v31, val_main_v30]
  rw [dif_pos (by omega)]
  exact if_pos ((mask b t _).2 (by show j.val * 128 + l.val ≤ _; omega))

/-- The reference's value from the new keys on: a new key up to the query's own, else minus infinity. -/
theorem ref_new (b : Fin 32) (j : Fin 160) (hj : 128 ≤ j.val) (t : Fin 8) (l : Fin 128) :
    val_main_v33 (F := Ideal) x0 x1 x2 x3 x4 (ix4 b j t l)
      = if h : j.val = 128 ∧ l.val ≤ t.val then
          score (fun h d => x0 (ix4 b t h d)) (fun h => x1 (ix3 b t h)) (fun d => x2 (ix3 b ⟨l.val, by omega⟩ d))
        else Ideal.ofBits .f32 0xFF800000#32 := by
  pointwise [val_main_v33, val_main_v32, val_main_v31, val_main_v30]
  split
  · rename_i hn
    by_cases h : j.val = 128 ∧ l.val ≤ t.val
    · rw [dif_pos h]
      simp only [← keys_new x2 x3 x4 b ⟨l.val, by omega⟩]
      rw [← scores]
      have e : (⟨j.val * 128 + l.val, hn⟩ : Fin 16392) = ⟨16384 + l.val, by omega⟩ := Fin.ext (by show j.val * 128 + l.val = 16384 + l.val; omega)
      rw [e]
      exact if_pos ((mask b t _).2 (by show 16384 + l.val ≤ _; omega))
    · rw [dif_neg h]
      refine (if_neg fun hm => h ?_).trans ?_
      · have := (mask b t _).1 hm
        have : j.val * 128 + l.val ≤ 16384 + t.val := this
        omega
      · pointwise [val_main_call1_v2, val_main_call1_v0, val_main_cst_4]
        rfl
  · rw [dif_neg (by omega)]
    pointwise [val_main_call2_v0, val_main_cst_5]
    rfl

end Cert.Proof.ScoresRef

end
-- ==== Proof.ScoresApply.lean ====
/-
  The kernel's blocks at an index: the scores of the eight heads added up, and the key buffer's rows that count.
-/
module

public import proofs.«01_k».proof.Proof.ScoresForm
public import proofs.«01_k».proof.Proof.ScoresRef
public import Idealize.ShloMosaic.Lib.Pointwise

@[expose] public section

set_option maxRecDepth 16384

noncomputable section

namespace Cert.KernelIdeal.Scores
open Cert.KernelIdeal.Gen
open Idealize.ShloMosaic
open Cert.Proof.ScoresRef (score scale)

theorem wcol_apply (x1 : Vec Ideal S1x64x128 .f32) (a : Fin 1) (r : Fin 64) (l : Fin 1) : wcol x1 (ix3 a r l) = x1 (ix3 0 r 0) := by
  unfold wcol
  exact congrArg x1 (funext fun a => Fin.ext (by match a with | ⟨0, _⟩ => rfl | ⟨1, _⟩ => rfl | ⟨2, _⟩ => rfl))

/-- The row of head `h` and query `t`. -/
abbrev row (h t : Fin 8) : Fin 64 := ⟨h.val * 8 + t.val, by omega⟩

theorem rows (t : Fin 8) : row 0 t = ⟨t.val, by omega⟩ ∧ row 1 t = ⟨8 + t.val, by omega⟩ ∧ row 2 t = ⟨16 + t.val, by omega⟩
    ∧ row 3 t = ⟨24 + t.val, by omega⟩ ∧ row 4 t = ⟨32 + t.val, by omega⟩ ∧ row 5 t = ⟨40 + t.val, by omega⟩
    ∧ row 6 t = ⟨48 + t.val, by omega⟩ ∧ row 7 t = ⟨56 + t.val, by omega⟩ := by
  refine ⟨?_, ?_, ?_, ?_, ?_, ?_, ?_, ?_⟩ <;> exact Fin.ext (by simp)

/-- The products added up over 128 places of which the queries leave the upper half zero. -/
theorem half (q k : Fin 128 → EReal) (hq : ∀ d : Fin 128, 64 ≤ d.val → q d = 0) :
    ∑ d, q d * k d = ∑ d : Fin 64, q ⟨d.val, by omega⟩ * k ⟨d.val, by omega⟩ := by
  refine (Fin.sum_univ_add (a := 64) (b := 64) (fun d : Fin 128 => q d * k d)).trans ?_
  rw [Finset.sum_eq_zero (s := Finset.univ) (f := fun d : Fin 64 => q (Fin.natAdd 64 d) * k (Fin.natAdd 64 d)), add_zero]
  · rfl
  · intro d _
    rw [hq _ (Nat.le_add_right _ _), zero_mul]

/-- The head sum of a page point. -/
theorem pay41_apply (x0 : Vec Ideal S1x64x128 .bf16) (x1 : Vec Ideal S1x64x128 .f32) (kb : Vec Ideal S128x4096 .bf16)
    (t : Fin 8) (n : Fin 4096) :
    k0_pay41 (F := Ideal) (k0_pay2 (wcol x1)) x0 kb (ix2 t n)
      = ∑ h : Fin 8, max (∑ k : Fin 128, x0 (ix3 0 (row h t) k) * kb (ix2 k n)) 0 * x1 (ix3 0 (row h t) 0) := by
  rw [Fin.sum_univ_eight]
  pointwise [k0_pay41, k0_pay2]
  obtain ⟨e0, e1, e2, e3, e4, e5, e6, e7⟩ := rows t
  simp only [wcol_apply, e0, e1, e2, e3, e4, e5, e6, e7]

/-- The head sum of the new keys' point, masked. -/
theorem pay77_apply (x0 : Vec Ideal S1x64x128 .bf16) (x1 : Vec Ideal S1x64x128 .f32) (x34 : Vec Ideal S1x128x128 .bf16)
    (t : Fin 8) (l : Fin 128) :
    k0_pay77 (F := Ideal) (k0_pay2 (wcol x1)) x0 x34 (ix4 0 0 t l)
      = if l.val ≤ t.val then
          ∑ h : Fin 8, max (∑ k : Fin 128, x0 (ix3 0 (row h t) k) * x34 (ix3 0 l k)) 0 * x1 (ix3 0 (row h t) 0)
        else Ideal.ofBits .f32 0xFF800000#32 := by
  rw [Fin.sum_univ_eight]
  pointwise [k0_pay77, k0_pay2]
  obtain ⟨e0, e1, e2, e3, e4, e5, e6, e7⟩ := rows t
  simp only [wcol_apply, e0, e1, e2, e3, e4, e5, e6, e7]
  have hl := l.isLt
  have ht := t.isLt
  have hc : IntOp.cmpi .sle (BitVec.ofNat 32 l.val) (BitVec.ofNat 32 t.val) = 1#1 ↔ l.val ≤ t.val := by
    rw [IntOp.cmpi_sle, BitVec.toInt_eq_toNat_of_lt (by simp; omega), BitVec.toInt_eq_toNat_of_lt (by simp; omega),
      BitVec.toNat_ofNat, BitVec.toNat_ofNat, Nat.mod_eq_of_lt (by omega), Nat.mod_eq_of_lt (by omega)]
    omega
  by_cases h : l.val ≤ t.val
  · rw [if_pos h]
    exact if_pos (hc.2 h)
  · rw [if_neg h]
    exact if_neg fun e => h (hc.1 e)

/-- A row of the key buffer that was copied in. -/
theorem keysIn_apply (xs : Vec Ideal S128x4096 .bf16) (pg : Fin 32 → Vec Ideal S1x1x64x128 .f32) (d : Fin 64) (j : Fin 32) (l : Fin 128) :
    keysIn xs pg (ix2 ⟨d.val, by omega⟩ ⟨j.val * 128 + l.val, by omega⟩) = pg j (ix4 0 0 d l) := by
  unfold keysIn
  have hd : ((ix2 (⟨d.val, by omega⟩ : Fin 128) (⟨j.val * 128 + l.val, by omega⟩ : Fin 4096) : S128x4096.Idx) 0).val < 64 := d.isLt
  rw [dif_pos hd]
  have ej : (⟨((ix2 (⟨d.val, by omega⟩ : Fin 128) (⟨j.val * 128 + l.val, by omega⟩ : Fin 4096) : S128x4096.Idx) 1).val / 128,
      Nat.div_lt_of_lt_mul (show _ < 128 * 32 from ((ix2 (⟨d.val, by omega⟩ : Fin 128) (⟨j.val * 128 + l.val, by omega⟩ : Fin 4096) : S128x4096.Idx) 1).isLt)⟩ : Fin 32) = j :=
    Fin.ext (show (j.val * 128 + l.val) / 128 = j.val by omega)
  rw [ej]
  refine (congrArg (k0_pay5 (pg j)) (?_ : _ = ix2 d l)).trans ?_
  · funext a
    refine Fin.ext ?_
    match a with
    | ⟨0, _⟩ => rfl
    | ⟨1, _⟩ => show (j.val * 128 + l.val) % 128 = l.val; omega
  · pointwise [k0_pay5]

theorem spread_apply (s : FVec Ideal S8x4096 .f32) (j : Fin 32) (t : Fin 8) (l : Fin 128) :
    spread s (ix4 0 j t l) = s (ix2 t ⟨j.val * 128 + l.val, by omega⟩) := by
  unfold spread
  exact congrArg s (funext fun a => Fin.ext (by match a with | ⟨0, _⟩ => rfl | ⟨1, _⟩ => rfl))

end Cert.KernelIdeal.Scores

end
-- ==== Proof.ScoresBlocks.lean ====
/-
  What the windows of a point hold: the queries, the scaled weights, the new keys, the pages the table names.
-/
module

public import proofs.«01_k».proof.Proof.ScoresOk
public import proofs.«01_k».proof.Proof.ScoresApply
public import Idealize.ShloMosaic.Lib.Pipeline.Value

@[expose] public section

set_option maxRecDepth 16384

noncomputable section

namespace Cert.KernelIdeal.Scores
open Cert.KernelIdeal.Gen
open Idealize.ShloMosaic Idealize.ShloMosaic.TcCoe Idealize.SL.Sem
open Idealize.ShloMosaic.Pipeline (Dat)
open Cert.Proof.ScoresRef (score scale)

variable (m : (ℓ : Loc nD τ sig) → Buf (Elt Ideal) ℓ) (ρ : Dev nD → PrngReg)

theorem zero_bf16 : FloatOps.sitofp (F := Ideal) FTy.bf16 (0#32) = (0 : EReal) := by
  show ((BitVec.toInt 0#32 : ℝ) : EReal) = 0
  simp

theorem zero_f32 : FloatOps.sitofp (F := Ideal) FTy.f32 (0#32) = (0 : EReal) := by
  show ((BitVec.toInt 0#32 : ℝ) : EReal) = 0
  simp

theorem row_split (h q : Fin 8) : (⟨(h.val * 8 + q.val) % 8, by omega⟩ : Fin 8) = q ∧ (⟨(h.val * 8 + q.val) / 8, by omega⟩ : Fin 8) = h :=
  ⟨Fin.ext (by show (h.val * 8 + q.val) % 8 = q.val; omega), Fin.ext (by show (h.val * 8 + q.val) / 8 = h.val; omega)⟩

/-- The queries as the host lays them out. -/
theorem padq (x : FVec Ideal S32x8x8x64 .f32) (b : Fin 32) (h q : Fin 8) (d : Fin 128) :
    (shapeCast S32x64x128 (transpose S32x8x8x128 [0, 2, 1, 3]
      (pad S32x8x8x128 ![0, 0, 0, 0] ![0, 0, 0, 64] ![0, 0, 0, 0]
        (truncf (F := Ideal) FTy.bf16 x bitsLt_bf16_f32)
        (sitofp (F := Ideal) FTy.bf16 (constantI S_ 32 0#32) : S_.Idx → EReal)
        pads_S32x8x8x64_S32x8x8x128_000_000_000_0640 h_S_ : FVec Ideal S32x8x8x128 .bf16)
      transposes_S32x8x8x128_S32x8x8x128_0_2_1_3)
      shapeCasts_S32x8x8x128_S32x64x128 (ix3 b (row h q) d) : EReal)
      = if hd : d.val < 64 then x (ix4 b q h ⟨d.val, hd⟩) else 0 := by
  pointwise
  simp only [zero_bf16, (row_split h q).1, (row_split h q).2]
  by_cases hd : d.val < 64
  · have hc : (h.val * 8 + q.val) % 8 < 8 ∧ (h.val * 8 + q.val) / 8 < 8 ∧ d.val < 64 := ⟨Nat.mod_lt _ (by decide), by omega, hd⟩
    rw [dif_pos hc, dif_pos hd]
  · have hc : ¬((h.val * 8 + q.val) % 8 < 8 ∧ (h.val * 8 + q.val) / 8 < 8 ∧ d.val < 64) := fun e => hd e.2.2
    rw [dif_neg hc, dif_neg hd]

/-- The new keys as the host lays them out. -/
theorem padk (x : FVec Ideal S32x8x64 .f32) (b : Fin 32) (l : Fin 8) (d : Fin 64) :
    (truncf (F := Ideal) FTy.bf16
        (pad S32x128x128 ![0, 0, 0] ![0, 120, 64] ![0, 0, 0] x
          (sitofp (F := Ideal) FTy.f32 (constantI S_ 32 0#32) : S_.Idx → EReal)
          pads_S32x8x64_S32x128x128_000_01200_0640 h_S_ : FVec Ideal S32x128x128 .f32)
      bitsLt_bf16_f32 (ix3 b ⟨l.val, by omega⟩ ⟨d.val, by omega⟩) : EReal) = x (ix3 b l d) := by
  pointwise

/-- The grid's coordinates. -/
theorem coords_eq : ∀ t : Fin grid0.N, (grid0.coords t 0).val = t.val / 5 ∧ (grid0.coords t 1).val = t.val % 5 := by decide +kernel

/-- The index maps that read no table. -/
theorem idx0 : ∀ t : Fin grid0.N, cc0_transform_0 (grid0.coords t) 0 = t.val / 5 ∧ cc0_transform_0 (grid0.coords t) 1 = 0
    ∧ cc0_transform_0 (grid0.coords t) 2 = 0 := by decide +kernel
theorem idx1 : ∀ t : Fin grid0.N, cc0_transform_1 (grid0.coords t) 0 = t.val / 5 ∧ cc0_transform_1 (grid0.coords t) 1 = 0
    ∧ cc0_transform_1 (grid0.coords t) 2 = 0 := by decide +kernel
theorem idx34 : ∀ t : Fin grid0.N, cc0_transform_34 (grid0.coords t) 0 = t.val / 5 ∧ cc0_transform_34 (grid0.coords t) 1 = 0
    ∧ cc0_transform_34 (grid0.coords t) 2 = 0 := by decide +kernel
theorem idx35 : ∀ t : Fin grid0.N, cc0_transform_35 (grid0.coords t) 0 = t.val / 5 ∧ cc0_transform_35 (grid0.coords t) 1 = t.val % 5
    ∧ cc0_transform_35 (grid0.coords t) 2 = 0 ∧ cc0_transform_35 (grid0.coords t) 3 = 0 := by decide +kernel

variable (hO : Ok m)

theorem tlt (t : Fin (cfgM m hO).N) : t.val < 160 := t.isLt

/-- The queries of a point, zero in the upper half. -/
theorem iblk0 (c : Dev nD) (t : Fin (cfgM m hO).N) (h q : Fin 8) (d : Fin 128) :
    iblk m hO c 0 t (ix3 0 (row h q) d)
      = if hd : d.val < 64 then m ((c : Thread nD τ).loc main_arg0) (ix4 ⟨t.val / 5, by have := tlt m hO t; omega⟩ q h ⟨d.val, hd⟩) else (0 : EReal) := by
  unfold iblk
  show ((V m c main_v3) ((((cfgM m hO).win 0).blk t).view.emb (ix3 0 (row h q) d)) : EReal) = _
  have e : (((cfgM m hO).win 0).blk t).view.emb (ix3 0 (row h q) d)
      = (ix3 ⟨t.val / 5, by have := tlt m hO t; omega⟩ (row h q) d : S32x64x128.Idx) := funext fun a => Fin.ext (by
    match a with
    | ⟨0, _⟩ => show cc0_transform_0 (grid0.coords t) 0 * 1 + 1 * 0 = t.val / 5
                rw [(idx0 t).1]; omega
    | ⟨1, _⟩ => show cc0_transform_0 (grid0.coords t) 1 * 64 + 1 * (h.val * 8 + q.val) = h.val * 8 + q.val
                rw [(idx0 t).2.1]; omega
    | ⟨2, _⟩ => show cc0_transform_0 (grid0.coords t) 2 * 128 + 1 * d.val = d.val
                rw [(idx0 t).2.2]; omega)
  rw [e]
  simp only [V, hostOps0, hostOps0_1, hostOps0_2, hostOps0_3, hostOps0_4, List.flatten_cons, List.flatten_nil, List.append_nil, List.cons_append, List.nil_append]
  entry_read
  exact padq _ _ h q d

/-- The weights of a point, scaled. -/
theorem iblk1 (c : Dev nD) (t : Fin (cfgM m hO).N) (h q : Fin 8) :
    iblk m hO c 1 t (ix3 0 (row h q) 0)
      = (show EReal from m ((c : Thread nD τ).loc main_arg1) (ix3 ⟨t.val / 5, by have := tlt m hO t; omega⟩ q h)) * scale := by
  unfold iblk
  show ((V m c main_v8) ((((cfgM m hO).win 1).blk t).view.emb (ix3 0 (row h q) 0)) : EReal) = _
  have e : (((cfgM m hO).win 1).blk t).view.emb (ix3 0 (row h q) 0)
      = (ix3 ⟨t.val / 5, by have := tlt m hO t; omega⟩ (row h q) 0 : S32x64x128.Idx) := funext fun a => Fin.ext (by
    match a with
    | ⟨0, _⟩ => show cc0_transform_1 (grid0.coords t) 0 * 1 + 1 * 0 = t.val / 5
                rw [(idx1 t).1]; omega
    | ⟨1, _⟩ => show cc0_transform_1 (grid0.coords t) 1 * 64 + 1 * (h.val * 8 + q.val) = h.val * 8 + q.val
                rw [(idx1 t).2.1]; omega
    | ⟨2, _⟩ => show cc0_transform_1 (grid0.coords t) 2 * 128 + 1 * 0 = 0
                rw [(idx1 t).2.2])
  rw [e]
  simp only [V, hostOps0, hostOps0_1, hostOps0_2, hostOps0_3, hostOps0_4, List.flatten_cons, List.flatten_nil, List.append_nil, List.cons_append, List.nil_append]
  entry_read
  pointwise
  rw [(row_split h q).1, (row_split h q).2]

/-- The new keys of a point. -/
theorem iblk34 (c : Dev nD) (t : Fin (cfgM m hO).N) (l : Fin 8) (d : Fin 64) :
    iblk m hO c 34 t (ix3 0 ⟨l.val, by omega⟩ ⟨d.val, by omega⟩)
      = (m ((c : Thread nD τ).loc main_arg2) (ix3 ⟨t.val / 5, by have := tlt m hO t; omega⟩ l d) : EReal) := by
  unfold iblk
  show ((V m c main_v10) ((((cfgM m hO).win 34).blk t).view.emb (ix3 0 ⟨l.val, by omega⟩ ⟨d.val, by omega⟩)) : EReal) = _
  have e : (((cfgM m hO).win 34).blk t).view.emb (ix3 0 ⟨l.val, by omega⟩ ⟨d.val, by omega⟩)
      = (ix3 ⟨t.val / 5, by have := tlt m hO t; omega⟩ ⟨l.val, by omega⟩ ⟨d.val, by omega⟩ : S32x128x128.Idx) := funext fun a => Fin.ext (by
    match a with
    | ⟨0, _⟩ => show cc0_transform_34 (grid0.coords t) 0 * 1 + 1 * 0 = t.val / 5
                rw [(idx34 t).1]; omega
    | ⟨1, _⟩ => show cc0_transform_34 (grid0.coords t) 1 * 128 + 1 * l.val = l.val
                rw [(idx34 t).2.1]; omega
    | ⟨2, _⟩ => show cc0_transform_34 (grid0.coords t) 2 * 128 + 1 * d.val = d.val
                rw [(idx34 t).2.2]; omega)
  rw [e]
  simp only [V, hostOps0, hostOps0_1, hostOps0_2, hostOps0_3, hostOps0_4, List.flatten_cons, List.flatten_nil, List.append_nil, List.cons_append, List.nil_append]
  entry_read
  exact padk _ _ l d

/-- The cache as the page windows find it. -/
theorem cacheT (c : Dev nD) (p : Fin 5120) (d : Fin 64) (l : Fin 128) :
    (V m c main_v11 (ix4 0 p d l) : EReal) = m ((c : Thread nD τ).loc main_arg3) (ix4 0 p l d) := by
  simp only [V, hostOps0, hostOps0_1, hostOps0_2, hostOps0_3, hostOps0_4, List.flatten_cons, List.flatten_nil, List.append_nil, List.cons_append, List.nil_append]
  entry_read
  pointwise

/-- The page number a page window reads at a point. -/
theorem pageNo_eq (t : Fin (cfgM m hO).N) (j : Fin 32) :
    pageNo (tbl m) (grid0.coords t) j = m (((0 : Dev nD) : Thread nD τ).loc main_arg4)
      (ix2 ⟨t.val / 5, by have := tlt m hO t; omega⟩ ⟨min (t.val % 5) 3 * 32 + j.val, by omega⟩) := by
  have hT : tbl m 0 = m (((0 : Dev nD) : Thread nD τ).loc main_arg4) := V_main_arg4 m 0
  unfold pageNo
  refine (congrArg (fun f : S32x128.Idx → BitVec 32 => f (Rect.point (Rect.unit (s := S32x128)
    (k0_off1 (grid0.coords t) (BitVec.ofNat 32 j.val)) S1x1.size (k0_off1_inb (grid0.coords t) j)) numel1_S1x1)) hT).trans ?_
  refine congrArg (m (((0 : Dev nD) : Thread nD τ).loc main_arg4)) (funext fun a => Fin.ext ?_)
  have e := off_eq (grid0.coords t) j
  match a with
  | ⟨0, _⟩ =>
    show k0_off1 (grid0.coords t) (BitVec.ofNat 32 j.val) 0 + 1 * 0 = t.val / 5
    rw [e, ← (coords_eq t).1]; rfl
  | ⟨1, _⟩ =>
    show k0_off1 (grid0.coords t) (BitVec.ofNat 32 j.val) 1 + 1 * 0 = min (t.val % 5) 3 * 32 + j.val
    rw [e, ← (coords_eq t).2]; rfl

/-- An element of a page's block, in the cache. -/
theorem page_cell (c : Dev nD) (p : ℕ) (h : p < 5120) (d : Fin 64) (l : Fin 128) (y : S1x5120x64x128.Idx) (h0 : (y 0).val = 0 * 1 + 1 * 0)
    (h1 : (y 1).val = p * 1 + 1 * 0) (h2 : (y 2).val = 0 * 64 + 1 * d.val) (h3 : (y 3).val = 0 * 128 + 1 * l.val) :
    (V m c main_v11 y : EReal) = m ((c : Thread nD τ).loc main_arg3) (ix4 0 ⟨p, h⟩ l d) := by
  refine Eq.trans (congrArg (V m c main_v11) (funext fun a => Fin.ext ?_ : y = ix4 0 ⟨p, h⟩ d l)) (cacheT m c ⟨p, h⟩ d l)
  match a with
  | ⟨0, _⟩ => exact h0
  | ⟨1, _⟩ => refine h1.trans ?_; show _ = p; omega
  | ⟨2, _⟩ => refine h2.trans ?_; show _ = d.val; omega
  | ⟨3, _⟩ => refine h3.trans ?_; show _ = l.val; omega

end Cert.KernelIdeal.Scores

end
-- ==== Proof.ScoresPage.lean ====
/-
  Which page of the cache each page window holds at a point.
-/
module

public import proofs.«01_k».proof.Proof.ScoresBlocks

@[expose] public section

set_option maxRecDepth 16384

noncomputable section

namespace Cert.KernelIdeal.Scores
open Cert.KernelIdeal.Gen
open Idealize.ShloMosaic Idealize.ShloMosaic.TcCoe Idealize.SL.Sem

variable (m : (ℓ : Loc nD τ sig) → Buf (Elt Ideal) ℓ) (hO : Ok m)

/-- The page of page window `j`, from the window's index map and where its block's elements lie. -/
theorem page_at (c : Dev nD) (t : Fin (cfgM m hO).N) (j : Fin 32) (h : (pageNo (tbl m) (grid0.coords t) j).toNat < 5120) (d : Fin 64) (l : Fin 128)
    (I : Fin 4 → ℕ) (hI : I = pageRow (tbl m) (grid0.coords t) j) (y : S1x5120x64x128.Idx) (h0 : (y 0).val = I 0 * 1 + 1 * 0)
    (h1 : (y 1).val = I 1 * 1 + 1 * 0) (h2 : (y 2).val = I 2 * 64 + 1 * d.val) (h3 : (y 3).val = I 3 * 128 + 1 * l.val) :
    (V m c main_v11 y : EReal) = m ((c : Thread nD τ).loc main_arg3) (ix4 0 ⟨(pageNo (tbl m) (grid0.coords t) j).toNat, h⟩ l d) := by
  subst hI
  exact page_cell m c _ h d l y h0 h1 h2 h3

set_option maxHeartbeats 4000000 in
/-- The page that page window `j` holds is the one the table names. -/
theorem pages_apply (c : Dev nD) (t : Fin (cfgM m hO).N) (d : Fin 64) (l : Fin 128) : ∀ (j : Fin 32)
    (h : (pageNo (tbl m) (grid0.coords t) j).toNat < 5120),
    (pages m hO c t j (ix4 0 0 d l) : EReal) = m ((c : Thread nD τ).loc main_arg3) (ix4 0 ⟨(pageNo (tbl m) (grid0.coords t) j).toNat, h⟩ l d) := by
  intro j h
  match j, h with
  | ⟨0, _⟩, h | ⟨1, _⟩, h | ⟨2, _⟩, h | ⟨3, _⟩, h | ⟨4, _⟩, h | ⟨5, _⟩, h | ⟨6, _⟩, h | ⟨7, _⟩, h
  | ⟨8, _⟩, h | ⟨9, _⟩, h | ⟨10, _⟩, h | ⟨11, _⟩, h | ⟨12, _⟩, h | ⟨13, _⟩, h | ⟨14, _⟩, h | ⟨15, _⟩, h
  | ⟨16, _⟩, h | ⟨17, _⟩, h | ⟨18, _⟩, h | ⟨19, _⟩, h | ⟨20, _⟩, h | ⟨21, _⟩, h | ⟨22, _⟩, h | ⟨23, _⟩, h
  | ⟨24, _⟩, h | ⟨25, _⟩, h | ⟨26, _⟩, h | ⟨27, _⟩, h | ⟨28, _⟩, h | ⟨29, _⟩, h | ⟨30, _⟩, h | ⟨31, _⟩, h =>
    refine page_at m hO c t _ h d l ?_ ?_ _ ?_ ?_ ?_ ?_
    pick_goal 3
    · exact rfl
    all_goals exact rfl
  | ⟨_ + 32, hn⟩, _ => exact absurd hn (by omega)

end Cert.KernelIdeal.Scores

end
-- ==== Proof.ScoresValue.lean ====
/-
  The scores through the page table: every block the kernel writes is the block of the reference's value.
-/
module

public import proofs.«01_k».proof.Proof.ScoresPage
public import Idealize.ShloMosaic.Lib.Pipeline.Value

@[expose] public section

set_option maxRecDepth 16384

noncomputable section

namespace Cert.KernelIdeal.Scores
open Cert.KernelIdeal.Gen
open Idealize.ShloMosaic Idealize.ShloMosaic.TcCoe Idealize.SL.Sem
open Cert.Proof.ScoresRef (score scale ref_past ref_new)

variable (m : (ℓ : Loc nD τ sig) → Buf (Elt Ideal) ℓ) (ρ : Dev nD → PrngReg) (hO : Ok m)
  (H : ∀ y : S32x128.Idx, (m (((0 : Dev nD) : Thread nD τ).loc main_arg4) y : BitVec 32).toNat < 5120)

/-- The key buffer after a page point, where it holds the pages. -/
theorem keysAt_apply (c : Dev nD) (n : ℕ) (hn : n < (cfgM m hO).N) (hp : n % 5 ≤ 3) (d : Fin 64) (j : Fin 32) (l : Fin 128) :
    keysAt m hO c n hn (ix2 ⟨d.val, by omega⟩ ⟨j.val * 128 + l.val, by omega⟩) = pages m hO c ⟨n, hn⟩ j (ix4 0 0 d l) := by
  cases n with
  | zero => exact keysIn_apply _ _ d j l
  | succ n =>
    unfold keysAt
    rw [if_pos hp]
    exact keysIn_apply _ _ d j l

/-- One head's share of a score: the products over the places that count, and the scaled weight. -/
theorem head_eq (x0 : Vec Ideal S1x64x128 .bf16) (x1 : Vec Ideal S1x64x128 .f32) (q h : Fin 8) (a k' : Fin 64 → EReal)
    (w : EReal) (k : Fin 128 → EReal)
    (h0 : ∀ d : Fin 128, x0 (ix3 0 (row h q) d) = if hd : d.val < 64 then a ⟨d.val, hd⟩ else (0 : EReal))
    (h1 : x1 (ix3 0 (row h q) 0) = w * scale) (hk : ∀ d : Fin 64, k ⟨d.val, by omega⟩ = k' d) :
    max (∑ d : Fin 128, x0 (ix3 0 (row h q) d) * k d) 0 * x1 (ix3 0 (row h q) 0)
      = max (∑ d, a d * k' d) 0 * (w * scale) := by
  rw [half _ k fun d hd => (h0 d).trans (dif_neg (by omega)), h1]
  congr 2
  refine Finset.sum_congr rfl fun d _ => ?_
  rw [hk, h0]
  exact congrArg (· * k' d) (dif_pos d.isLt)

/-- What a page point leaves in the output block. -/
theorem past_block (c : Dev nD) (t : Fin (cfgM m hO).N) (hp : t.val % 5 ≤ 3) (j : Fin 32) (q : Fin 8) (l : Fin 128)
    (h : (pageNo (tbl m) (grid0.coords t) j).toNat < 5120) :
    outAt m hO c t (ix4 0 j q l)
      = score (fun h d => m ((c : Thread nD τ).loc main_arg0) (ix4 ⟨t.val / 5, by have := tlt m hO t; omega⟩ q h d))
          (fun h => m ((c : Thread nD τ).loc main_arg1) (ix3 ⟨t.val / 5, by have := tlt m hO t; omega⟩ q h))
          (fun d => m ((c : Thread nD τ).loc main_arg3) (ix4 0 ⟨(pageNo (tbl m) (grid0.coords t) j).toNat, h⟩ l d)) := by
  unfold outAt
  rw [if_pos hp]
  unfold outPages score
  rw [spread_apply]
  refine (pay41_apply (iblk m hO c 0 t) (iblk m hO c 1 t) (keysAt m hO c t.val t.isLt) q ⟨j.val * 128 + l.val, by omega⟩).trans ?_
  refine Finset.sum_congr rfl fun h' _ => ?_
  exact head_eq _ _ q h' _ _ _ _ (fun d => iblk0 m hO c t h' q d) (iblk1 m hO c t h' q) fun d => (keysAt_apply m hO c t.val t.isLt hp d j l).trans (pages_apply m hO c t d l j h)

/-- What the new keys' point leaves in the output block. -/
theorem new_block (c : Dev nD) (t : Fin (cfgM m hO).N) (hp : ¬ t.val % 5 ≤ 3) (j : Fin 32) (q : Fin 8) (l : Fin 128) :
    outAt m hO c t (ix4 0 j q l)
      = if h : j.val = 0 ∧ l.val ≤ q.val then
          score (fun h d => m ((c : Thread nD τ).loc main_arg0) (ix4 ⟨t.val / 5, by have := tlt m hO t; omega⟩ q h d))
            (fun h => m ((c : Thread nD τ).loc main_arg1) (ix3 ⟨t.val / 5, by have := tlt m hO t; omega⟩ q h))
            (fun d => m ((c : Thread nD τ).loc main_arg2) (ix3 ⟨t.val / 5, by have := tlt m hO t; omega⟩ ⟨l.val, by omega⟩ d))
        else Ideal.ofBits .f32 0xFF800000#32 := by
  unfold outAt
  rw [if_neg hp]
  unfold outNew
  by_cases hj : j.val = 0
  · refine (if_pos hj).trans ?_
    refine (congrArg (k0_pay77 (F := Ideal) (k0_pay2 (wcol (iblk m hO c 1 t))) (iblk m hO c 0 t) (iblk m hO c 34 t))
      (?_ : _ = (ix4 0 0 q l : S1x1x8x128.Idx))).trans ?_
    · funext a
      refine Fin.ext ?_
      match a with | ⟨0, _⟩ => rfl | ⟨1, _⟩ => rfl | ⟨2, _⟩ => rfl | ⟨3, _⟩ => rfl
    refine (pay77_apply (iblk m hO c 0 t) (iblk m hO c 1 t) (iblk m hO c 34 t) q l).trans ?_
    by_cases hl : l.val ≤ q.val
    · rw [if_pos hl, dif_pos ⟨hj, hl⟩]
      unfold score
      refine Finset.sum_congr rfl fun h' _ => ?_
      exact head_eq _ _ q h' _ _ _ _ (fun d => iblk0 m hO c t h' q d) (iblk1 m hO c t h' q) fun d => iblk34 m hO c t ⟨l.val, by omega⟩ d
    · rw [if_neg hl, dif_neg fun e => hl e.2]
  · rw [dif_neg fun e => hj e.1]
    exact if_neg hj

/-- What the result array is shown to hold: the reference's value of the arguments. -/
abbrev G (c : Dev nD) : Buf (Elt Ideal) ((c : Thread nD τ).loc main_v12) :=
  Cert.ReferenceIdeal.Read.val_main_v33 (F := Ideal) (m ((c : Thread nD τ).loc main_arg0))
    (m ((c : Thread nD τ).loc main_arg1)) (m ((c : Thread nD τ).loc main_arg2)) (m ((c : Thread nD τ).loc main_arg3))
    (m ((c : Thread nD τ).loc main_arg4))

include H in
/-- A point's block of the output is the reference's. -/
theorem out_eq (c : Dev nD) (t : Fin (cfgM m hO).N) (j : Fin 32) (q : Fin 8) (l : Fin 128) :
    outAt m hO c t (ix4 0 j q l)
      = G m c (ix4 ⟨t.val / 5, by have := tlt m hO t; omega⟩ ⟨t.val % 5 * 32 + j.val, by omega⟩ q l) := by
  obtain rfl : c = 0 := Subsingleton.elim _ _
  unfold G
  by_cases hp : t.val % 5 ≤ 3
  · have e := pageNo_eq m hO t j
    have hi : (⟨min (t.val % 5) 3 * 32 + j.val, by omega⟩ : Fin 128) = ⟨t.val % 5 * 32 + j.val, by omega⟩ :=
      Fin.ext (by show min (t.val % 5) 3 * 32 + j.val = t.val % 5 * 32 + j.val; omega)
    rw [hi] at e
    have hlt : (pageNo (tbl m) (grid0.coords t) j).toNat < 5120 := by rw [e]; exact H _
    rw [past_block m hO 0 t hp j q l hlt,
      ref_past _ _ _ _ _ ⟨t.val / 5, by have := tlt m hO t; omega⟩ ⟨t.val % 5 * 32 + j.val, by omega⟩
        (by show t.val % 5 * 32 + j.val < 128; omega) q l (H _)]
    simp only [e]
  · rw [new_block m hO 0 t hp j q l, ref_new _ _ _ _ _ _ _ (by show 128 ≤ t.val % 5 * 32 + j.val; omega)]
    have hc : (j.val = 0 ∧ l.val ≤ q.val) ↔ (t.val % 5 * 32 + j.val = 128 ∧ l.val ≤ q.val) := by omega
    by_cases h : j.val = 0 ∧ l.val ≤ q.val
    · rw [dif_pos h, dif_pos (hc.1 h)]
    · rw [dif_neg h, dif_neg fun e => h (hc.2 e)]

/-- Where a point's block of the output lies in the result. -/
theorem emb35 (t : Fin (cfgM m hO).N) (j : Fin 32) (q : Fin 8) (l : Fin 128) :
    (((cfgM m hO).win 35).blk t).view.emb (ix4 0 j q l)
      = (ix4 ⟨t.val / 5, by have := tlt m hO t; omega⟩ ⟨t.val % 5 * 32 + j.val, by omega⟩ q l : S32x160x8x128.Idx) := funext fun a => Fin.ext (by
    match a with
    | ⟨0, _⟩ => show cc0_transform_35 (grid0.coords t) 0 * 1 + 1 * 0 = t.val / 5
                rw [(idx35 t).1]; omega
    | ⟨1, _⟩ => show cc0_transform_35 (grid0.coords t) 1 * 32 + 1 * j.val = t.val % 5 * 32 + j.val
                rw [(idx35 t).2.1]; omega
    | ⟨2, _⟩ => show cc0_transform_35 (grid0.coords t) 2 * 8 + 1 * q.val = q.val
                rw [(idx35 t).2.2.1]; omega
    | ⟨3, _⟩ => show cc0_transform_35 (grid0.coords t) 3 * 128 + 1 * l.val = l.val
                rw [(idx35 t).2.2.2]; omega)

include H in
theorem flushed_eq (c : Dev nD) (t : Fin (cfgM m hO).N) :
    (dats m hO 0 c).flushed 35 t = (((cfgM m hO).win 35).blk t).view.read (Elt Ideal) (G m c) := by
  show ((cfgM m hO).win 35).cut (grid0.coords t) ((dats m hO 0 c).after 35 t) = _
  rw [after0_35]
  have key : ∀ y : S1x32x8x128.Idx, outAt m hO c t y = G m c ((((cfgM m hO).win 35).blk t).view.emb y) := by
    intro y
    obtain ⟨a, j, q, l, rfl⟩ : ∃ (a : Fin 1) (j : Fin 32) (q : Fin 8) (l : Fin 128), y = ix4 a j q l := ⟨y 0, y 1, y 2, y 3, eq_ix4 y⟩
    obtain rfl : a = 0 := Subsingleton.elim _ _
    exact (out_eq m hO H c t j q l).trans (congrArg (G m c) (emb35 m hO t j q l)).symm
  exact funext key

/-- A cell of the result lies in the block of its point. -/
theorem mem_blk (t : Fin (cfgM m hO).N) (i : S32x160x8x128.Idx) (h0 : (i 0 : Nat) = t.val / 5)
    (h1 : (i 1 : Nat) / 32 = t.val % 5) : i ∈ (((cfgM m hO).win 35).blk t).view.set := by
  have ei : (ix4 ⟨t.val / 5, by have := tlt m hO t; omega⟩ ⟨t.val % 5 * 32 + (⟨(i 1 : Nat) % 32, by omega⟩ : Fin 32).val, by omega⟩
      (i 2) (i 3) : S32x160x8x128.Idx) = i := funext fun a => Fin.ext (by
    match a with
    | ⟨0, _⟩ => exact h0.symm
    | ⟨1, _⟩ => show t.val % 5 * 32 + (i 1 : Nat) % 32 = (i 1 : Nat); omega
    | ⟨2, _⟩ => rfl
    | ⟨3, _⟩ => rfl)
  have hm := View.emb_mem_set (((cfgM m hO).win 35).blk t).view (ix4 0 (⟨(i 1 : Nat) % 32, by omega⟩ : Fin 32) (i 2) (i 3))
  have e := (emb35 m hO t ⟨(i 1 : Nat) % 32, by omega⟩ (i 2) (i 3)).trans ei
  exact Eq.mp (congrArg (· ∈ (((cfgM m hO).win 35).blk t).view.set) e) hm

theorem cover (i : S32x160x8x128.Idx) :
    ∃ t : Fin (cfgM m hO).N, ((cfgM m hO).win 35).flush t = true ∧ i ∈ (((cfgM m hO).win 35).blk t).view.set := by
  have h0 : (i 0 : Nat) < 32 := (i 0).isLt
  have h1 : (i 1 : Nat) < 160 := (i 1).isLt
  have hn : (i 0 : Nat) * 5 + (i 1 : Nat) / 32 < (cfgM m hO).N := show _ < 160 by omega
  exact ⟨⟨_, hn⟩, flush0_35 (adm m hO) _, mem_blk m hO ⟨_, hn⟩ i
    (show (i 0 : Nat) = ((i 0 : Nat) * 5 + (i 1 : Nat) / 32) / 5 by omega)
    (show (i 1 : Nat) / 32 = ((i 0 : Nat) * 5 + (i 1 : Nat) / 32) % 5 by omega)⟩

include H in
theorem final (c : Dev nD) : (dats m hO 0 c).arrAt 35 (cfgM m hO).N = G m c :=
  (dats m hO 0 c).arrAt_eq_of_cover 35 (G m c) (fun t _ => flushed_eq m hO H c t) (cover m hO)

include H in
/-- The run, read: the result array at the reference's value, the arguments unchanged. -/
theorem run (hO : Ok m) : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 35).trans (final m hO H c), h.2 c⟩)
    (θ_run_and (run_main m ρ hO) (unchanged m ρ hO))

end Cert.KernelIdeal.Scores

namespace Cert.Proof.ScoresClaims
open Idealize.ShloMosaic Idealize.SL.Sem

theorem frame_r_pre : Cert.quiescent_ReferenceIdeal_pre_pages_exist := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Kernel and reference end with one array. -/
theorem algebraic : Cert.algebraic_KernelIdeal_ReferenceIdeal := by
  intro m ρ m' ρ' hpre hagree
  have H := fun y => Cert.KernelIdeal.Scores.lt_of_pre _ (hpre 0) y
  refine ⟨fun c => Cert.KernelIdeal.Scores.G m c, Cert.KernelIdeal.Scores.run m ρ H (ok_of_pre m hpre), ?_⟩
  refine (θ_run Cert.ReferenceIdeal.defs _ _).mono (fun _ h c => ⟨(h c).1.trans ?_, (h c).2⟩)
    (Cert.ReferenceIdeal.Value.run (F := Ideal) m' ρ')
  show _ = Cert.KernelIdeal.Scores.G m c
  unfold Cert.KernelIdeal.Scores.G
  rw [← (hagree c).1, ← (hagree c).2.1, ← (hagree c).2.2.1, ← (hagree c).2.2.2.1, ← (hagree c).2.2.2.2]
  exact Cert.ReferenceIdeal.Read.val_main_v33_eq _ _ _ _ _

end Cert.Proof.ScoresClaims

end
-- ==== Proof.Rows.lean ====
/-
  Layer norm of one row, in the operations' order: the mean of the row, the mean of the squared differences, the
  reciprocal square root of that plus the literal, times the gain, plus the shift.
-/
module

public import Idealize.ShloMosaic.Lib.Pointwise

@[expose] public section

noncomputable section

open Idealize.ShloMosaic

namespace Cert.Rows

/-- The mean of a row of 1024. -/
def mean (y : Fin 1024 → EReal) : EReal := Ideal.div (∑ k, y k) (Ideal.ofBits .f32 0x44800000#32)

/-- The mean of the squared differences from the mean. -/
def var (y : Fin 1024 → EReal) : EReal :=
  Ideal.div (∑ k, (y k - mean y) * (y k - mean y)) (Ideal.ofBits .f32 0x44800000#32)

/-- Layer norm of the row `y` at column `l`. -/
def norm (y : Fin 1024 → EReal) (g b : Fin 1024 → EReal) (l : Fin 1024) : EReal :=
  (y l - mean y) * Ideal.rsqrt (var y + Ideal.ofBits .f32 0x3727C5AC#32) * g l + b l

/-- The residual sum: the literal times the row, plus the layer's output. -/
def res (x z : Fin 1024 → EReal) (l : Fin 1024) : EReal := Ideal.ofBits .f32 0x3FB504F3#32 * x l + z l

/-- One gated entry of the feed-forward layer. -/
def gate (x : Fin 1024 → EReal) (w : Fin 1024 → Fin 5632 → EReal) (n : Fin 2816) : EReal :=
  (∑ k, x k * w k ⟨n.val, by omega⟩) * Ideal.logistic (∑ k, x k * w k ⟨n.val, by omega⟩)
    * ∑ k, x k * w k ⟨2816 + n.val, by omega⟩

/-- The feed-forward layer of one row at column `l`. -/
def ffn (x : Fin 1024 → EReal) (w : Fin 1024 → Fin 5632 → EReal) (v : Fin 2816 → Fin 1024 → EReal) (l : Fin 1024) : EReal :=
  ∑ n, gate x w n * v n l

/-- The integer zero, read as a number. -/
theorem zero_int : FloatOps.sitofp (F := Ideal) FTy.f32 (0#32) = (0 : EReal) := by
  show ((BitVec.toInt 0#32 : ℝ) : EReal) = 0
  simp

/-- Column `o + l` of the input projection of one row. -/
def cols (x : Fin 1024 → EReal) (w : Fin 1024 → Fin 3656 → EReal) (o : Fin 2633) (l : Fin 1024) : EReal :=
  ∑ k, x k * w k ⟨o.val + l.val, by omega⟩

/-- The index key and the head weights of one row, 72 columns, padded with zeros to 128. -/
def tail (x : Fin 1024 → EReal) (w : Fin 1024 → Fin 3656 → EReal) (l : Fin 128) : EReal :=
  if h : l.val < 72 then ∑ k, x k * w k ⟨3584 + l.val, by omega⟩ else 0

/-- The same with the weight padded instead of the result. -/
theorem tail_eq (x : Fin 1024 → EReal) (w : Fin 1024 → Fin 3656 → EReal) (v : Fin 1024 → Fin 128 → EReal)
    (hv : ∀ k l, v k l = if h : l.val < 72 then w k ⟨3584 + l.val, by omega⟩ else 0) (l : Fin 128) :
    ∑ k, x k * v k l = tail x w l := by
  unfold tail
  by_cases h : l.val < 72
  · simp only [hv, dif_pos h]
  · simp only [hv, dif_neg h, mul_zero, Finset.sum_const_zero]

end Cert.Rows

end
-- ==== Proof.Ffn.lean ====
/-
  The feed-forward layer with residual and layer norm: every row block the kernel writes is the row block of the reference's value.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Read
public import proofs.«01_k».proof.Proof.Rows
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The row before the norm: the residual plus the feed-forward layer. -/
def row (x : Fin 1024 → EReal) (w : Fin 1024 → Fin 5632 → EReal) (v : Fin 2816 → Fin 1024 → EReal) : Fin 1024 → EReal :=
  Cert.Rows.res x (Cert.Rows.ffn x w v)

/-- A sum of eleven terms, added one after the other. -/
theorem sum11 (g : Fin 11 → EReal) :
    ∑ c, g c = g 0 + g 1 + g 2 + g 3 + g 4 + g 5 + g 6 + g 7 + g 8 + g 9 + g 10 := by
  simp only [Fin.sum_univ_castSucc, Fin.sum_univ_zero, zero_add]
  rfl

/-- The 2816 hidden columns are eleven tiles of 256. -/
theorem sum_tiles (f : Fin 2816 → EReal) : ∑ n, f n = ∑ c : Fin 11, ∑ j : Fin 256, f ⟨c.val * 256 + j.val, by omega⟩ :=
  Fin.sum_univ_tiles 11 256 (by decide) f

/-- The product the body accumulates over its eleven tiles. -/
def acc (x0 : Vec Ideal S512x1024 .f32) (x1 : Vec Ideal S1024x5632 .bf16) (x2 : Vec Ideal S2816x1024 .bf16)
    (x3 x4 : Vec Ideal S1x1024 .f32) : FVec Ideal S512x1024 .f32 :=
  have v0 := (View.ld x0 r0_0)
  have v1 := (k0_pay12 x0 x1 x2 x3 x4)
  have v142 := (k0_pay10 (k0_pay12 x0 x1 x2 x3 x4) (k0_pay7 (k0_pay12 x0 x1 x2 x3 x4) (k0_pay4 (k0_pay12 x0 x1 x2 x3 x4) (k0_pay2 (View.ld x0 r0_0) (View.ld x1 r0_1) (View.ld x1 r0_2) (View.ld x2 r0_3) (View.ld x1 r0_4) (View.ld x1 r0_5) (View.ld x2 r0_6)) (k0_pay3 (View.ld x0 r0_0) (View.ld x1 r0_7)) (View.ld x1 r0_8) (View.ld x2 r0_9) (View.ld x1 r0_10) (View.ld x1 r0_11) (View.ld x2 r0_12)) (k0_pay5 (k0_pay12 x0 x1 x2 x3 x4) (View.ld x1 r0_13) (View.ld x1 r0_14)) (k0_pay6 (View.ld x2 r0_15)) (constant S512x1024 .f32 0x00000000#32) (View.ld x1 r0_16) (View.ld x1 r0_17) (View.ld x2 r0_18) (View.ld x1 r0_19) (View.ld x1 r0_20) (View.ld x2 r0_21)) (k0_pay8 (k0_pay12 x0 x1 x2 x3 x4) (View.ld x1 r0_22)) (k0_pay9 (k0_pay12 x0 x1 x2 x3 x4) (View.ld x1 r0_23)) (View.ld x2 r0_24) (View.ld x1 r0_25) (View.ld x1 r0_26) (View.ld x2 r0_27) (View.ld x1 r0_28) (View.ld x1 r0_29) (View.ld x2 r0_30))
  have v143 := (View.ld x1 r0_31)
  have v146 := (View.ld x1 r0_32)
  have v153 := (View.ld x2 r0_33)
  have v144 : FVec Ideal S1024x256 .bf16 := shapeCast S1024x256 v143 shapeCasts_S1024x256_S1024x256
  have cst_73 : FVec Ideal S512x256 .f32 := constant S512x256 .f32 0x00000000#32
  have v145 : FVec Ideal S512x256 .f32 := matmul dot_S512x1024_S1024x256_S512x256_1_0_0_1_n_n none v1 v144 cst_73
  have v147 : FVec Ideal S1024x256 .bf16 := shapeCast S1024x256 v146 shapeCasts_S1024x256_S1024x256
  have cst_75 : FVec Ideal S512x256 .f32 := constant S512x256 .f32 0x00000000#32
  have v148 : FVec Ideal S512x256 .f32 := matmul dot_S512x1024_S1024x256_S512x256_1_0_0_1_n_n none v1 v147 cst_75
  have v149 : FVec Ideal S512x256 .f32 := logistic v145
  have v150 : FVec Ideal S512x256 .f32 := mulf v145 v149
  have v151 : FVec Ideal S512x256 .f32 := mulf v150 v148
  have v152 : FVec Ideal S512x256 .bf16 := truncf .bf16 v151 bitsLt_bf16_f32
  have v154 : FVec Ideal S256x1024 .bf16 := shapeCast S256x1024 v153 shapeCasts_S256x1024_S256x1024
  have cst_78 : FVec Ideal S512x1024 .f32 := constant S512x1024 .f32 0x00000000#32
  have v155 : FVec Ideal S512x1024 .f32 := matmul dot_S512x256_S256x1024_S512x1024_1_0_0_1_n_n none v152 v154 cst_78
  have v156 : FVec Ideal S512x1024 .f32 := addf v142 v155
  v156

theorem acc_apply (x0 : Vec Ideal S512x1024 .f32) (x1 : Vec Ideal S1024x5632 .bf16) (x2 : Vec Ideal S2816x1024 .bf16)
    (x3 x4 : Vec Ideal S1x1024 .f32) (r : Fin 512) (l : Fin 1024) :
    acc x0 x1 x2 x3 x4 (ix2 r l)
      = Cert.Rows.ffn (fun k => x0 (ix2 r k)) (fun k n => x1 (ix2 k n)) (fun k n => x2 (ix2 k n)) l := by
  unfold Cert.Rows.ffn
  rw [sum_tiles, sum11]
  unfold Cert.Rows.gate
  pointwise [acc, k0_pay12, k0_pay1, k0_pay2, k0_pay3, k0_pay4, k0_pay5, k0_pay6, k0_pay7, k0_pay8, k0_pay9, k0_pay10]
  simp only [← Nat.add_assoc, Nat.reduceAdd]

/-- The norm over the body's rows, in the operations' order. -/
def tail (v159 : FVec Ideal S512x1024 .f32) (v160 v162 : Vec Ideal S1x1024 .f32) : FVec Ideal S512x1024 .f32 :=
  have v161 : FVec Ideal S1x1024 .f32 := shapeCast S1x1024 v160 shapeCasts_S1x1024_S1x1024
  have v163 : FVec Ideal S1x1024 .f32 := shapeCast S1x1024 v162 shapeCasts_S1x1024_S1x1024
  have v164 : FVec Ideal S512 .f32 := multiReduction .add [1] S512 v159 0x00000000#32 reduces_S512x1024_S512 (.inl rfl) rfl
  have v165 : FVec Ideal S512x1 .f32 := shapeCast S512x1 v164 shapeCasts_S512_S512x1
  have cst_85 : Ideal .f32 := Scalar.ofBits .f32 0x44800000#32
  have v166 : FVec Ideal S512x1 .f32 := broadcast S512x1 cst_85
  have v167 : FVec Ideal S512x1 .f32 := divf v165 v166
  have v168 : FVec Ideal S512x1024 .f32 := broadcastTo S512x1024 v167 broadcasts_S512x1_S512x1024
  have v169 : FVec Ideal S512x1024 .f32 := subf v159 v168
  have v170 : FVec Ideal S512x1024 .f32 := mulf v169 v169
  have v171 : FVec Ideal S512 .f32 := multiReduction .add [1] S512 v170 0x00000000#32 reduces_S512x1024_S512 (.inl rfl) rfl
  have v172 : FVec Ideal S512x1 .f32 := shapeCast S512x1 v171 shapeCasts_S512_S512x1
  have cst_87 : Ideal .f32 := Scalar.ofBits .f32 0x44800000#32
  have v173 : FVec Ideal S512x1 .f32 := broadcast S512x1 cst_87
  have v174 : FVec Ideal S512x1 .f32 := divf v172 v173
  have cst_88 : Ideal .f32 := Scalar.ofBits .f32 0x3727C5AC#32
  have v175 : FVec Ideal S512x1 .f32 := broadcast S512x1 cst_88
  have v176 : FVec Ideal S512x1 .f32 := addf v174 v175
  have v177 : FVec Ideal S512x1 .f32 := rsqrt v176
  have v178 : FVec Ideal S512x1024 .f32 := broadcastTo S512x1024 v177 broadcasts_S512x1_S512x1024
  have v179 : FVec Ideal S512x1024 .f32 := mulf v169 v178
  have v180 : FVec Ideal S512x1024 .f32 := broadcastTo S512x1024 v161 broadcasts_S1x1024_S512x1024
  have v181 : FVec Ideal S512x1024 .f32 := mulf v179 v180
  have v182 : FVec Ideal S512x1024 .f32 := broadcastTo S512x1024 v163 broadcasts_S1x1024_S512x1024
  have v183 : FVec Ideal S512x1024 .f32 := addf v181 v182
  v183

theorem tail_apply (y : FVec Ideal S512x1024 .f32) (x3 x4 : Vec Ideal S1x1024 .f32) (r : Fin 512) (l : Fin 1024) :
    tail y x3 x4 (ix2 r l) = Cert.Rows.norm (fun k => y (ix2 r k)) (fun n => x3 (ix2 0 n)) (fun n => x4 (ix2 0 n)) l := by
  unfold Cert.Rows.norm Cert.Rows.var Cert.Rows.mean
  pointwise [tail]

/-- The block the body stores, at an index. -/
theorem out_apply (x0 : Vec Ideal S512x1024 .f32) (x1 : Vec Ideal S1024x5632 .bf16) (x2 : Vec Ideal S2816x1024 .bf16)
    (x3 x4 : Vec Ideal S1x1024 .f32) (r : Fin 512) (l : Fin 1024) :
    out0_5 x0 x1 x2 x3 x4 (ix2 r l)
      = Cert.Rows.norm (row (fun k => x0 (ix2 r k)) (fun k n => x1 (ix2 k n)) (fun k n => x2 (ix2 k n)))
          (fun n => x3 (ix2 0 n)) (fun n => x4 (ix2 0 n)) l := by
  unfold out0_5
  rw [View.canon_unit_zero hz]
  show tail (addf (mulf (broadcast S512x1024 (Scalar.ofBits .f32 0x3FB504F3#32)) (View.ld x0 r0_0)) (acc x0 x1 x2 x3 x4))
    (View.ld x3 r0_34) (View.ld x4 r0_34) (ix2 r l) = _
  rw [tail_apply, View.ld_unit_zero hz, View.ld_unit_zero hz, View.ld_unit_zero hz]
  unfold row Cert.Rows.res
  simp only [← acc_apply (x3 := x3) (x4 := x4)]
  pointwise

/-- The reference's row before the norm, at an index. -/
theorem ref_row (x : FVec Ideal S16384x1024 .f32) (w : FVec Ideal S1024x5632 .f32) (v : FVec Ideal S2816x1024 .f32)
    (r : Fin 16384) (l : Fin 1024) :
    Cert.Reference2Ideal.Read.val_main_v8 (F := Ideal) x w v (ix2 r l)
      = row (fun k => x (ix2 r k)) (fun k n => w (ix2 k n)) (fun k n => v (ix2 k n)) l := by
  unfold row Cert.Rows.res Cert.Rows.ffn Cert.Rows.gate Ideal.logistic
  pointwise [Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_call0_v5, Cert.Reference2Ideal.Read.val_main_call0_v4, Cert.Reference2Ideal.Read.val_main_call0_v3, Cert.Reference2Ideal.Read.val_main_call0_v2, Cert.Reference2Ideal.Read.val_main_call0_v1, Cert.Reference2Ideal.Read.val_main_call0_v0, Cert.Reference2Ideal.Read.val_main_call0_cst, Cert.Reference2Ideal.Read.val_main_call0_cst_0, Cert.Reference2Ideal.Read.val_main_cst]

/-- The reference's value, at an index. -/
theorem ref_apply (x : FVec Ideal S16384x1024 .f32) (w : FVec Ideal S1024x5632 .f32) (v : FVec Ideal S2816x1024 .f32)
    (g e : FVec Ideal S1024 .f32) (r : Fin 16384) (l : Fin 1024) :
    Cert.Reference2Ideal.Read.val_main_v32 (F := Ideal) x w v g e (ix2 r l)
      = Cert.Rows.norm (row (fun k => x (ix2 r k)) (fun k n => w (ix2 k n)) (fun k n => v (ix2 k n)))
          (fun n => g (ix1 n)) (fun n => e (ix1 n)) l := by
  unfold Cert.Rows.norm Cert.Rows.var Cert.Rows.mean
  simp only [← ref_row]
  pointwise [Cert.Reference2Ideal.Read.val_main_v32, Cert.Reference2Ideal.Read.val_main_v31, Cert.Reference2Ideal.Read.val_main_v30, Cert.Reference2Ideal.Read.val_main_v29, Cert.Reference2Ideal.Read.val_main_v28, Cert.Reference2Ideal.Read.val_main_v27, Cert.Reference2Ideal.Read.val_main_v26, Cert.Reference2Ideal.Read.val_main_v25, Cert.Reference2Ideal.Read.val_main_v24, Cert.Reference2Ideal.Read.val_main_v23, Cert.Reference2Ideal.Read.val_main_v22, Cert.Reference2Ideal.Read.val_main_v21, Cert.Reference2Ideal.Read.val_main_v20, Cert.Reference2Ideal.Read.val_main_v19, Cert.Reference2Ideal.Read.val_main_v18, Cert.Reference2Ideal.Read.val_main_v17, Cert.Reference2Ideal.Read.val_main_v16, Cert.Reference2Ideal.Read.val_main_v15, Cert.Reference2Ideal.Read.val_main_v14, Cert.Reference2Ideal.Read.val_main_v13, Cert.Reference2Ideal.Read.val_main_v12, Cert.Reference2Ideal.Read.val_main_v11, Cert.Reference2Ideal.Read.val_main_v10, Cert.Reference2Ideal.Read.val_main_v9, Cert.Reference2Ideal.Read.val_main_cst_0, Cert.Reference2Ideal.Read.val_main_cst_1, Cert.Reference2Ideal.Read.val_main_cst_2, Cert.Reference2Ideal.Read.val_main_cst_3, Cert.Reference2Ideal.Read.val_main_cst_4]

/-- What the result array is shown to hold: the reference's value of the arguments. -/
abbrev G (c : Dev nD) : Buf (Elt Ideal) ((c : Thread nD τ).loc main_v4) :=
  Cert.Reference2Ideal.Read.val_main_v32 (F := Ideal) (m ((c : Thread nD τ).loc main_arg0))
    (m ((c : Thread nD τ).loc main_arg1)) (m ((c : Thread nD τ).loc main_arg2)) (m ((c : Thread nD τ).loc main_arg3))
    (m ((c : Thread nD τ).loc main_arg4))

/-- The index maps over the grid: the row windows step, the others stay. -/
theorem idx_row : ∀ t : Fin cfg0.N, (win0_0.index t 0 = t.val ∧ win0_0.index t 1 = 0)
    ∧ (win0_5.index t 0 = t.val ∧ win0_5.index t 1 = 0) := by decide +kernel
theorem idx_whole : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) := by decide +kernel

theorem tlt (t : Fin cfg0.N) : t.val < 32 := by have := t.isLt; have h : cfg0.N = 32 := N_0; omega

theorem iblk0 (c : Dev nD) (t : Fin cfg0.N) (r : Fin 512) (k : Fin 1024) :
    iblk m c 0 t (ix2 r k) = m ((c : Thread nD τ).loc main_arg0) (ix2 ⟨t.val * 512 + r.val, by have := tlt t; omega⟩ k) := by
  unfold iblk
  show (V m c main_arg0) (((cfg0.win 0).blk t).view.emb (ix2 r k)) = _
  rw [V_main_arg0]
  refine congrArg _ (funext fun a => Fin.ext ?_)
  match a with
  | ⟨0, _⟩ => show win0_0.index t 0 * 512 + 1 * r.val = t.val * 512 + r.val
              rw [(idx_row t).1.1]; omega
  | ⟨1, _⟩ => show win0_0.index t 1 * 1024 + 1 * k.val = k.val
              rw [(idx_row t).1.2]; omega

theorem iblk1 (c : Dev nD) (t : Fin cfg0.N) (k : Fin 1024) (n : Fin 5632) :
    iblk m c 1 t (ix2 k n) = m ((c : Thread nD τ).loc main_arg1) (ix2 k n) := by
  unfold iblk
  show (V m c main_v0) (((cfg0.win 1).blk t).view.emb (ix2 k n)) = _
  entry_read
  refine (congrArg (m ((c : Thread nD τ).loc main_arg1)) (funext fun a => Fin.ext ?_) :)
  match a with
  | ⟨0, _⟩ => show win0_1.index t 0 * 1024 + 1 * k.val = k.val
              rw [(idx_whole t).1.1]; omega
  | ⟨1, _⟩ => show win0_1.index t 1 * 5632 + 1 * n.val = n.val
              rw [(idx_whole t).1.2]; omega

theorem iblk2 (c : Dev nD) (t : Fin cfg0.N) (k : Fin 2816) (n : Fin 1024) :
    iblk m c 2 t (ix2 k n) = m ((c : Thread nD τ).loc main_arg2) (ix2 k n) := by
  unfold iblk
  show (V m c main_v1) (((cfg0.win 2).blk t).view.emb (ix2 k n)) = _
  entry_read
  refine (congrArg (m ((c : Thread nD τ).loc main_arg2)) (funext fun a => Fin.ext ?_) :)
  match a with
  | ⟨0, _⟩ => show win0_2.index t 0 * 2816 + 1 * k.val = k.val
              rw [(idx_whole t).2.1.1]; omega
  | ⟨1, _⟩ => show win0_2.index t 1 * 1024 + 1 * n.val = n.val
              rw [(idx_whole t).2.1.2]; omega

theorem iblk3 (c : Dev nD) (t : Fin cfg0.N) (n : Fin 1024) :
    iblk m c 3 t (ix2 0 n) = m ((c : Thread nD τ).loc main_arg3) (ix1 n) := by
  unfold iblk
  show (V m c main_v2) (((cfg0.win 3).blk t).view.emb (ix2 0 n)) = _
  have e : ((cfg0.win 3).blk t).view.emb (ix2 0 n) = (ix2 0 n : S1x1024.Idx) := funext fun a => Fin.ext (by
    match a with
    | ⟨0, _⟩ => show win0_3.index t 0 * 1 + 1 * 0 = 0
                rw [(idx_whole t).2.2.1.1]
    | ⟨1, _⟩ => show win0_3.index t 1 * 1024 + 1 * n.val = n.val
                rw [(idx_whole t).2.2.1.2]; omega)
  rw [e]
  entry_read
  pointwise

theorem iblk4 (c : Dev nD) (t : Fin cfg0.N) (n : Fin 1024) :
    iblk m c 4 t (ix2 0 n) = m ((c : Thread nD τ).loc main_arg4) (ix1 n) := by
  unfold iblk
  show (V m c main_v3) (((cfg0.win 4).blk t).view.emb (ix2 0 n)) = _
  have e : ((cfg0.win 4).blk t).view.emb (ix2 0 n) = (ix2 0 n : S1x1024.Idx) := funext fun a => Fin.ext (by
    match a with
    | ⟨0, _⟩ => show win0_4.index t 0 * 1 + 1 * 0 = 0
                rw [(idx_whole t).2.2.2.1]
    | ⟨1, _⟩ => show win0_4.index t 1 * 1024 + 1 * n.val = n.val
                rw [(idx_whole t).2.2.2.2]; omega)
  rw [e]
  entry_read
  pointwise

theorem flushed_eq (c : Dev nD) (t : Fin cfg0.N) :
    (dats m 0 c).flushed 5 t = (win0_5.blk t).view.read (Elt Ideal) (G m c) := by
  show (cfg0.win 5).cut (grid0.coords t) ((dats m 0 c).after 5 t) = _
  rw [after0_5]
  funext y
  obtain ⟨r, l, rfl⟩ : ∃ (r : Fin 512) (l : Fin 1024), y = ix2 r l := ⟨y 0, y 1, eq_ix2 y⟩
  show out0_5 (iblk m c 0 t) (iblk m c 1 t) (iblk m c 2 t) (iblk m c 3 t) (iblk m c 4 t) (ix2 r l) = G m c ((win0_5.blk t).view.emb (ix2 r l))
  have e : (win0_5.blk t).view.emb (ix2 r l)
      = (ix2 ⟨t.val * 512 + r.val, by have := tlt t; omega⟩ l : S16384x1024.Idx) := funext fun a => Fin.ext (by
    match a with
    | ⟨0, _⟩ => show win0_5.index t 0 * 512 + 1 * r.val = t.val * 512 + r.val
                rw [(idx_row t).2.1]; omega
    | ⟨1, _⟩ => show win0_5.index t 1 * 1024 + 1 * l.val = l.val
                rw [(idx_row t).2.2]; omega)
  rw [e, out_apply]
  unfold G
  rw [ref_apply]
  simp only [iblk0, iblk1, iblk2, iblk3, iblk4]

theorem mem_blk (t : Fin cfg0.N) (i : S16384x1024.Idx) :
    i ∈ ((cfg0.win 5).blk t).view.set ↔ t.val * 512 ≤ (i 0 : Nat) ∧ (i 0 : Nat) < t.val * 512 + 512 := by
  show i ∈ ((View.whole main_v4).slice (win0_5.rect t)).set ↔ _
  rw [View.set_slice_whole, Rect.mem_set_unit]
  have h1 : (i 1 : Nat) < 1024 := (i 1).isLt
  have e0 := (idx_row t).2.1
  have e1 := (idx_row t).2.2
  refine ⟨fun h => ?_, fun h a => ?_⟩
  · have : win0_5.index t 0 * 512 ≤ (i 0 : Nat) ∧ (i 0 : Nat) < win0_5.index t 0 * 512 + 512 := h 0
    rw [e0] at this; exact this
  · match a with
    | ⟨0, _⟩ => show win0_5.index t 0 * 512 ≤ (i 0 : Nat) ∧ (i 0 : Nat) < win0_5.index t 0 * 512 + 512
                rw [e0]; exact h
    | ⟨1, _⟩ => show win0_5.index t 1 * 1024 ≤ (i 1 : Nat) ∧ (i 1 : Nat) < win0_5.index t 1 * 1024 + 1024
                rw [e1, Nat.zero_mul, Nat.zero_add]; exact ⟨Nat.zero_le _, h1⟩

theorem cover (i : S16384x1024.Idx) :
    ∃ t : Fin cfg0.N, (cfg0.win 5).flush t = true ∧ i ∈ ((cfg0.win 5).blk t).view.set := by
  have h0 : (i 0 : Nat) < 16384 := (i 0).isLt
  have hN : cfg0.N = 32 := N_0
  refine ⟨⟨(i 0 : Nat) / 512, by omega⟩, flush0_5 _, ?_⟩
  rw [mem_blk]
  dsimp only
  omega

theorem final (c : Dev nD) : (dats m 0 c).arrAt 5 cfg0.N = G m c :=
  (dats m 0 c).arrAt_eq_of_cover 5 (G m c) (fun t _ => flushed_eq m c t) cover

/-- The run, read: the result array at the reference's value, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final m c), h.2 c⟩)
    (θ_run_and (run_main m ρ) (unchanged m ρ))

end Cert.Kernel2Ideal.Ffn

namespace Cert.Proof.FfnClaims

/-- The frames: the generated ones, and the reference's own run. -/
theorem frame_k : Cert.quiescent_Kernel2 := fun m ρ _ => Cert.Kernel2.Gen.frame m ρ
theorem frame_i : Cert.quiescent_Kernel2Ideal := fun m ρ _ => Cert.Kernel2Ideal.Gen.frame m ρ
theorem frame_r : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The idealization changed nothing. -/
theorem preserves : Cert.preserves_Kernel2_Kernel2Ideal := trivial

/-- Kernel and reference end with one array. -/
theorem algebraic : Cert.algebraic_Kernel2Ideal_Reference2Ideal := by
  intro m ρ m' ρ' _ hagree
  refine ⟨fun c => Cert.Kernel2Ideal.Ffn.G m c, Cert.Kernel2Ideal.Ffn.run m ρ, ?_⟩
  refine (θ_run Cert.Reference2Ideal.defs _ _).mono (fun _ h c => ⟨(h c).1.trans ?_, (h c).2⟩)
    (Cert.Reference2Ideal.Value.run (F := Ideal) m' ρ')
  show _ = Cert.Kernel2Ideal.Ffn.G m c
  unfold Cert.Kernel2Ideal.Ffn.G
  rw [← (hagree c).1, ← (hagree c).2.1, ← (hagree c).2.2.1, ← (hagree c).2.2.2.1, ← (hagree c).2.2.2.2]
  exact Cert.Reference2Ideal.Read.val_main_v32_eq _ _

end Cert.Proof.FfnClaims

end
-- ==== Proof.Glu.lean ====
/-
  The gated linear unit: every row block the kernel writes is the row block of the reference's value.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Read
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Glu

open Cert.Kernel3Ideal Cert.Kernel3Ideal.Gen

variable (m : (ℓ : Loc nD τ sig) → Buf (Elt Ideal) ℓ) (ρ : Dev nD → PrngReg)

theorem hz : (![0, 0] : Fin 2 → Nat) = fun _ => 0 := funext fun a => by fin_cases a <;> rfl

/-- One gated entry: column `l` plus its bias, times the logistic of column `1024 + l` plus its bias. -/
def unit (x : Fin 1024 → EReal) (w : Fin 1024 → Fin 2048 → EReal) (b : Fin 2048 → EReal) (l : Fin 1024) : EReal :=
  (∑ k, x k * w k ⟨l.val, by omega⟩ + b ⟨l.val, by omega⟩)
    * Ideal.logistic (∑ k, x k * w k ⟨1024 + l.val, by omega⟩ + b ⟨1024 + l.val, by omega⟩)

/-- The block the body stores, at an index. -/
theorem out_apply (x0 : Vec Ideal S512x1024 .f32) (x1 : Vec Ideal S1024x2048 .bf16) (x2 : Vec Ideal S1x2048 .f32)
    (r : Fin 512) (l : Fin 1024) :
    out0_3 x0 x1 x2 (ix2 r l) = unit (fun k => x0 (ix2 r k)) (fun k n => x1 (ix2 k n)) (fun n => x2 (ix2 0 n)) l := by
  unfold out0_3 unit
  rw [View.canon_unit_zero hz, View.ld_unit_zero hz]
  pointwise [k0_pay1]

/-- The reference's value, at an index. -/
theorem ref_apply (x : FVec Ideal S16384x1024 .f32) (w : FVec Ideal S1024x2048 .f32) (b : FVec Ideal S2048 .f32)
    (r : Fin 16384) (l : Fin 1024) :
    Cert.Reference3Ideal.Read.val_main_v12 (F := Ideal) x w b (ix2 r l)
      = unit (fun k => x (ix2 r k)) (fun k n => w (ix2 k n)) (fun n => b (ix1 n)) l := by
  unfold unit
  pointwise [Cert.Reference3Ideal.Read.val_main_v12, Cert.Reference3Ideal.Read.val_main_v11,
    Cert.Reference3Ideal.Read.val_main_v10, Cert.Reference3Ideal.Read.val_main_v9, Cert.Reference3Ideal.Read.val_main_v8,
    Cert.Reference3Ideal.Read.val_main_v7, Cert.Reference3Ideal.Read.val_main_v6, Cert.Reference3Ideal.Read.val_main_v5,
    Cert.Reference3Ideal.Read.val_main_v4, Cert.Reference3Ideal.Read.val_main_v3, Cert.Reference3Ideal.Read.val_main_v2,
    Cert.Reference3Ideal.Read.val_main_v1, Cert.Reference3Ideal.Read.val_main_v0, Cert.Reference3Ideal.Read.val_main_cst,
    Cert.Reference3Ideal.Read.val_main_cst_0]
  rfl

/-- What the result array is shown to hold: the reference's value of the arguments. -/
abbrev G (c : Dev nD) : Buf (Elt Ideal) ((c : Thread nD τ).loc main_v2) :=
  Cert.Reference3Ideal.Read.val_main_v12 (F := Ideal) (m ((c : Thread nD τ).loc main_arg0))
    (m ((c : Thread nD τ).loc main_arg1)) (m ((c : Thread nD τ).loc main_arg2))

/-- The index maps over the grid. -/
theorem idx_facts : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) := by decide +kernel

theorem tlt (t : Fin cfg0.N) : t.val < 32 := by have := t.isLt; have h : cfg0.N = 32 := N_0; omega

theorem iblk0 (c : Dev nD) (t : Fin cfg0.N) (r : Fin 512) (k : Fin 1024) :
    iblk m c 0 t (ix2 r k) = m ((c : Thread nD τ).loc main_arg0) (ix2 ⟨t.val * 512 + r.val, by have := tlt t; omega⟩ k) := by
  unfold iblk
  show (V m c main_arg0) (((cfg0.win 0).blk t).view.emb (ix2 r k)) = _
  rw [V_main_arg0]
  refine congrArg _ (funext fun a => Fin.ext ?_)
  match a with
  | ⟨0, _⟩ => show win0_0.index t 0 * 512 + 1 * r.val = t.val * 512 + r.val
              rw [(idx_facts t).1.1]; omega
  | ⟨1, _⟩ => show win0_0.index t 1 * 1024 + 1 * k.val = k.val
              rw [(idx_facts t).1.2]; omega

theorem iblk1 (c : Dev nD) (t : Fin cfg0.N) (k : Fin 1024) (n : Fin 2048) :
    iblk m c 1 t (ix2 k n) = m ((c : Thread nD τ).loc main_arg1) (ix2 k n) := by
  unfold iblk
  show (V m c main_v0) (((cfg0.win 1).blk t).view.emb (ix2 k n)) = _
  entry_read
  refine (congrArg (m ((c : Thread nD τ).loc main_arg1)) (funext fun a => Fin.ext ?_) :)
  match a with
  | ⟨0, _⟩ => show win0_1.index t 0 * 1024 + 1 * k.val = k.val
              rw [(idx_facts t).2.1.1]; omega
  | ⟨1, _⟩ => show win0_1.index t 1 * 2048 + 1 * n.val = n.val
              rw [(idx_facts t).2.1.2]; omega

theorem iblk2 (c : Dev nD) (t : Fin cfg0.N) (n : Fin 2048) :
    iblk m c 2 t (ix2 0 n) = m ((c : Thread nD τ).loc main_arg2) (ix1 n) := by
  unfold iblk
  show (V m c main_v1) (((cfg0.win 2).blk t).view.emb (ix2 0 n)) = _
  have e : ((cfg0.win 2).blk t).view.emb (ix2 0 n) = (ix2 0 n : S1x2048.Idx) := funext fun a => Fin.ext (by
    match a with
    | ⟨0, _⟩ => show win0_2.index t 0 * 1 + 1 * 0 = 0
                rw [(idx_facts t).2.2.1.1]
    | ⟨1, _⟩ => show win0_2.index t 1 * 2048 + 1 * n.val = n.val
                rw [(idx_facts t).2.2.1.2]; omega)
  rw [e]
  entry_read
  pointwise

theorem flushed_eq (c : Dev nD) (t : Fin cfg0.N) :
    (dats m 0 c).flushed 3 t = (win0_3.blk t).view.read (Elt Ideal) (G m c) := by
  show (cfg0.win 3).cut (grid0.coords t) ((dats m 0 c).after 3 t) = _
  rw [after0_3]
  funext y
  obtain ⟨r, l, rfl⟩ : ∃ (r : Fin 512) (l : Fin 1024), y = ix2 r l := ⟨y 0, y 1, eq_ix2 y⟩
  show out0_3 (iblk m c 0 t) (iblk m c 1 t) (iblk m c 2 t) (ix2 r l) = G m c ((win0_3.blk t).view.emb (ix2 r l))
  have e : (win0_3.blk t).view.emb (ix2 r l)
      = (ix2 ⟨t.val * 512 + r.val, by have := tlt t; omega⟩ l : S16384x1024.Idx) := funext fun a => Fin.ext (by
    match a with
    | ⟨0, _⟩ => show win0_3.index t 0 * 512 + 1 * r.val = t.val * 512 + r.val
                rw [(idx_facts t).2.2.2.1]; omega
    | ⟨1, _⟩ => show win0_3.index t 1 * 1024 + 1 * l.val = l.val
                rw [(idx_facts t).2.2.2.2]; omega)
  rw [e, out_apply]
  unfold G
  rw [ref_apply]
  simp only [iblk0, iblk1, iblk2]

theorem mem_blk (t : Fin cfg0.N) (i : S16384x1024.Idx) :
    i ∈ ((cfg0.win 3).blk t).view.set ↔ t.val * 512 ≤ (i 0 : Nat) ∧ (i 0 : Nat) < t.val * 512 + 512 := by
  show i ∈ ((View.whole main_v2).slice (win0_3.rect t)).set ↔ _
  rw [View.set_slice_whole, Rect.mem_set_unit]
  have h1 : (i 1 : Nat) < 1024 := (i 1).isLt
  have e0 := (idx_facts t).2.2.2.1
  have e1 := (idx_facts t).2.2.2.2
  refine ⟨fun h => ?_, fun h a => ?_⟩
  · have : win0_3.index t 0 * 512 ≤ (i 0 : Nat) ∧ (i 0 : Nat) < win0_3.index t 0 * 512 + 512 := h 0
    rw [e0] at this; exact this
  · match a with
    | ⟨0, _⟩ => show win0_3.index t 0 * 512 ≤ (i 0 : Nat) ∧ (i 0 : Nat) < win0_3.index t 0 * 512 + 512
                rw [e0]; exact h
    | ⟨1, _⟩ => show win0_3.index t 1 * 1024 ≤ (i 1 : Nat) ∧ (i 1 : Nat) < win0_3.index t 1 * 1024 + 1024
                rw [e1, Nat.zero_mul, Nat.zero_add]; exact ⟨Nat.zero_le _, h1⟩

theorem cover (i : S16384x1024.Idx) :
    ∃ t : Fin cfg0.N, (cfg0.win 3).flush t = true ∧ i ∈ ((cfg0.win 3).blk t).view.set := by
  have h0 : (i 0 : Nat) < 16384 := (i 0).isLt
  have hN : cfg0.N = 32 := N_0
  refine ⟨⟨(i 0 : Nat) / 512, by omega⟩, flush0_3 _, ?_⟩
  rw [mem_blk]
  dsimp only
  omega

theorem final (c : Dev nD) : (dats m 0 c).arrAt 3 cfg0.N = G m c :=
  (dats m 0 c).arrAt_eq_of_cover 3 (G m c) (fun t _ => flushed_eq m c t) cover

/-- The run, read: the result array at the reference's value, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ) (unchanged m ρ))

end Cert.Kernel3Ideal.Glu

namespace Cert.Proof.GluClaims

/-- The frames: the generated ones, and the reference's own run. -/
theorem frame_k : Cert.quiescent_Kernel3 := fun m ρ _ => Cert.Kernel3.Gen.frame m ρ
theorem frame_i : Cert.quiescent_Kernel3Ideal := fun m ρ _ => Cert.Kernel3Ideal.Gen.frame m ρ
theorem frame_r : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The idealization changed nothing. -/
theorem preserves : Cert.preserves_Kernel3_Kernel3Ideal := trivial

/-- Kernel and reference end with one array. -/
theorem algebraic : Cert.algebraic_Kernel3Ideal_Reference3Ideal := by
  intro m ρ m' ρ' _ hagree
  refine ⟨fun c => Cert.Kernel3Ideal.Glu.G m c, Cert.Kernel3Ideal.Glu.run m ρ, ?_⟩
  refine (θ_run Cert.Reference3Ideal.defs _ _).mono (fun _ h c => ⟨(h c).1.trans ?_, (h c).2⟩)
    (Cert.Reference3Ideal.Value.run (F := Ideal) m' ρ')
  show _ = Cert.Kernel3Ideal.Glu.G m c
  unfold Cert.Kernel3Ideal.Glu.G
  rw [← (hagree c).1, ← (hagree c).2.1, ← (hagree c).2.2]
  exact Cert.Reference3Ideal.Read.val_main_v12_eq _ _ _

end Cert.Proof.GluClaims

end
-- ==== Proof.Proj.lean ====
/-
  The projection with bias, residual and layer norm: every row block the kernel writes is the row block of the reference's value.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Read
public import proofs.«01_k».proof.Proof.Rows
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The row before the norm: the residual plus the projection and its bias. -/
def row (z : Fin 1024 → EReal) (w : Fin 1024 → Fin 1024 → EReal) (b x : Fin 1024 → EReal) : Fin 1024 → EReal :=
  Cert.Rows.res x fun l => ∑ k, z k * w k l + b l

/-- The block the body stores, at an index. -/
theorem out_apply (x0 : Vec Ideal S512x1024 .f32) (x1 : Vec Ideal S1024x1024 .bf16) (x2 : Vec Ideal S1x1024 .f32)
    (x3 : Vec Ideal S512x1024 .f32) (x4 x5 : Vec Ideal S1x1024 .f32) (r : Fin 512) (l : Fin 1024) :
    out0_6 x0 x1 x2 x3 x4 x5 (ix2 r l)
      = Cert.Rows.norm (row (fun k => x0 (ix2 r k)) (fun k n => x1 (ix2 k n)) (fun n => x2 (ix2 0 n)) (fun k => x3 (ix2 r k)))
          (fun n => x4 (ix2 0 n)) (fun n => x5 (ix2 0 n)) l := by
  unfold out0_6
  rw [View.canon_unit_zero hz, View.ld_unit_zero hz, View.ld_unit_zero hz, View.ld_unit_zero hz, View.ld_unit_zero hz,
    View.ld_unit_zero hz, View.ld_unit_zero hz]
  unfold Cert.Rows.norm Cert.Rows.var Cert.Rows.mean row Cert.Rows.res
  pointwise [k0_pay1]

/-- The reference's row before the norm, at an index. -/
theorem ref_row (z : FVec Ideal S16384x1024 .f32) (w : FVec Ideal S1024x1024 .f32) (b : FVec Ideal S1024 .f32)
    (x : FVec Ideal S16384x1024 .f32) (r : Fin 16384) (l : Fin 1024) :
    Cert.Reference4Ideal.Read.val_main_v6 (F := Ideal) z w b x (ix2 r l)
      = row (fun k => z (ix2 r k)) (fun k n => w (ix2 k n)) (fun n => b (ix1 n)) (fun k => x (ix2 r k)) l := by
  unfold row Cert.Rows.res
  pointwise [Cert.Reference4Ideal.Read.val_main_v6, Cert.Reference4Ideal.Read.val_main_v5,
    Cert.Reference4Ideal.Read.val_main_v4, Cert.Reference4Ideal.Read.val_main_v3, Cert.Reference4Ideal.Read.val_main_v2,
    Cert.Reference4Ideal.Read.val_main_v1, Cert.Reference4Ideal.Read.val_main_v0, Cert.Reference4Ideal.Read.val_main_cst]

/-- The reference's value, at an index. -/
theorem ref_apply (z : FVec Ideal S16384x1024 .f32) (w : FVec Ideal S1024x1024 .f32) (b : FVec Ideal S1024 .f32)
    (x : FVec Ideal S16384x1024 .f32) (g e : FVec Ideal S1024 .f32) (r : Fin 16384) (l : Fin 1024) :
    Cert.Reference4Ideal.Read.val_main_v30 (F := Ideal) z w b x g e (ix2 r l)
      = Cert.Rows.norm (row (fun k => z (ix2 r k)) (fun k n => w (ix2 k n)) (fun n => b (ix1 n)) (fun k => x (ix2 r k)))
          (fun n => g (ix1 n)) (fun n => e (ix1 n)) l := by
  unfold Cert.Rows.norm Cert.Rows.var Cert.Rows.mean
  simp only [← ref_row]
  pointwise [Cert.Reference4Ideal.Read.val_main_v30, Cert.Reference4Ideal.Read.val_main_v29, Cert.Reference4Ideal.Read.val_main_v28, Cert.Reference4Ideal.Read.val_main_v27, Cert.Reference4Ideal.Read.val_main_v26, Cert.Reference4Ideal.Read.val_main_v25, Cert.Reference4Ideal.Read.val_main_v24, Cert.Reference4Ideal.Read.val_main_v23, Cert.Reference4Ideal.Read.val_main_v22, Cert.Reference4Ideal.Read.val_main_v21, Cert.Reference4Ideal.Read.val_main_v20, Cert.Reference4Ideal.Read.val_main_v19, Cert.Reference4Ideal.Read.val_main_v18, Cert.Reference4Ideal.Read.val_main_v17, Cert.Reference4Ideal.Read.val_main_v16, Cert.Reference4Ideal.Read.val_main_v15, Cert.Reference4Ideal.Read.val_main_v14, Cert.Reference4Ideal.Read.val_main_v13, Cert.Reference4Ideal.Read.val_main_v12, Cert.Reference4Ideal.Read.val_main_v11, Cert.Reference4Ideal.Read.val_main_v10, Cert.Reference4Ideal.Read.val_main_v9, Cert.Reference4Ideal.Read.val_main_v8, Cert.Reference4Ideal.Read.val_main_v7, Cert.Reference4Ideal.Read.val_main_cst_0, Cert.Reference4Ideal.Read.val_main_cst_1, Cert.Reference4Ideal.Read.val_main_cst_2, Cert.Reference4Ideal.Read.val_main_cst_3, Cert.Reference4Ideal.Read.val_main_cst_4]

/-- What the result array is shown to hold: the reference's value of the arguments. -/
abbrev G (c : Dev nD) : Buf (Elt Ideal) ((c : Thread nD τ).loc main_v4) :=
  Cert.Reference4Ideal.Read.val_main_v30 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5))

/-- The index maps over the grid: the row windows step, the others stay. -/
theorem idx_row : ∀ t : Fin cfg0.N, (win0_0.index t 0 = t.val ∧ win0_0.index t 1 = 0) ∧ (win0_3.index t 0 = t.val ∧ win0_3.index t 1 = 0)
    ∧ (win0_6.index t 0 = t.val ∧ win0_6.index t 1 = 0) := by decide +kernel
theorem idx_whole : ∀ t : Fin cfg0.N, (win0_1.index t 0 = 0 ∧ win0_1.index t 1 = 0) ∧ (win0_2.index t 0 = 0 ∧ win0_2.index t 1 = 0)
    ∧ (win0_4.index t 0 = 0 ∧ win0_4.index t 1 = 0) ∧ (win0_5.index t 0 = 0 ∧ win0_5.index t 1 = 0) := by decide +kernel

theorem tlt (t : Fin cfg0.N) : t.val < 32 := by have := t.isLt; have h : cfg0.N = 32 := N_0; omega

theorem iblk0 (c : Dev nD) (t : Fin cfg0.N) (r : Fin 512) (k : Fin 1024) :
    iblk m c 0 t (ix2 r k) = m ((c : Thread nD τ).loc main_arg0) (ix2 ⟨t.val * 512 + r.val, by have := tlt t; omega⟩ k) := by
  unfold iblk
  show (V m c main_arg0) (((cfg0.win 0).blk t).view.emb (ix2 r k)) = _
  rw [V_main_arg0]
  refine congrArg _ (funext fun a => Fin.ext ?_)
  match a with
  | ⟨0, _⟩ => show win0_0.index t 0 * 512 + 1 * r.val = t.val * 512 + r.val
              rw [(idx_row t).1.1]; omega
  | ⟨1, _⟩ => show win0_0.index t 1 * 1024 + 1 * k.val = k.val
              rw [(idx_row t).1.2]; omega

theorem iblk1 (c : Dev nD) (t : Fin cfg0.N) (k : Fin 1024) (n : Fin 1024) :
    iblk m c 1 t (ix2 k n) = m ((c : Thread nD τ).loc main_arg1) (ix2 k n) := by
  unfold iblk
  show (V m c main_v0) (((cfg0.win 1).blk t).view.emb (ix2 k n)) = _
  entry_read
  refine (congrArg (m ((c : Thread nD τ).loc main_arg1)) (funext fun a => Fin.ext ?_) :)
  match a with
  | ⟨0, _⟩ => show win0_1.index t 0 * 1024 + 1 * k.val = k.val
              rw [(idx_whole t).1.1]; omega
  | ⟨1, _⟩ => show win0_1.index t 1 * 1024 + 1 * n.val = n.val
              rw [(idx_whole t).1.2]; omega

theorem iblk2 (c : Dev nD) (t : Fin cfg0.N) (n : Fin 1024) :
    iblk m c 2 t (ix2 0 n) = m ((c : Thread nD τ).loc main_arg2) (ix1 n) := by
  unfold iblk
  show (V m c main_v1) (((cfg0.win 2).blk t).view.emb (ix2 0 n)) = _
  have e : ((cfg0.win 2).blk t).view.emb (ix2 0 n) = (ix2 0 n : S1x1024.Idx) := funext fun a => Fin.ext (by
    match a with
    | ⟨0, _⟩ => show win0_2.index t 0 * 1 + 1 * 0 = 0
                rw [(idx_whole t).2.1.1]
    | ⟨1, _⟩ => show win0_2.index t 1 * 1024 + 1 * n.val = n.val
                rw [(idx_whole t).2.1.2]; omega)
  rw [e]
  entry_read
  pointwise

theorem iblk3 (c : Dev nD) (t : Fin cfg0.N) (r : Fin 512) (k : Fin 1024) :
    iblk m c 3 t (ix2 r k) = m ((c : Thread nD τ).loc main_arg3) (ix2 ⟨t.val * 512 + r.val, by have := tlt t; omega⟩ k) := by
  unfold iblk
  show (V m c main_arg3) (((cfg0.win 3).blk t).view.emb (ix2 r k)) = _
  rw [V_main_arg3]
  refine congrArg _ (funext fun a => Fin.ext ?_)
  match a with
  | ⟨0, _⟩ => show win0_3.index t 0 * 512 + 1 * r.val = t.val * 512 + r.val
              rw [(idx_row t).2.1.1]; omega
  | ⟨1, _⟩ => show win0_3.index t 1 * 1024 + 1 * k.val = k.val
              rw [(idx_row t).2.1.2]; omega

theorem iblk4 (c : Dev nD) (t : Fin cfg0.N) (n : Fin 1024) :
    iblk m c 4 t (ix2 0 n) = m ((c : Thread nD τ).loc main_arg4) (ix1 n) := by
  unfold iblk
  show (V m c main_v2) (((cfg0.win 4).blk t).view.emb (ix2 0 n)) = _
  have e : ((cfg0.win 4).blk t).view.emb (ix2 0 n) = (ix2 0 n : S1x1024.Idx) := funext fun a => Fin.ext (by
    match a with
    | ⟨0, _⟩ => show win0_4.index t 0 * 1 + 1 * 0 = 0
                rw [(idx_whole t).2.2.1.1]
    | ⟨1, _⟩ => show win0_4.index t 1 * 1024 + 1 * n.val = n.val
                rw [(idx_whole t).2.2.1.2]; omega)
  rw [e]
  entry_read
  pointwise

theorem iblk5 (c : Dev nD) (t : Fin cfg0.N) (n : Fin 1024) :
    iblk m c 5 t (ix2 0 n) = m ((c : Thread nD τ).loc main_arg5) (ix1 n) := by
  unfold iblk
  show (V m c main_v3) (((cfg0.win 5).blk t).view.emb (ix2 0 n)) = _
  have e : ((cfg0.win 5).blk t).view.emb (ix2 0 n) = (ix2 0 n : S1x1024.Idx) := funext fun a => Fin.ext (by
    match a with
    | ⟨0, _⟩ => show win0_5.index t 0 * 1 + 1 * 0 = 0
                rw [(idx_whole t).2.2.2.1]
    | ⟨1, _⟩ => show win0_5.index t 1 * 1024 + 1 * n.val = n.val
                rw [(idx_whole t).2.2.2.2]; omega)
  rw [e]
  entry_read
  pointwise

theorem flushed_eq (c : Dev nD) (t : Fin cfg0.N) :
    (dats m 0 c).flushed 6 t = (win0_6.blk t).view.read (Elt Ideal) (G m c) := by
  show (cfg0.win 6).cut (grid0.coords t) ((dats m 0 c).after 6 t) = _
  rw [after0_6]
  funext y
  obtain ⟨r, l, rfl⟩ : ∃ (r : Fin 512) (l : Fin 1024), y = ix2 r l := ⟨y 0, y 1, eq_ix2 y⟩
  show out0_6 (iblk m c 0 t) (iblk m c 1 t) (iblk m c 2 t) (iblk m c 3 t) (iblk m c 4 t) (iblk m c 5 t) (ix2 r l) = G m c ((win0_6.blk t).view.emb (ix2 r l))
  have e : (win0_6.blk t).view.emb (ix2 r l)
      = (ix2 ⟨t.val * 512 + r.val, by have := tlt t; omega⟩ l : S16384x1024.Idx) := funext fun a => Fin.ext (by
    match a with
    | ⟨0, _⟩ => show win0_6.index t 0 * 512 + 1 * r.val = t.val * 512 + r.val
                rw [(idx_row t).2.2.1]; omega
    | ⟨1, _⟩ => show win0_6.index t 1 * 1024 + 1 * l.val = l.val
                rw [(idx_row t).2.2.2]; omega)
  rw [e, out_apply]
  unfold G
  rw [ref_apply]
  simp only [iblk0, iblk1, iblk2, iblk3, iblk4, iblk5]

theorem mem_blk (t : Fin cfg0.N) (i : S16384x1024.Idx) :
    i ∈ ((cfg0.win 6).blk t).view.set ↔ t.val * 512 ≤ (i 0 : Nat) ∧ (i 0 : Nat) < t.val * 512 + 512 := by
  show i ∈ ((View.whole main_v4).slice (win0_6.rect t)).set ↔ _
  rw [View.set_slice_whole, Rect.mem_set_unit]
  have h1 : (i 1 : Nat) < 1024 := (i 1).isLt
  have e0 := (idx_row t).2.2.1
  have e1 := (idx_row t).2.2.2
  refine ⟨fun h => ?_, fun h a => ?_⟩
  · have : win0_6.index t 0 * 512 ≤ (i 0 : Nat) ∧ (i 0 : Nat) < win0_6.index t 0 * 512 + 512 := h 0
    rw [e0] at this; exact this
  · match a with
    | ⟨0, _⟩ => show win0_6.index t 0 * 512 ≤ (i 0 : Nat) ∧ (i 0 : Nat) < win0_6.index t 0 * 512 + 512
                rw [e0]; exact h
    | ⟨1, _⟩ => show win0_6.index t 1 * 1024 ≤ (i 1 : Nat) ∧ (i 1 : Nat) < win0_6.index t 1 * 1024 + 1024
                rw [e1, Nat.zero_mul, Nat.zero_add]; exact ⟨Nat.zero_le _, h1⟩

theorem cover (i : S16384x1024.Idx) :
    ∃ t : Fin cfg0.N, (cfg0.win 6).flush t = true ∧ i ∈ ((cfg0.win 6).blk t).view.set := by
  have h0 : (i 0 : Nat) < 16384 := (i 0).isLt
  have hN : cfg0.N = 32 := N_0
  refine ⟨⟨(i 0 : Nat) / 512, by omega⟩, flush0_6 _, ?_⟩
  rw [mem_blk]
  dsimp only
  omega

theorem final (c : Dev nD) : (dats m 0 c).arrAt 6 cfg0.N = G m c :=
  (dats m 0 c).arrAt_eq_of_cover 6 (G m c) (fun t _ => flushed_eq m c t) cover

/-- The run, read: the result array at the reference's value, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 6).trans (final m c), h.2 c⟩)
    (θ_run_and (run_main m ρ) (unchanged m ρ))

end Cert.Kernel4Ideal.Proj

namespace Cert.Proof.ProjClaims

/-- The frames: the generated ones, and the reference's own run. -/
theorem frame_k : Cert.quiescent_Kernel4 := fun m ρ _ => Cert.Kernel4.Gen.frame m ρ
theorem frame_i : Cert.quiescent_Kernel4Ideal := fun m ρ _ => Cert.Kernel4Ideal.Gen.frame m ρ
theorem frame_r : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The idealization changed nothing. -/
theorem preserves : Cert.preserves_Kernel4_Kernel4Ideal := trivial

/-- Kernel and reference end with one array. -/
theorem algebraic : Cert.algebraic_Kernel4Ideal_Reference4Ideal := by
  intro m ρ m' ρ' _ hagree
  refine ⟨fun c => Cert.Kernel4Ideal.Proj.G m c, Cert.Kernel4Ideal.Proj.run m ρ, ?_⟩
  refine (θ_run Cert.Reference4Ideal.defs _ _).mono (fun _ h c => ⟨(h c).1.trans ?_, (h c).2⟩)
    (Cert.Reference4Ideal.Value.run (F := Ideal) m' ρ')
  show _ = Cert.Kernel4Ideal.Proj.G m c
  unfold Cert.Kernel4Ideal.Proj.G
  rw [← (hagree c).1, ← (hagree c).2.1, ← (hagree c).2.2.1, ← (hagree c).2.2.2.1, ← (hagree c).2.2.2.2.1, ← (hagree c).2.2.2.2.2]
  exact Cert.Reference4Ideal.Read.val_main_v30_eq _ _

end Cert.Proof.ProjClaims

end
-- ==== Proof.AttnProj.lean ====
/-
  The prompt rows' input projection: keys, values, and the index key with the head weights.
-/
module

public import proofs.«01_k».proof.Defs
public import proofs.«01_k».proof.Proof.Rows
public import proofs.«01_k».proof.Proof.Gen.Kernel5.Frame
public import proofs.«01_k».proof.Proof.Gen.Kernel5Ideal.Frame
public import proofs.«01_k».proof.Proof.Gen.Reference5Ideal.Read
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.AttnProj

open Cert.Kernel5Ideal Cert.Kernel5Ideal.Gen Cert.Rows

variable (m : (ℓ : Loc nD τ sig) → Buf (Elt Ideal) ℓ) (ρ : Dev nD → PrngReg)

theorem hz : (![0, 0] : Fin 2 → Nat) = fun _ => 0 := funext fun a => by fin_cases a <;> rfl

/-- The reference's values, at an index. -/
theorem ref_k (x : FVec Ideal S16384x1024 .f32) (w : FVec Ideal S1024x3656 .f32) (r : Fin 16384) (l : Fin 1024) :
    Cert.Reference5Ideal.Read.val_main_v2 (F := Ideal) x w (ix2 r l)
      = cols (fun k => x (ix2 r k)) (fun k n => w (ix2 k n)) 1024 l := by
  unfold cols
  pointwise [Cert.Reference5Ideal.Read.val_main_v2, Cert.Reference5Ideal.Read.val_main_v0]

theorem ref_v (x : FVec Ideal S16384x1024 .f32) (w : FVec Ideal S1024x3656 .f32) (r : Fin 16384) (l : Fin 1024) :
    Cert.Reference5Ideal.Read.val_main_v3 (F := Ideal) x w (ix2 r l)
      = cols (fun k => x (ix2 r k)) (fun k n => w (ix2 k n)) 2048 l := by
  unfold cols
  pointwise [Cert.Reference5Ideal.Read.val_main_v3, Cert.Reference5Ideal.Read.val_main_v0]

theorem ref_tail (x : FVec Ideal S16384x1024 .f32) (w : FVec Ideal S1024x3656 .f32) (r : Fin 16384) (l : Fin 128) :
    Cert.Reference5Ideal.Read.val_main_v6 (F := Ideal) x w (ix2 r l)
      = tail (fun k => x (ix2 r k)) (fun k n => w (ix2 k n)) l := by
  unfold tail
  pointwise [Cert.Reference5Ideal.Read.val_main_v6, Cert.Reference5Ideal.Read.val_main_v5, Cert.Reference5Ideal.Read.val_main_call0_v0,
    Cert.Reference5Ideal.Read.val_main_c, Cert.Reference5Ideal.Read.val_main_v0]
  rw [zero_int]

/-- The row a point's block starts at, in range. -/
theorem tlt (t : Fin cfg0.N) : t.val < 32 := by have := t.isLt; have h : cfg0.N = 32 := N_0; omega

/-- The index maps over the grid. -/
theorem idx_facts : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) := by decide +kernel

theorem iblk0 (c : Dev nD) (t : Fin cfg0.N) (r : Fin 512) (k : Fin 1024) :
    iblk m c 0 t (ix2 r k) = m ((c : Thread nD τ).loc main_arg0) (ix2 ⟨t.val * 512 + r.val, by have := tlt t; omega⟩ k) := by
  unfold iblk
  show (V m c main_arg0) (((cfg0.win 0).blk t).view.emb (ix2 r k)) = _
  rw [V_main_arg0]
  refine congrArg _ (funext fun a => Fin.ext ?_)
  match a with
  | ⟨0, _⟩ => show win0_0.index t 0 * 512 + 1 * r.val = t.val * 512 + r.val
              rw [(idx_facts t).1.1]; have := tlt t; omega
  | ⟨1, _⟩ => show win0_0.index t 1 * 1024 + 1 * k.val = k.val
              rw [(idx_facts t).1.2]; omega

theorem iblk1 (c : Dev nD) (t : Fin cfg0.N) (k : Fin 1024) (l : Fin 1024) :
    (iblk m c 1 t (ix2 k l) : EReal)
      = (m ((c : Thread nD τ).loc main_arg1) (ix2 k ⟨1024 + l.val, by omega⟩) : EReal) := by
  unfold iblk
  show ((V m c main_v10) (((cfg0.win 1).blk t).view.emb (ix2 k l)) : EReal) = _
  have e : ((cfg0.win 1).blk t).view.emb (ix2 k l) = (ix2 k l : S1024x1024.Idx) := funext fun a => Fin.ext (by
    match a with
    | ⟨0, _⟩ => show win0_1.index t 0 * 1024 + 1 * k.val = k.val
                rw [(idx_facts t).2.1.1]; omega
    | ⟨1, _⟩ => show win0_1.index t 1 * 1024 + 1 * l.val = l.val
                rw [(idx_facts t).2.1.2]; omega)
  rw [e]
  simp only [V, hostOps0, hostOps0_1, hostOps0_2, hostOps0_3, hostOps0_4, hostOps0_5, hostOps0_6, List.flatten_cons, List.flatten_nil, List.append_nil, List.cons_append, List.nil_append]
  entry_read
  pointwise

theorem iblk2 (c : Dev nD) (t : Fin cfg0.N) (k : Fin 1024) (l : Fin 1024) :
    (iblk m c 2 t (ix2 k l) : EReal)
      = (m ((c : Thread nD τ).loc main_arg1) (ix2 k ⟨2048 + l.val, by omega⟩) : EReal) := by
  unfold iblk
  show ((V m c main_v11) (((cfg0.win 2).blk t).view.emb (ix2 k l)) : EReal) = _
  have e : ((cfg0.win 2).blk t).view.emb (ix2 k l) = (ix2 k l : S1024x1024.Idx) := funext fun a => Fin.ext (by
    match a with
    | ⟨0, _⟩ => show win0_2.index t 0 * 1024 + 1 * k.val = k.val
                rw [(idx_facts t).2.2.1.1]; omega
    | ⟨1, _⟩ => show win0_2.index t 1 * 1024 + 1 * l.val = l.val
                rw [(idx_facts t).2.2.1.2]; omega)
  rw [e]
  simp only [V, hostOps0, hostOps0_1, hostOps0_2, hostOps0_3, hostOps0_4, hostOps0_5, hostOps0_6, List.flatten_cons, List.flatten_nil, List.append_nil, List.cons_append, List.nil_append]
  entry_read
  pointwise

theorem iblk3 (c : Dev nD) (t : Fin cfg0.N) (k : Fin 1024) (l : Fin 128) :
    (iblk m c 3 t (ix2 k l) : EReal)
      = if h : l.val < 72 then (m ((c : Thread nD τ).loc main_arg1) (ix2 k ⟨3584 + l.val, by omega⟩) : EReal) else (0 : EReal) := by
  unfold iblk
  show ((V m c main_v13) (((cfg0.win 3).blk t).view.emb (ix2 k l)) : EReal) = _
  have e : ((cfg0.win 3).blk t).view.emb (ix2 k l) = (ix2 k l : S1024x128.Idx) := funext fun a => Fin.ext (by
    match a with
    | ⟨0, _⟩ => show win0_3.index t 0 * 1024 + 1 * k.val = k.val
                rw [(idx_facts t).2.2.2.1.1]; omega
    | ⟨1, _⟩ => show win0_3.index t 1 * 128 + 1 * l.val = l.val
                rw [(idx_facts t).2.2.2.1.2]; omega)
  rw [e]
  simp only [V, hostOps0, hostOps0_1, hostOps0_2, hostOps0_3, hostOps0_4, hostOps0_5, hostOps0_6, List.flatten_cons, List.flatten_nil, List.append_nil, List.cons_append, List.nil_append]
  entry_read
  show (pad S1024x128 ![0, 0] ![0, 56] ![0, 0]
      (extractStridedSlice S1024x72 ![0, 3584] (m ((c : Thread nD τ).loc main_arg1)) slices_S1024x3656_S1024x72_0_3584)
      (sitofp (F := Ideal) FTy.f32 (constantI S_ 32 0#32) : S_.Idx → EReal) pads_S1024x72_S1024x128_000_0560 h_S_ (ix2 k l) : EReal) = _
  pointwise
  rw [zero_int]

/-- The keys of the block the body stores, and the array they end in. -/
theorem after8 (c : Dev nD) (t : Fin cfg0.N) (r : Fin 512) (l : Fin 1024) :
    ((dats m 0 c).after 8 t : FVec Ideal S512x1024 .f32) (ix2 r l)
      = cols (fun k => m ((c : Thread nD τ).loc main_arg0) (ix2 ⟨t.val * 512 + r.val, by have := tlt t; omega⟩ k))
          (fun k n => m ((c : Thread nD τ).loc main_arg1) (ix2 k n)) 1024 l := by
  rw [after0_8]
  unfold outsAt0 out0_A_8 kernelRun0_A
  dsimp only
  sl_unfold_words
  simp only [View.readAt_eq_ld, (hs0_0 t).read_unread, (hs0_1 t).read_unread]
  rw [View.read_writes_junk_eq_canon, View.canon_unit_zero hz, View.ld_unit_zero hz, View.ld_unit_zero hz]
  pointwise [k0_pay7, k0_pay6]
  simp only [iblk0, iblk1]
  unfold cols
  rfl

abbrev G8 (c : Dev nD) : Buf (Elt Ideal) ((c : Thread nD τ).loc main_v21_0) :=
  Cert.Reference5Ideal.Read.val_main_v2 (F := Ideal) (m ((c : Thread nD τ).loc main_arg0)) (m ((c : Thread nD τ).loc main_arg1))

theorem flushed8 (c : Dev nD) (t : Fin cfg0.N) :
    (dats m 0 c).flushed 8 t = (win0_8.blk t).view.read (Elt Ideal) (G8 m c) := by
  show (cfg0.win 8).cut (grid0.coords t) ((dats m 0 c).after 8 t) = _
  funext y
  obtain ⟨r, l, rfl⟩ : ∃ (r : Fin 512) (l : Fin 1024), y = ix2 r l := ⟨y 0, y 1, eq_ix2 y⟩
  show ((dats m 0 c).after 8 t : FVec Ideal S512x1024 .f32) (ix2 r l) = G8 m c ((win0_8.blk t).view.emb (ix2 r l))
  have e : (win0_8.blk t).view.emb (ix2 r l)
      = (ix2 ⟨t.val * 512 + r.val, by have := tlt t; omega⟩ l : S16384x1024.Idx) := funext fun a => Fin.ext (by
    match a with
    | ⟨0, _⟩ => show win0_8.index t 0 * 512 + 1 * r.val = t.val * 512 + r.val
                rw [(idx_facts t).2.2.2.2.1.1]; have := tlt t; omega
    | ⟨1, _⟩ => show win0_8.index t 1 * 1024 + 1 * l.val = l.val
                rw [(idx_facts t).2.2.2.2.1.2]; omega)
  rw [e, after8]
  unfold G8
  rw [ref_k]

theorem cover8 (i : S16384x1024.Idx) :
    ∃ t : Fin cfg0.N, (cfg0.win 8).flush t = true ∧ i ∈ ((cfg0.win 8).blk t).view.set := by
  have h0 : (i 0 : Nat) < 16384 := (i 0).isLt
  have h1 : (i 1 : Nat) < 1024 := (i 1).isLt
  have hN : cfg0.N = 32 := N_0
  obtain ⟨t, ht⟩ : ∃ t : Fin cfg0.N, t.val = (i 0 : Nat) / 512 := ⟨⟨(i 0 : Nat) / 512, by omega⟩, rfl⟩
  refine ⟨t, flush0_8 t, ?_⟩
  show i ∈ ((View.whole main_v21_0).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512
              rw [(idx_facts t).2.2.2.2.1.1]; omega
  | ⟨1, _⟩ => show win0_8.index t 1 * 1024 ≤ (i 1 : Nat) ∧ (i 1 : Nat) < win0_8.index t 1 * 1024 + 1024
              rw [(idx_facts t).2.2.2.2.1.2]; omega

theorem final8 (c : Dev nD) : (dats m 0 c).arrAt 8 cfg0.N = G8 m c :=
  (dats m 0 c).arrAt_eq_of_cover 8 (G8 m c) (fun t _ => flushed8 m c t) cover8

/-- The values of the block the body stores, and the array they end in. -/
theorem after9 (c : Dev nD) (t : Fin cfg0.N) (r : Fin 512) (l : Fin 1024) :
    ((dats m 0 c).after 9 t : FVec Ideal S512x1024 .f32) (ix2 r l)
      = cols (fun k => m ((c : Thread nD τ).loc main_arg0) (ix2 ⟨t.val * 512 + r.val, by have := tlt t; omega⟩ k))
          (fun k n => m ((c : Thread nD τ).loc main_arg1) (ix2 k n)) 2048 l := by
  rw [after0_9]
  unfold outsAt0 out0_A_9 kernelRun0_A
  dsimp only
  sl_unfold_words
  simp only [View.readAt_eq_ld, (hs0_0 t).read_unread, (hs0_2 t).read_unread]
  rw [View.read_writes_junk_eq_canon, View.canon_unit_zero hz, View.ld_unit_zero hz, View.ld_unit_zero hz]
  pointwise [k0_pay9, k0_pay6]
  simp only [iblk0, iblk2]
  unfold cols
  rfl

abbrev G9 (c : Dev nD) : Buf (Elt Ideal) ((c : Thread nD τ).loc main_v21_1) :=
  Cert.Reference5Ideal.Read.val_main_v3 (F := Ideal) (m ((c : Thread nD τ).loc main_arg0)) (m ((c : Thread nD τ).loc main_arg1))

theorem flushed9 (c : Dev nD) (t : Fin cfg0.N) :
    (dats m 0 c).flushed 9 t = (win0_9.blk t).view.read (Elt Ideal) (G9 m c) := by
  show (cfg0.win 9).cut (grid0.coords t) ((dats m 0 c).after 9 t) = _
  funext y
  obtain ⟨r, l, rfl⟩ : ∃ (r : Fin 512) (l : Fin 1024), y = ix2 r l := ⟨y 0, y 1, eq_ix2 y⟩
  show ((dats m 0 c).after 9 t : FVec Ideal S512x1024 .f32) (ix2 r l) = G9 m c ((win0_9.blk t).view.emb (ix2 r l))
  have e : (win0_9.blk t).view.emb (ix2 r l)
      = (ix2 ⟨t.val * 512 + r.val, by have := tlt t; omega⟩ l : S16384x1024.Idx) := funext fun a => Fin.ext (by
    match a with
    | ⟨0, _⟩ => show win0_9.index t 0 * 512 + 1 * r.val = t.val * 512 + r.val
                rw [(idx_facts t).2.2.2.2.2.1.1]; have := tlt t; omega
    | ⟨1, _⟩ => show win0_9.index t 1 * 1024 + 1 * l.val = l.val
                rw [(idx_facts t).2.2.2.2.2.1.2]; omega)
  rw [e, after9]
  unfold G9
  rw [ref_v]

theorem cover9 (i : S16384x1024.Idx) :
    ∃ t : Fin cfg0.N, (cfg0.win 9).flush t = true ∧ i ∈ ((cfg0.win 9).blk t).view.set := by
  have h0 : (i 0 : Nat) < 16384 := (i 0).isLt
  have h1 : (i 1 : Nat) < 1024 := (i 1).isLt
  have hN : cfg0.N = 32 := N_0
  obtain ⟨t, ht⟩ : ∃ t : Fin cfg0.N, t.val = (i 0 : Nat) / 512 := ⟨⟨(i 0 : Nat) / 512, by omega⟩, rfl⟩
  refine ⟨t, flush0_9 t, ?_⟩
  show i ∈ ((View.whole main_v21_1).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512
              rw [(idx_facts t).2.2.2.2.2.1.1]; omega
  | ⟨1, _⟩ => show win0_9.index t 1 * 1024 ≤ (i 1 : Nat) ∧ (i 1 : Nat) < win0_9.index t 1 * 1024 + 1024
              rw [(idx_facts t).2.2.2.2.2.1.2]; omega

theorem final9 (c : Dev nD) : (dats m 0 c).arrAt 9 cfg0.N = G9 m c :=
  (dats m 0 c).arrAt_eq_of_cover 9 (G9 m c) (fun t _ => flushed9 m c t) cover9

/-- The index key and head weights of the block the body stores, and the array they end in. -/
theorem after10 (c : Dev nD) (t : Fin cfg0.N) (r : Fin 512) (l : Fin 128) :
    ((dats m 0 c).after 10 t : FVec Ideal S512x128 .f32) (ix2 r l)
      = tail (fun k => m ((c : Thread nD τ).loc main_arg0) (ix2 ⟨t.val * 512 + r.val, by have := tlt t; omega⟩ k))
          (fun k n => m ((c : Thread nD τ).loc main_arg1) (ix2 k n)) l := by
  rw [after0_10]
  unfold outsAt0 out0_A_10 kernelRun0_A
  dsimp only
  sl_unfold_words
  simp only [View.readAt_eq_ld, (hs0_0 t).read_unread, (hs0_3 t).read_unread]
  rw [View.read_writes_junk_eq_canon, View.canon_unit_zero hz, View.ld_unit_zero hz, View.ld_unit_zero hz]
  pointwise [k0_pay10, k0_pay6]
  simp only [iblk0, iblk3]
  exact tail_eq (fun k => m ((c : Thread nD τ).loc main_arg0) (ix2 ⟨t.val * 512 + r.val, by have := tlt t; omega⟩ k))
    (fun k n => m ((c : Thread nD τ).loc main_arg1) (ix2 k n)) _ (fun _ _ => rfl) l

abbrev G10 (c : Dev nD) : Buf (Elt Ideal) ((c : Thread nD τ).loc main_v21_2) :=
  Cert.Reference5Ideal.Read.val_main_v6 (F := Ideal) (m ((c : Thread nD τ).loc main_arg0)) (m ((c : Thread nD τ).loc main_arg1))

theorem flushed10 (c : Dev nD) (t : Fin cfg0.N) :
    (dats m 0 c).flushed 10 t = (win0_10.blk t).view.read (Elt Ideal) (G10 m c) := by
  show (cfg0.win 10).cut (grid0.coords t) ((dats m 0 c).after 10 t) = _
  funext y
  obtain ⟨r, l, rfl⟩ : ∃ (r : Fin 512) (l : Fin 128), y = ix2 r l := ⟨y 0, y 1, eq_ix2 y⟩
  show ((dats m 0 c).after 10 t : FVec Ideal S512x128 .f32) (ix2 r l) = G10 m c ((win0_10.blk t).view.emb (ix2 r l))
  have e : (win0_10.blk t).view.emb (ix2 r l)
      = (ix2 ⟨t.val * 512 + r.val, by have := tlt t; omega⟩ l : S16384x128.Idx) := funext fun a => Fin.ext (by
    match a with
    | ⟨0, _⟩ => show win0_10.index t 0 * 512 + 1 * r.val = t.val * 512 + r.val
                rw [(idx_facts t).2.2.2.2.2.2.1]; have := tlt t; omega
    | ⟨1, _⟩ => show win0_10.index t 1 * 128 + 1 * l.val = l.val
                rw [(idx_facts t).2.2.2.2.2.2.2]; omega)
  rw [e, after10]
  unfold G10
  rw [ref_tail]

theorem cover10 (i : S16384x128.Idx) :
    ∃ t : Fin cfg0.N, (cfg0.win 10).flush t = true ∧ i ∈ ((cfg0.win 10).blk t).view.set := by
  have h0 : (i 0 : Nat) < 16384 := (i 0).isLt
  have h1 : (i 1 : Nat) < 128 := (i 1).isLt
  have hN : cfg0.N = 32 := N_0
  obtain ⟨t, ht⟩ : ∃ t : Fin cfg0.N, t.val = (i 0 : Nat) / 512 := ⟨⟨(i 0 : Nat) / 512, by omega⟩, rfl⟩
  refine ⟨t, flush0_10 t, ?_⟩
  show i ∈ ((View.whole main_v21_2).slice (win0_10.rect t)).set
  rw [View.set_slice_whole, Rect.mem_set_unit]
  intro a
  match a with
  | ⟨0, _⟩ => show win0_10.index t 0 * 512 ≤ (i 0 : Nat) ∧ (i 0 : Nat) < win0_10.index t 0 * 512 + 512
              rw [(idx_facts t).2.2.2.2.2.2.1]; omega
  | ⟨1, _⟩ => show win0_10.index t 1 * 128 ≤ (i 1 : Nat) ∧ (i 1 : Nat) < win0_10.index t 1 * 128 + 128
              rw [(idx_facts t).2.2.2.2.2.2.2]; omega

theorem final10 (c : Dev nD) : (dats m 0 c).arrAt 10 cfg0.N = G10 m c :=
  (dats m 0 c).arrAt_eq_of_cover 10 (G10 m c) (fun t _ => flushed10 m c t) cover10

/-- The run, read: each result at the reference's value, the arguments unchanged. -/
theorem run : θ_run defs (onTc (τ := τ) (main (F := Ideal))) ⟨m, fun _ => 0, ρ⟩ fun r => ∀ c : Dev nD,
      r.2.mem ((c : Thread nD τ).loc main_v21_0) = G8 m c
      ∧ r.2.mem ((c : Thread nD τ).loc main_v21_1) = G9 m c
      ∧ r.2.mem ((c : Thread nD τ).loc main_v21_2) = G10 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 8).trans (final8 m c), ((h.1 c).1 9).trans (final9 m c),
      ((h.1 c).1 10).trans (final10 m c), h.2 c⟩)
    (θ_run_and (run_main m ρ) (unchanged m ρ))

end Cert.Kernel5Ideal.AttnProj

namespace Cert.Proof.AttnProjClaims

/-- The frames: the generated ones, and the reference's own run. -/
theorem frame_k : Cert.quiescent_Kernel5 := fun m ρ _ => Cert.Kernel5.Gen.frame m ρ
theorem frame_i : Cert.quiescent_Kernel5Ideal := fun m ρ _ => Cert.Kernel5Ideal.Gen.frame m ρ
theorem frame_r : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- The idealization changed nothing. -/
theorem preserves : Cert.preserves_Kernel5_Kernel5Ideal := trivial

/-- Kernel and reference end with the same three arrays. -/
theorem algebraic : Cert.algebraic_Kernel5Ideal_Reference5Ideal := by
  intro m ρ m' ρ' _ hagree
  refine ⟨fun c => Cert.Kernel5Ideal.AttnProj.G8 m c, fun c => Cert.Kernel5Ideal.AttnProj.G9 m c,
    fun c => Cert.Kernel5Ideal.AttnProj.G10 m c, Cert.Kernel5Ideal.AttnProj.run m ρ, ?_⟩
  refine (θ_run Cert.Reference5Ideal.defs _ _).mono
    (fun _ h c => ⟨(h c).1.trans ?_, (h c).2.1.trans ?_, (h c).2.2.1.trans ?_, (h c).2.2.2⟩)
    (Cert.Reference5Ideal.Value.run (F := Ideal) m' ρ')
  · show _ = Cert.Kernel5Ideal.AttnProj.G8 m c
    unfold Cert.Kernel5Ideal.AttnProj.G8
    rw [← (hagree c).1, ← (hagree c).2]
    exact Cert.Reference5Ideal.Read.val_main_v2_eq _ _
  · show _ = Cert.Kernel5Ideal.AttnProj.G9 m c
    unfold Cert.Kernel5Ideal.AttnProj.G9
    rw [← (hagree c).1, ← (hagree c).2]
    exact Cert.Reference5Ideal.Read.val_main_v3_eq _ _
  · show _ = Cert.Kernel5Ideal.AttnProj.G10 m c
    unfold Cert.Kernel5Ideal.AttnProj.G10
    rw [← (hagree c).1, ← (hagree c).2]
    exact Cert.Reference5Ideal.Read.val_main_v6_eq _ _

end Cert.Proof.AttnProjClaims

end
-- ==== Proof.AttnProjS.lean ====
/-
  The sample rows' input projection: keys, values, and the index key with the head weights.
-/
module

public import proofs.«01_k».proof.Defs
public import proofs.«01_k».proof.Proof.Rows
public import proofs.«01_k».proof.Proof.Gen.Kernel6.Frame
public import proofs.«01_k».proof.Proof.Gen.Kernel6Ideal.Frame
public import proofs.«01_k».proof.Proof.Gen.Reference6Ideal.Read
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.AttnProjS

open Cert.Kernel6Ideal Cert.Kernel6Ideal.Gen Cert.Rows

variable (m : (ℓ : Loc nD τ sig) → Buf (Elt Ideal) ℓ) (ρ : Dev nD → PrngReg)

theorem hz : (![0, 0] : Fin 2 → Nat) = fun _ => 0 := funext fun a => by fin_cases a <;> rfl

/-- The reference's values, at an index. -/
theorem ref_k (x : FVec Ideal S256x1024 .f32) (w : FVec Ideal S1024x3656 .f32) (r : Fin 256) (l : Fin 1024) :
    Cert.Reference6Ideal.Read.val_main_v2 (F := Ideal) x w (ix2 r l)
      = cols (fun k => x (ix2 r k)) (fun k n => w (ix2 k n)) 1024 l := by
  unfold cols
  pointwise [Cert.Reference6Ideal.Read.val_main_v2, Cert.Reference6Ideal.Read.val_main_v0]

theorem ref_v (x : FVec Ideal S256x1024 .f32) (w : FVec Ideal S1024x3656 .f32) (r : Fin 256) (l : Fin 1024) :
    Cert.Reference6Ideal.Read.val_main_v3 (F := Ideal) x w (ix2 r l)
      = cols (fun k => x (ix2 r k)) (fun k n => w (ix2 k n)) 2048 l := by
  unfold cols
  pointwise [Cert.Reference6Ideal.Read.val_main_v3, Cert.Reference6Ideal.Read.val_main_v0]

theorem ref_tail (x : FVec Ideal S256x1024 .f32) (w : FVec Ideal S1024x3656 .f32) (r : Fin 256) (l : Fin 128) :
    Cert.Reference6Ideal.Read.val_main_v6 (F := Ideal) x w (ix2 r l)
      = tail (fun k => x (ix2 r k)) (fun k n => w (ix2 k n)) l := by
  unfold tail
  pointwise [Cert.Reference6Ideal.Read.val_main_v6, Cert.Reference6Ideal.Read.val_main_v5, Cert.Reference6Ideal.Read.val_main_call0_v0,
    Cert.Reference6Ideal.Read.val_main_c, Cert.Reference6Ideal.Read.val_main_v0]
  rw [zero_int]

/-- The row a point's block starts at, in range. -/
theorem tlt (t : Fin cfg0.N) : t.val < 1 := by have := t.isLt; have h : cfg0.N = 1 := N_0; omega

/-- The index maps over the grid. -/
theorem idx_facts : ∀ t : Fin cfg0.N, (win0_0.index t 0 = t.val ∧ win0_0.index t 1 = 0) ∧ (win0_2.index t 0 = 0 ∧ win0_2.index t 1 = 0)
    ∧ (win0_3.index t 0 = 0 ∧ win0_3.index t 1 = 0) ∧ (win0_5.index t 0 = 0 ∧ win0_5.index t 1 = 0)
    ∧ (win0_7.index t 0 = t.val ∧ win0_7.index t 1 = 0) ∧ (win0_8.index t 0 = t.val ∧ win0_8.index t 1 = 0)
    ∧ (win0_10.index t 0 = t.val ∧ win0_10.index t 1 = 0) := by decide +kernel

theorem iblk0 (c : Dev nD) (t : Fin cfg0.N) (r : Fin 256) (k : Fin 1024) :
    iblk m c 0 t (ix2 r k) = m ((c : Thread nD τ).loc main_arg0) (ix2 r k) := by
  unfold iblk
  show (V m c main_arg0) (((cfg0.win 0).blk t).view.emb (ix2 r k)) = _
  rw [V_main_arg0]
  refine congrArg _ (funext fun a => Fin.ext ?_)
  match a with
  | ⟨0, _⟩ => show win0_0.index t 0 * 256 + 1 * r.val = r.val
              rw [(idx_facts t).1.1]; have := tlt t; omega
  | ⟨1, _⟩ => show win0_0.index t 1 * 1024 + 1 * k.val = k.val
              rw [(idx_facts t).1.2]; omega

theorem iblk2 (c : Dev nD) (t : Fin cfg0.N) (k : Fin 1024) (l : Fin 1024) :
    (iblk m c 2 t (ix2 k l) : EReal)
      = (m ((c : Thread nD τ).loc main_arg1) (ix2 k ⟨1024 + l.val, by omega⟩) : EReal) := by
  unfold iblk
  show ((V m c main_v10) (((cfg0.win 2).blk t).view.emb (ix2 k l)) : EReal) = _
  have e : ((cfg0.win 2).blk t).view.emb (ix2 k l) = (ix2 k l : S1024x1024.Idx) := funext fun a => Fin.ext (by
    match a with
    | ⟨0, _⟩ => show win0_2.index t 0 * 1024 + 1 * k.val = k.val
                rw [(idx_facts t).2.1.1]; omega
    | ⟨1, _⟩ => show win0_2.index t 1 * 1024 + 1 * l.val = l.val
                rw [(idx_facts t).2.1.2]; omega)
  rw [e]
  simp only [V, hostOps0, hostOps0_1, hostOps0_2, hostOps0_3, hostOps0_4, List.flatten_cons, List.flatten_nil, List.append_nil, List.cons_append, List.nil_append]
  entry_read
  pointwise

theorem iblk3 (c : Dev nD) (t : Fin cfg0.N) (k : Fin 1024) (l : Fin 1024) :
    (iblk m c 3 t (ix2 k l) : EReal)
      = (m ((c : Thread nD τ).loc main_arg1) (ix2 k ⟨2048 + l.val, by omega⟩) : EReal) := by
  unfold iblk
  show ((V m c main_v11) (((cfg0.win 3).blk t).view.emb (ix2 k l)) : EReal) = _
  have e : ((cfg0.win 3).blk t).view.emb (ix2 k l) = (ix2 k l : S1024x1024.Idx) := funext fun a => Fin.ext (by
    match a with
    | ⟨0, _⟩ => show win0_3.index t 0 * 1024 + 1 * k.val = k.val
                rw [(idx_facts t).2.2.1.1]; omega
    | ⟨1, _⟩ => show win0_3.index t 1 * 1024 + 1 * l.val = l.val
                rw [(idx_facts t).2.2.1.2]; omega)
  rw [e]
  simp only [V, hostOps0, hostOps0_1, hostOps0_2, hostOps0_3, hostOps0_4, List.flatten_cons, List.flatten_nil, List.append_nil, List.cons_append, List.nil_append]
  entry_read
  pointwise

theorem iblk5 (c : Dev nD) (t : Fin cfg0.N) (k : Fin 1024) (l : Fin 128) :
    (iblk m c 5 t (ix2 k l) : EReal)
      = if h : l.val < 72 then (m ((c : Thread nD τ).loc main_arg1) (ix2 k ⟨3584 + l.val, by omega⟩) : EReal) else (0 : EReal) := by
  unfold iblk
  show ((V m c main_v13) (((cfg0.win 5).blk t).view.emb (ix2 k l)) : EReal) = _
  have e : ((cfg0.win 5).blk t).view.emb (ix2 k l) = (ix2 k l : S1024x128.Idx) := funext fun a => Fin.ext (by
    match a with
    | ⟨0, _⟩ => show win0_5.index t 0 * 1024 + 1 * k.val = k.val
                rw [(idx_facts t).2.2.2.1.1]; omega
    | ⟨1, _⟩ => show win0_5.index t 1 * 128 + 1 * l.val = l.val
                rw [(idx_facts t).2.2.2.1.2]; omega)
  rw [e]
  simp only [V, hostOps0, hostOps0_1, hostOps0_2, hostOps0_3, hostOps0_4, List.flatten_cons, List.flatten_nil, List.append_nil, List.cons_append, List.nil_append]
  entry_read
  show (pad S1024x128 ![0, 0] ![0, 56] ![0, 0]
      (extractStridedSlice S1024x72 ![0, 3584] (m ((c : Thread nD τ).loc main_arg1)) slices_S1024x3656_S1024x72_0_3584)
      (sitofp (F := Ideal) FTy.f32 (constantI S_ 32 0#32) : S_.Idx → EReal) pads_S1024x72_S1024x128_000_0560 h_S_ (ix2 k l) : EReal) = _
  pointwise
  rw [zero_int]

/-- The keys of the block the body stores, and the array they end in. -/
theorem after7 (c : Dev nD) (t : Fin cfg0.N) (r : Fin 256) (l : Fin 1024) :
    ((dats m 0 c).after 7 t : FVec Ideal S256x1024 .f32) (ix2 r l)
      = cols (fun k => m ((c : Thread nD τ).loc main_arg0) (ix2 r k))
          (fun k n => m ((c : Thread nD τ).loc main_arg1) (ix2 k n)) 1024 l := by
  rw [after0_7]
  unfold out0_7
  rw [View.canon_unit_zero hz, View.ld_unit_zero hz, View.ld_unit_zero hz]
  pointwise [k0_pay3, k0_pay1]
  simp only [iblk0, iblk2]
  unfold cols
  rfl

abbrev G7 (c : Dev nD) : Buf (Elt Ideal) ((c : Thread nD τ).loc main_v14_1) :=
  Cert.Reference6Ideal.Read.val_main_v2 (F := Ideal) (m ((c : Thread nD τ).loc main_arg0)) (m ((c : Thread nD τ).loc main_arg1))

theorem flushed7 (c : Dev nD) (t : Fin cfg0.N) :
    (dats m 0 c).flushed 7 t = (win0_7.blk t).view.read (Elt Ideal) (G7 m c) := by
  show (cfg0.win 7).cut (grid0.coords t) ((dats m 0 c).after 7 t) = _
  funext y
  obtain ⟨r, l, rfl⟩ : ∃ (r : Fin 256) (l : Fin 1024), y = ix2 r l := ⟨y 0, y 1, eq_ix2 y⟩
  show ((dats m 0 c).after 7 t : FVec Ideal S256x1024 .f32) (ix2 r l) = G7 m c ((win0_7.blk t).view.emb (ix2 r l))
  have e : (win0_7.blk t).view.emb (ix2 r l)
      = (ix2 r l : S256x1024.Idx) := funext fun a => Fin.ext (by
    match a with
    | ⟨0, _⟩ => show win0_7.index t 0 * 256 + 1 * r.val = r.val
                rw [(idx_facts t).2.2.2.2.1.1]; have := tlt t; omega
    | ⟨1, _⟩ => show win0_7.index t 1 * 1024 + 1 * l.val = l.val
                rw [(idx_facts t).2.2.2.2.1.2]; omega)
  rw [e, after7]
  unfold G7
  rw [ref_k]

theorem cover7 (i : S256x1024.Idx) :
    ∃ t : Fin cfg0.N, (cfg0.win 7).flush t = true ∧ i ∈ ((cfg0.win 7).blk t).view.set := by
  have h0 : (i 0 : Nat) < 256 := (i 0).isLt
  have h1 : (i 1 : Nat) < 1024 := (i 1).isLt
  have hN : cfg0.N = 1 := N_0
  obtain ⟨t, ht⟩ : ∃ t : Fin cfg0.N, t.val = (i 0 : Nat) / 256 := ⟨⟨(i 0 : Nat) / 256, by omega⟩, rfl⟩
  refine ⟨t, flush0_7 t, ?_⟩
  show i ∈ ((View.whole main_v14_1).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + 256
              rw [(idx_facts t).2.2.2.2.1.1]; omega
  | ⟨1, _⟩ => show win0_7.index t 1 * 1024 ≤ (i 1 : Nat) ∧ (i 1 : Nat) < win0_7.index t 1 * 1024 + 1024
              rw [(idx_facts t).2.2.2.2.1.2]; omega

theorem final7 (c : Dev nD) : (dats m 0 c).arrAt 7 cfg0.N = G7 m c :=
  (dats m 0 c).arrAt_eq_of_cover 7 (G7 m c) (fun t _ => flushed7 m c t) cover7

/-- The values of the block the body stores, and the array they end in. -/
theorem after8 (c : Dev nD) (t : Fin cfg0.N) (r : Fin 256) (l : Fin 1024) :
    ((dats m 0 c).after 8 t : FVec Ideal S256x1024 .f32) (ix2 r l)
      = cols (fun k => m ((c : Thread nD τ).loc main_arg0) (ix2 r k))
          (fun k n => m ((c : Thread nD τ).loc main_arg1) (ix2 k n)) 2048 l := by
  rw [after0_8]
  unfold out0_8
  rw [View.canon_unit_zero hz, View.ld_unit_zero hz, View.ld_unit_zero hz]
  pointwise [k0_pay4, k0_pay1]
  simp only [iblk0, iblk3]
  unfold cols
  rfl

abbrev G8 (c : Dev nD) : Buf (Elt Ideal) ((c : Thread nD τ).loc main_v14_2) :=
  Cert.Reference6Ideal.Read.val_main_v3 (F := Ideal) (m ((c : Thread nD τ).loc main_arg0)) (m ((c : Thread nD τ).loc main_arg1))

theorem flushed8 (c : Dev nD) (t : Fin cfg0.N) :
    (dats m 0 c).flushed 8 t = (win0_8.blk t).view.read (Elt Ideal) (G8 m c) := by
  show (cfg0.win 8).cut (grid0.coords t) ((dats m 0 c).after 8 t) = _
  funext y
  obtain ⟨r, l, rfl⟩ : ∃ (r : Fin 256) (l : Fin 1024), y = ix2 r l := ⟨y 0, y 1, eq_ix2 y⟩
  show ((dats m 0 c).after 8 t : FVec Ideal S256x1024 .f32) (ix2 r l) = G8 m c ((win0_8.blk t).view.emb (ix2 r l))
  have e : (win0_8.blk t).view.emb (ix2 r l)
      = (ix2 r l : S256x1024.Idx) := funext fun a => Fin.ext (by
    match a with
    | ⟨0, _⟩ => show win0_8.index t 0 * 256 + 1 * r.val = r.val
                rw [(idx_facts t).2.2.2.2.2.1.1]; have := tlt t; omega
    | ⟨1, _⟩ => show win0_8.index t 1 * 1024 + 1 * l.val = l.val
                rw [(idx_facts t).2.2.2.2.2.1.2]; omega)
  rw [e, after8]
  unfold G8
  rw [ref_v]

theorem cover8 (i : S256x1024.Idx) :
    ∃ t : Fin cfg0.N, (cfg0.win 8).flush t = true ∧ i ∈ ((cfg0.win 8).blk t).view.set := by
  have h0 : (i 0 : Nat) < 256 := (i 0).isLt
  have h1 : (i 1 : Nat) < 1024 := (i 1).isLt
  have hN : cfg0.N = 1 := N_0
  obtain ⟨t, ht⟩ : ∃ t : Fin cfg0.N, t.val = (i 0 : Nat) / 256 := ⟨⟨(i 0 : Nat) / 256, by omega⟩, rfl⟩
  refine ⟨t, flush0_8 t, ?_⟩
  show i ∈ ((View.whole main_v14_2).slice (win0_8.rect t)).set
  rw [View.set_slice_whole, Rect.mem_set_unit]
  intro a
  match a with
  | ⟨0, _⟩ => show win0_8.index t 0 * 256 ≤ (i 0 : Nat) ∧ (i 0 : Nat) < win0_8.index t 0 * 256 + 256
              rw [(idx_facts t).2.2.2.2.2.1.1]; omega
  | ⟨1, _⟩ => show win0_8.index t 1 * 1024 ≤ (i 1 : Nat) ∧ (i 1 : Nat) < win0_8.index t 1 * 1024 + 1024
              rw [(idx_facts t).2.2.2.2.2.1.2]; omega

theorem final8 (c : Dev nD) : (dats m 0 c).arrAt 8 cfg0.N = G8 m c :=
  (dats m 0 c).arrAt_eq_of_cover 8 (G8 m c) (fun t _ => flushed8 m c t) cover8

/-- The index key and head weights of the block the body stores, and the array they end in. -/
theorem after10 (c : Dev nD) (t : Fin cfg0.N) (r : Fin 256) (l : Fin 128) :
    ((dats m 0 c).after 10 t : FVec Ideal S256x128 .f32) (ix2 r l)
      = tail (fun k => m ((c : Thread nD τ).loc main_arg0) (ix2 r k))
          (fun k n => m ((c : Thread nD τ).loc main_arg1) (ix2 k n)) l := by
  rw [after0_10]
  unfold out0_10
  rw [View.canon_unit_zero hz, View.ld_unit_zero hz, View.ld_unit_zero hz]
  pointwise [k0_pay6, k0_pay1]
  simp only [iblk0, iblk5]
  exact tail_eq (fun k => m ((c : Thread nD τ).loc main_arg0) (ix2 r k))
    (fun k n => m ((c : Thread nD τ).loc main_arg1) (ix2 k n)) _ (fun _ _ => rfl) l

abbrev G10 (c : Dev nD) : Buf (Elt Ideal) ((c : Thread nD τ).loc main_v14_4) :=
  Cert.Reference6Ideal.Read.val_main_v6 (F := Ideal) (m ((c : Thread nD τ).loc main_arg0)) (m ((c : Thread nD τ).loc main_arg1))

theorem flushed10 (c : Dev nD) (t : Fin cfg0.N) :
    (dats m 0 c).flushed 10 t = (win0_10.blk t).view.read (Elt Ideal) (G10 m c) := by
  show (cfg0.win 10).cut (grid0.coords t) ((dats m 0 c).after 10 t) = _
  funext y
  obtain ⟨r, l, rfl⟩ : ∃ (r : Fin 256) (l : Fin 128), y = ix2 r l := ⟨y 0, y 1, eq_ix2 y⟩
  show ((dats m 0 c).after 10 t : FVec Ideal S256x128 .f32) (ix2 r l) = G10 m c ((win0_10.blk t).view.emb (ix2 r l))
  have e : (win0_10.blk t).view.emb (ix2 r l)
      = (ix2 r l : S256x128.Idx) := funext fun a => Fin.ext (by
    match a with
    | ⟨0, _⟩ => show win0_10.index t 0 * 256 + 1 * r.val = r.val
                rw [(idx_facts t).2.2.2.2.2.2.1]; have := tlt t; omega
    | ⟨1, _⟩ => show win0_10.index t 1 * 128 + 1 * l.val = l.val
                rw [(idx_facts t).2.2.2.2.2.2.2]; omega)
  rw [e, after10]
  unfold G10
  rw [ref_tail]

theorem cover10 (i : S256x128.Idx) :
    ∃ t : Fin cfg0.N, (cfg0.win 10).flush t = true ∧ i ∈ ((cfg0.win 10).blk t).view.set := by
  have h0 : (i 0 : Nat) < 256 := (i 0).isLt
  have h1 : (i 1 : Nat) < 128 := (i 1).isLt
  have hN : cfg0.N = 1 := N_0
  obtain ⟨t, ht⟩ : ∃ t : Fin cfg0.N, t.val = (i 0 : Nat) / 256 := ⟨⟨(i 0 : Nat) / 256, by omega⟩, rfl⟩
  refine ⟨t, flush0_10 t, ?_⟩
  show i ∈ ((View.whole main_v14_4).slice (win0_10.rect t)).set
  rw [View.set_slice_whole, Rect.mem_set_unit]
  intro a
  match a with
  | ⟨0, _⟩ => show win0_10.index t 0 * 256 ≤ (i 0 : Nat) ∧ (i 0 : Nat) < win0_10.index t 0 * 256 + 256
              rw [(idx_facts t).2.2.2.2.2.2.1]; omega
  | ⟨1, _⟩ => show win0_10.index t 1 * 128 ≤ (i 1 : Nat) ∧ (i 1 : Nat) < win0_10.index t 1 * 128 + 128
              rw [(idx_facts t).2.2.2.2.2.2.2]; omega

theorem final10 (c : Dev nD) : (dats m 0 c).arrAt 10 cfg0.N = G10 m c :=
  (dats m 0 c).arrAt_eq_of_cover 10 (G10 m c) (fun t _ => flushed10 m c t) cover10

/-- The run, read: each result at the reference's value, the arguments unchanged. -/
theorem run : θ_run defs (onTc (τ := τ) (main (F := Ideal))) ⟨m, fun _ => 0, ρ⟩ fun r => ∀ c : Dev nD,
      r.2.mem ((c : Thread nD τ).loc main_v14_1) = G7 m c
      ∧ r.2.mem ((c : Thread nD τ).loc main_v14_2) = G8 m c
      ∧ r.2.mem ((c : Thread nD τ).loc main_v14_4) = G10 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 7).trans (final7 m c), ((h.1 c).1 8).trans (final8 m c),
      ((h.1 c).1 10).trans (final10 m c), h.2 c⟩)
    (θ_run_and (run_main m ρ) (unchanged m ρ))

end Cert.Kernel6Ideal.AttnProjS

namespace Cert.Proof.AttnProjSClaims

/-- The frames: the generated ones, and the reference's own run. -/
theorem frame_k : Cert.quiescent_Kernel6 := fun m ρ _ => Cert.Kernel6.Gen.frame m ρ
theorem frame_i : Cert.quiescent_Kernel6Ideal := fun m ρ _ => Cert.Kernel6Ideal.Gen.frame m ρ
theorem frame_r : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The idealization changed nothing. -/
theorem preserves : Cert.preserves_Kernel6_Kernel6Ideal := trivial

/-- Kernel and reference end with the same three arrays. -/
theorem algebraic : Cert.algebraic_Kernel6Ideal_Reference6Ideal := by
  intro m ρ m' ρ' _ hagree
  refine ⟨fun c => Cert.Kernel6Ideal.AttnProjS.G7 m c, fun c => Cert.Kernel6Ideal.AttnProjS.G8 m c,
    fun c => Cert.Kernel6Ideal.AttnProjS.G10 m c, Cert.Kernel6Ideal.AttnProjS.run m ρ, ?_⟩
  refine (θ_run Cert.Reference6Ideal.defs _ _).mono
    (fun _ h c => ⟨(h c).1.trans ?_, (h c).2.1.trans ?_, (h c).2.2.1.trans ?_, (h c).2.2.2⟩)
    (Cert.Reference6Ideal.Value.run (F := Ideal) m' ρ')
  · show _ = Cert.Kernel6Ideal.AttnProjS.G7 m c
    unfold Cert.Kernel6Ideal.AttnProjS.G7
    rw [← (hagree c).1, ← (hagree c).2]
    exact Cert.Reference6Ideal.Read.val_main_v2_eq _ _
  · show _ = Cert.Kernel6Ideal.AttnProjS.G8 m c
    unfold Cert.Kernel6Ideal.AttnProjS.G8
    rw [← (hagree c).1, ← (hagree c).2]
    exact Cert.Reference6Ideal.Read.val_main_v3_eq _ _
  · show _ = Cert.Kernel6Ideal.AttnProjS.G10 m c
    unfold Cert.Kernel6Ideal.AttnProjS.G10
    rw [← (hagree c).1, ← (hagree c).2]
    exact Cert.Reference6Ideal.Read.val_main_v6_eq _ _

end Cert.Proof.AttnProjSClaims

end
-- ==== Proof.ConvBlock.lean ====
/-
  The samples' convolution: what one grid point leaves in its two output blocks, one sequence at a time.
-/
module

public import proofs.«01_k».proof.Proof.Gen.Kernel7Ideal.Value
public import Idealize.ShloMosaic.Lib.Pointwise

@[expose] public section

set_option maxRecDepth 16384

noncomputable section

namespace Cert.Kernel7Ideal.Conv
open Cert.Kernel7Ideal.Gen
open Idealize.ShloMosaic Idealize.ShloMosaic.TcCoe

variable {F : FTy → Type} [FloatOps F]

/-- The previous rows with the new ones below. -/
def stack (a : Vec F S30x1024 .f32) (b : Vec F S8x1024 .f32) (n : ℕ) (l : Fin 1024) : F .f32 :=
  if h : n < 30 then a (ix2 ⟨n, h⟩ l) else b (ix2 ⟨(n - 30) % 8, Nat.mod_lt _ (by omega)⟩ l)

/-- `k` rows of them from row `o`. -/
def rowsAt (a : Vec F S30x1024 .f32) (b : Vec F S8x1024 .f32) (k o : ℕ) : (⟨2, ![k, 1024]⟩ : Shape).Idx → F .f32 :=
  fun y => stack a b (o + (y 0).val) (y 1)

/-- Row `j` of the taps. -/
def tap (x : Vec F S32x1024 .f32) (j : ℕ) : Vec F S1x1024 .f32 :=
  fun y => x (ix2 ⟨j % 32, Nat.mod_lt _ (by omega)⟩ (y 1))

/-- The taps' products summed up to tap `n`. -/
def taps (V : ℕ → Vec F S8x1024 .f32) (W : ℕ → Vec F S1x1024 .f32) : ℕ → FVec F S8x1024 .f32
  | 0 => broadcast S8x1024 (Scalar.ofBits .f32 0x00000000#32)
  | n + 1 => addf (taps V W n)
      (mulf (V n) (broadcastTo S8x1024 (shapeCast S1x1024 (W n) shapeCasts_S1x1024_S1x1024) broadcasts_S1x1024_S8x1024))

/-- A row vector repeated over the eight rows. -/
def wide (x : Vec F S1x1024 .f32) : FVec F S8x1024 .f32 :=
  broadcastTo S8x1024 (shapeCast S1x1024 x shapeCasts_S1x1024_S1x1024) broadcasts_S1x1024_S8x1024

/-- The mean of each row, as a column. -/
def meanV (y : FVec F S8x1024 .f32) : FVec F S8x1 .f32 :=
  divf (shapeCast S8x1 (multiReduction .add [1] S8 y 0x00000000#32 reduces_S8x1024_S8 (.inl rfl) rfl) shapeCasts_S8_S8x1)
    (broadcast S8x1 (Scalar.ofBits .f32 0x44800000#32))

/-- The rows minus their means. -/
def centred (y : FVec F S8x1024 .f32) : FVec F S8x1024 .f32 :=
  subf y (broadcastTo S8x1024 (meanV y) broadcasts_S8x1_S8x1024)

/-- The normed rows. -/
def normV (d : FVec F S8x1024 .f32) (g b : Vec F S1x1024 .f32) : FVec F S8x1024 .f32 :=
  addf (mulf (mulf d (broadcastTo S8x1024
      (rsqrt (addf (meanV (mulf d d)) (broadcast S8x1 (Scalar.ofBits .f32 0x3727C5AC#32)))) broadcasts_S8x1_S8x1024))
    (wide g)) (wide b)

/-- The rows times their logistic. -/
def siluV (z : FVec F S8x1024 .f32) : FVec F S1x8x1024 .f32 :=
  shapeCast S1x8x1024 (mulf z (logistic z)) shapeCasts_S8x1024_S1x8x1024

/-- What the body stores for one sequence: the taps' sum over the stacked rows, the bias, the norm, the gate. -/
def seqV (a : Vec F S30x1024 .f32) (b : Vec F S8x1024 .f32) (w : Vec F S32x1024 .f32) (x3 x4 x5 : Vec F S1x1024 .f32) :
    FVec F S1x8x1024 .f32 :=
  siluV (normV (centred (addf (taps (rowsAt a b 8) (tap w) 31) (wide x3))) x4 x5)

/-- A sequence of the state's block. -/
def stRow (x : Vec F S8x30x1024 .f32) (s : ℕ) : Vec F S30x1024 .f32 :=
  shapeCast S30x1024 (shapeCast S30x1024 (fun y : S1x30x1024.Idx => x (ix3 ⟨s % 8, Nat.mod_lt _ (by omega)⟩ (y 1) (y 2)))
    shapeCasts_S1x30x1024_S30x1024) shapeCasts_S30x1024_S30x1024

/-- A sequence of the new rows' block. -/
def uRow (x : Vec F S8x8x1024 .f32) (s : ℕ) : Vec F S8x1024 .f32 :=
  shapeCast S8x1024 (shapeCast S8x1024 (fun y : S1x8x1024.Idx => x (ix3 ⟨s % 8, Nat.mod_lt _ (by omega)⟩ (y 1) (y 2)))
    shapeCasts_S1x8x1024_S8x1024) shapeCasts_S8x1024_S8x1024

/-- A load of rows from the buffer, after the stores of the previous rows and of the new ones. -/
theorem load_rows {σ : RefSig} (v : View σ .tc .vmem S40x1024 .f32) (a : Vec F S30x1024 .f32) (b : Vec F S8x1024 .f32)
    (L : List (View.Piece (Elt F) S40x1024 .f32)) {o k : ℕ} (i30 i0 io) (hk : o + k ≤ 38) :
    v.readCov (⟨Rect.unit (s := S40x1024) ![30, 0] ![8, 1024] i30, b⟩ :: ⟨Rect.unit (s := S40x1024) ![0, 0] ![30, 1024] i0, a⟩ :: L)
        (Rect.unit (s := S40x1024) ![o, 0] ![k, 1024] io).toLoadRect = rowsAt a b k o := by
  rw [View.readCov_eq_canon']
  funext y
  have hy : (y 0 : Nat) < k := (y 0).isLt
  have e : (Rect.unit (s := S40x1024) ![o, 0] ![k, 1024] io).toLoadRect.idx y
      = (ix2 ⟨o + (y 0).val, by omega⟩ (y 1) : S40x1024.Idx) := funext fun c => Fin.ext (by
    match c with
    | ⟨0, _⟩ => show o + 1 * (y 0).val = o + (y 0).val; omega
    | ⟨1, _⟩ => show 0 + 1 * (y 1).val = (y 1).val; omega)
  rw [e]
  unfold rowsAt stack
  by_cases h : o + (y 0).val < 30
  · rw [dif_pos h, View.canon_cons_of_not_mem]
    · have e2 : (ix2 ⟨o + (y 0).val, by omega⟩ (y 1) : S40x1024.Idx)
          = (Rect.unit (s := S40x1024) ![0, 0] ![30, 1024] i0).emb (ix2 ⟨o + (y 0).val, h⟩ (y 1)) := funext fun c => Fin.ext (by
        match c with
        | ⟨0, _⟩ => show o + (y 0).val = 0 + 1 * (o + (y 0).val); omega
        | ⟨1, _⟩ => show (y 1).val = 0 + 1 * (y 1).val; omega)
      rw [e2]
      exact View.canon_cons_emb (Rect.unit (s := S40x1024) ![0, 0] ![30, 1024] i0) a L _
    · intro hm
      have := (Rect.mem_set_unit (inb := i30)).mp hm 0
      have h1 : 30 ≤ o + (y 0).val := this.1
      omega
  · rw [dif_neg h]
    have e2 : (ix2 ⟨o + (y 0).val, by omega⟩ (y 1) : S40x1024.Idx)
        = (Rect.unit (s := S40x1024) ![30, 0] ![8, 1024] i30).emb
            (ix2 ⟨(o + (y 0).val - 30) % 8, Nat.mod_lt _ (by omega)⟩ (y 1)) := funext fun c => Fin.ext (by
      match c with
      | ⟨0, _⟩ => show o + (y 0).val = 30 + 1 * ((o + (y 0).val - 30) % 8); omega
      | ⟨1, _⟩ => show (y 1).val = 0 + 1 * (y 1).val; omega)
    rw [e2]
    exact View.canon_cons_emb (Rect.unit (s := S40x1024) ![30, 0] ![8, 1024] i30) b _ _

/-- A load of one row of the taps. -/
theorem load_tap (x : Vec F S32x1024 .f32) {j : ℕ} (i) :
    View.ld x (Rect.unit (s := S32x1024) ![j, 0] ![1, 1024] i) = tap x j := by
  have hj : j + 1 ≤ 32 := i 0
  funext y
  refine congrArg x (funext fun c => Fin.ext ?_)
  have hy : (y 0 : Nat) < 1 := (y 0).isLt
  match c with
  | ⟨0, _⟩ => show j + 1 * (y 0).val = j % 32; omega
  | ⟨1, _⟩ => show 0 + 1 * (y 1).val = (y 1).val; omega

/-- A load of one sequence of a block of `R` rows. -/
theorem load_seq {R : ℕ} (x : Vec F (⟨3, ![8, R, 1024]⟩ : Shape) .f32) {s : ℕ} (i) :
    View.ld x (Rect.unit (s := (⟨3, ![8, R, 1024]⟩ : Shape)) ![s, 0, 0] ![1, R, 1024] i)
      = fun y : (⟨3, ![1, R, 1024]⟩ : Shape).Idx => x (ix3 ⟨s % 8, Nat.mod_lt _ (by omega)⟩ (y 1) (y 2)) := by
  have hj : s + 1 ≤ 8 := i 0
  funext y
  refine congrArg x (funext fun c => Fin.ext ?_)
  have hy : (y 0 : Nat) < 1 := (y 0).isLt
  match c with
  | ⟨0, _⟩ => show s + 1 * (y 0).val = s % 8; omega
  | ⟨1, _⟩ => show 0 + 1 * (y 1).val = (y 1).val; omega
  | ⟨2, _⟩ => show 0 + 1 * (y 2).val = (y 2).val; omega

/-- Eight rows of the buffer. -/
theorem load8 {σ : RefSig} (v : View σ .tc .vmem S40x1024 .f32) (a : Vec F S30x1024 .f32) (b : Vec F S8x1024 .f32)
    (L : List (View.Piece (Elt F) S40x1024 .f32)) {o : ℕ} (i30 i0 io) (hk : o + 8 ≤ 38) :
    @Eq (Vec F S8x1024 .f32)
      (v.readCov (⟨Rect.unit (s := S40x1024) ![30, 0] ![8, 1024] i30, b⟩ :: ⟨Rect.unit (s := S40x1024) ![0, 0] ![30, 1024] i0, a⟩ :: L)
        (Rect.unit (s := S40x1024) ![o, 0] ![8, 1024] io).toLoadRect) (rowsAt a b 8 o) :=
  load_rows v a b L i30 i0 io hk

/-- One row of the taps. -/
theorem load1 (x : Vec F S32x1024 .f32) {j : ℕ} (i) :
    @Eq (Vec F S1x1024 .f32) (View.ld x (Rect.unit (s := S32x1024) ![j, 0] ![1, 1024] i)) (tap x j) :=
  load_tap x i

/-- One sequence of the state. -/
theorem load_st (x : Vec F S8x30x1024 .f32) {s : ℕ} (i) :
    @Eq (Vec F S1x30x1024 .f32) (View.ld x (Rect.unit (s := S8x30x1024) ![s, 0, 0] ![1, 30, 1024] i))
      (fun y => x (ix3 ⟨s % 8, Nat.mod_lt _ (by omega)⟩ (y 1) (y 2))) :=
  load_seq x i

/-- One sequence of the new rows. -/
theorem load_u (x : Vec F S8x8x1024 .f32) {s : ℕ} (i) :
    @Eq (Vec F S1x8x1024 .f32) (View.ld x (Rect.unit (s := S8x8x1024) ![s, 0, 0] ![1, 8, 1024] i))
      (fun y => x (ix3 ⟨s % 8, Nat.mod_lt _ (by omega)⟩ (y 1) (y 2))) :=
  load_seq x i

theorem hz2 : (![0, 0] : Fin 2 → Nat) = fun _ => 0 := funext fun a => by fin_cases a <;> rfl

/-- A whole row vector. -/
theorem load_all (x : Vec F S1x1024 .f32) (i) :
    @Eq (Vec F S1x1024 .f32) (View.ld x (Rect.unit (s := S1x1024) ![0, 0] ![1, 1024] i)) x :=
  View.ld_unit_zero hz2 _ _

/-- What the body stores of one sequence's new state: the last thirty of the stacked rows. -/
def stateV (a : Vec F S30x1024 .f32) (b : Vec F S8x1024 .f32) : FVec F S1x30x1024 .f32 :=
  shapeCast S1x30x1024 (rowsAt a b 30 8 : Vec F S30x1024 .f32) shapeCasts_S30x1024_S1x30x1024

/-- A block whose sequences are given one by one. -/
def bySeq {R : ℕ} (g : ℕ → (⟨3, ![1, R, 1024]⟩ : Shape).Idx → F .f32) : (⟨3, ![8, R, 1024]⟩ : Shape).Idx → F .f32 :=
  fun y => g (y 0).val (ix3 0 (y 1) (y 2))

/-- A stored sequence is its part of the block. -/
theorem piece_eq {R : ℕ} (g : ℕ → (⟨3, ![1, R, 1024]⟩ : Shape).Idx → F .f32) (k : ℕ) (i)
    (w : (⟨3, ![1, R, 1024]⟩ : Shape).Idx → F .f32) (hw : w = g k) (x : (⟨3, ![1, R, 1024]⟩ : Shape).Idx) :
    w x = bySeq g ((Rect.unit (s := (⟨3, ![8, R, 1024]⟩ : Shape)) ![k, 0, 0] ![1, R, 1024] i).emb x) := by
  subst hw
  have h0 : (x 0 : Nat) < 1 := (x 0).isLt
  have e0 : ((Rect.unit (s := (⟨3, ![8, R, 1024]⟩ : Shape)) ![k, 0, 0] ![1, R, 1024] i).emb x 0).val = k := by
    show k + 1 * (x 0).val = k; omega
  unfold bySeq
  rw [e0]
  refine congrArg (g k) (funext fun c => Fin.ext ?_)
  match c with
  | ⟨0, _⟩ => show (x 0).val = 0; omega
  | ⟨1, _⟩ => show (x 1).val = 0 + 1 * (x 1).val; omega
  | ⟨2, _⟩ => show (x 2).val = 0 + 1 * (x 2).val; omega

set_option maxHeartbeats 2000000 in
/-- The state's block after the body. -/
theorem out7_eq (c : Dev nD) (i : grid0.Coords) (arg1 : Memref sig .tc .vmem S8x30x1024 .f32) (harg1 : arg1.IsWhole) (arg2 : Memref sig .tc .vmem S8x8x1024 .f32) (harg2 : arg2.IsWhole) (arg3 : Memref sig .tc .vmem S32x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x8x1024 .f32) (harg7 : arg7.IsWhole) (arg8 : Memref sig .tc .vmem S8x30x1024 .f32) (harg8 : arg8.IsWhole) (arg9 : Memref sig .tc .vmem S40x1024 .f32) (harg9 : arg9.IsWhole)
    (x0 : Vec F S8x30x1024 .f32) (x1 : Vec F S8x8x1024 .f32) (x2 : Vec F S32x1024 .f32) (x3 x4 x5 : Vec F S1x1024 .f32) :
    out0_A_7 c i arg1 harg1 arg2 harg2 arg3 harg3 arg4 harg4 arg5 harg5 arg6 harg6 arg7 harg7 arg8 harg8 arg9 harg9 x0 x1 x2 x3 x4 x5
      = bySeq (fun k => stateV (stRow x0 k) (uRow x1 k)) := by
  funext y
  unfold out0_A_7
  refine View.read_writes_apply_of_pieces VO0_7 _ _ _ ?_ y (cover0_A_7 c i arg1 harg1 arg2 harg2 arg3 harg3 arg4 harg4 arg5 harg5 arg6 harg6 arg7 harg7 arg8 harg8 arg9 harg9 x0 x1 x2 x3 x4 x5 y)
  unfold kernelRun0_A
  dsimp only
  sl_unfold_words
  simp only [View.readAt_eq_ld, harg1.read_unread, harg2.read_unread, List.forall_mem_cons]

  refine ⟨piece_eq _ _ _ _ ?_, piece_eq _ _ _ _ ?_, piece_eq _ _ _ _ ?_, piece_eq _ _ _ _ ?_, piece_eq _ _ _ _ ?_,
    piece_eq _ _ _ _ ?_, piece_eq _ _ _ _ ?_, piece_eq _ _ _ _ ?_, fun _ h => absurd h List.not_mem_nil⟩
  all_goals
    rw [load_rows _ _ _ _ _ _ _ (by decide), load_seq, load_seq]
    rfl

set_option maxHeartbeats 2000000 in
/-- The block of the convolution's rows after the body. -/
theorem out6_eq (c : Dev nD) (i : grid0.Coords) (arg1 : Memref sig .tc .vmem S8x30x1024 .f32) (harg1 : arg1.IsWhole) (arg2 : Memref sig .tc .vmem S8x8x1024 .f32) (harg2 : arg2.IsWhole) (arg3 : Memref sig .tc .vmem S32x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x8x1024 .f32) (harg7 : arg7.IsWhole) (arg8 : Memref sig .tc .vmem S8x30x1024 .f32) (harg8 : arg8.IsWhole) (arg9 : Memref sig .tc .vmem S40x1024 .f32) (harg9 : arg9.IsWhole)
    (x0 : Vec F S8x30x1024 .f32) (x1 : Vec F S8x8x1024 .f32) (x2 : Vec F S32x1024 .f32) (x3 x4 x5 : Vec F S1x1024 .f32) :
    out0_A_6 c i arg1 harg1 arg2 harg2 arg3 harg3 arg4 harg4 arg5 harg5 arg6 harg6 arg7 harg7 arg8 harg8 arg9 harg9 x0 x1 x2 x3 x4 x5
      = bySeq (fun k => seqV (stRow x0 k) (uRow x1 k) x2 x3 x4 x5) := by
  funext y
  unfold out0_A_6
  refine View.read_writes_apply_of_pieces VO0_6 _ _ _ ?_ y (cover0_A_6 c i arg1 harg1 arg2 harg2 arg3 harg3 arg4 harg4 arg5 harg5 arg6 harg6 arg7 harg7 arg8 harg8 arg9 harg9 x0 x1 x2 x3 x4 x5 y)
  unfold kernelRun0_A
  dsimp only
  sl_unfold_words
  simp only [View.readAt_eq_ld, harg1.read_unread, harg2.read_unread, harg3.read_unread, harg4.read_unread, harg5.read_unread,
    harg6.read_unread, List.forall_mem_cons]

  refine ⟨piece_eq _ _ _ _ ?_, piece_eq _ _ _ _ ?_, piece_eq _ _ _ _ ?_, piece_eq _ _ _ _ ?_, piece_eq _ _ _ _ ?_,
    piece_eq _ _ _ _ ?_, piece_eq _ _ _ _ ?_, piece_eq _ _ _ _ ?_, fun _ h => absurd h List.not_mem_nil⟩
  all_goals
    simp (disch := decide) only [load8, load1, load_st, load_u, load_all]
    sl_kernel_rfl

end Cert.Kernel7Ideal.Conv

end
-- ==== Proof.ConvForm.lean ====
/-
  The samples' convolution as numbers: the stacked rows, the sum over the taps in the operations' order, the norm and the gate.
-/
module

public import proofs.«01_k».proof.Proof.Rows

@[expose] public section

noncomputable section

open Idealize.ShloMosaic

namespace Cert.ConvForm

/-- The thirty previous rows with the eight new ones below. -/
def stack (a : Fin 30 → Fin 1024 → EReal) (b : Fin 8 → Fin 1024 → EReal) (n : ℕ) (l : Fin 1024) : EReal :=
  if h : n < 30 then a ⟨n, h⟩ l else b ⟨(n - 30) % 8, Nat.mod_lt _ (by omega)⟩ l

/-- The products summed from the literal zero up to product `n`. -/
def dot (v w : ℕ → EReal) : ℕ → EReal
  | 0 => Ideal.ofBits .f32 0x00000000#32
  | n + 1 => dot v w n + v n * w n

theorem dot_congr (v w v' w' : ℕ → EReal) : ∀ n : ℕ, (∀ j, j < n → v j = v' j ∧ w j = w' j) → dot v w n = dot v' w' n
  | 0, _ => rfl
  | n + 1, h => by
    unfold dot
    rw [dot_congr v w v' w' n fun j hj => h j (by omega), (h n (by omega)).1, (h n (by omega)).2]

/-- One row of the convolution with its bias. -/
def row (a : Fin 30 → Fin 1024 → EReal) (b : Fin 8 → Fin 1024 → EReal) (w : Fin 31 → Fin 1024 → EReal)
    (bias : Fin 1024 → EReal) (r : Fin 8) (l : Fin 1024) : EReal :=
  dot (fun j => stack a b (j + r.val) l) (fun j => w ⟨j % 31, Nat.mod_lt _ (by omega)⟩ l) 31 + bias l

/-- A number times its logistic. -/
def silu (x : EReal) : EReal := x * Ideal.logistic x

/-- One entry of the module's result. -/
def out (a : Fin 30 → Fin 1024 → EReal) (b : Fin 8 → Fin 1024 → EReal) (w : Fin 31 → Fin 1024 → EReal)
    (bias g s : Fin 1024 → EReal) (r : Fin 8) (l : Fin 1024) : EReal :=
  silu (Cert.Rows.norm (row a b w bias r) g s l)

end Cert.ConvForm

end
-- ==== Proof.ConvSeq.lean ====
/-
  The samples' convolution: the body's values for one sequence, entry by entry.
-/
module

public import proofs.«01_k».proof.Proof.ConvBlock
public import proofs.«01_k».proof.Proof.ConvForm

@[expose] public section

set_option maxRecDepth 16384

noncomputable section

namespace Cert.Kernel7Ideal.Conv
open Cert.Kernel7Ideal.Gen
open Idealize.ShloMosaic Idealize.ShloMosaic.TcCoe

/-- One product more. -/
theorem step_apply (T : FVec Ideal S8x1024 .f32) (v : Vec Ideal S8x1024 .f32) (w : Vec Ideal S1x1024 .f32) (r : Fin 8) (l : Fin 1024) :
    addf T (mulf v (broadcastTo S8x1024 (shapeCast S1x1024 w shapeCasts_S1x1024_S1x1024) broadcasts_S1x1024_S8x1024)) (ix2 r l)
      = T (ix2 r l) + v (ix2 r l) * w (ix2 0 l) := by
  pointwise

theorem taps_apply (V : ℕ → Vec Ideal S8x1024 .f32) (W : ℕ → Vec Ideal S1x1024 .f32) (r : Fin 8) (l : Fin 1024) :
    ∀ n : ℕ, taps V W n (ix2 r l) = Cert.ConvForm.dot (fun j => V j (ix2 r l)) (fun j => W j (ix2 0 l)) n
  | 0 => rfl
  | n + 1 => by
    unfold taps Cert.ConvForm.dot
    rw [step_apply, taps_apply V W r l n]

theorem bias_apply (y : FVec Ideal S8x1024 .f32) (x : Vec Ideal S1x1024 .f32) (r : Fin 8) (l : Fin 1024) :
    addf y (wide x) (ix2 r l) = y (ix2 r l) + x (ix2 0 l) := by
  pointwise [wide]

theorem norm_apply (y : FVec Ideal S8x1024 .f32) (g s : Vec Ideal S1x1024 .f32) (r : Fin 8) (l : Fin 1024) :
    siluV (normV (centred y) g s) (ix3 0 r l)
      = Cert.ConvForm.silu (Cert.Rows.norm (fun k => y (ix2 r k)) (fun n => g (ix2 0 n)) (fun n => s (ix2 0 n)) l) := by
  unfold Cert.ConvForm.silu Cert.Rows.norm Cert.Rows.var Cert.Rows.mean
  pointwise [siluV, normV, centred, meanV, wide]

theorem stRow_apply (x : Vec Ideal S8x30x1024 .f32) (s : Fin 8) (r : Fin 30) (l : Fin 1024) :
    stRow x s.val (ix2 r l) = x (ix3 s r l) := by
  have e : (⟨s.val % 8, Nat.mod_lt _ (by omega)⟩ : Fin 8) = s := Fin.ext (Nat.mod_eq_of_lt s.isLt)
  unfold stRow
  rw [e]
  generalize hz : (fun y : S1x30x1024.Idx => x (ix3 s (y 1) (y 2))) = z
  have hv : z (ix3 0 r l) = x (ix3 s r l) := by rw [← hz]; rfl
  pointwise
  exact hv

theorem uRow_apply (x : Vec Ideal S8x8x1024 .f32) (s : Fin 8) (r : Fin 8) (l : Fin 1024) :
    uRow x s.val (ix2 r l) = x (ix3 s r l) := by
  have e : (⟨s.val % 8, Nat.mod_lt _ (by omega)⟩ : Fin 8) = s := Fin.ext (Nat.mod_eq_of_lt s.isLt)
  unfold uRow
  rw [e]
  generalize hz : (fun y : S1x8x1024.Idx => x (ix3 s (y 1) (y 2))) = z
  have hv : z (ix3 0 r l) = x (ix3 s r l) := by rw [← hz]; rfl
  pointwise
  exact hv

/-- The stacked rows of a sequence. -/
theorem stack_apply (x0 : Vec Ideal S8x30x1024 .f32) (x1 : Vec Ideal S8x8x1024 .f32) (s : Fin 8) (n : ℕ) (l : Fin 1024) :
    stack (stRow x0 s.val) (uRow x1 s.val) n l
      = Cert.ConvForm.stack (fun r k => x0 (ix3 s r k)) (fun r k => x1 (ix3 s r k)) n l := by
  unfold stack Cert.ConvForm.stack
  by_cases h : n < 30
  · rw [dif_pos h, dif_pos h, stRow_apply]
  · rw [dif_neg h, dif_neg h, uRow_apply]

/-- The new state of a sequence, at an entry. -/
theorem stateV_apply (x0 : Vec Ideal S8x30x1024 .f32) (x1 : Vec Ideal S8x8x1024 .f32) (s : Fin 8) (r : Fin 30) (l : Fin 1024) :
    stateV (stRow x0 s.val) (uRow x1 s.val) (ix3 0 r l)
      = Cert.ConvForm.stack (fun r k => x0 (ix3 s r k)) (fun r k => x1 (ix3 s r k)) (8 + r.val) l := by
  rw [← stack_apply]
  unfold stateV
  generalize hz : (rowsAt (stRow x0 s.val) (uRow x1 s.val) 30 8 : Vec Ideal S30x1024 .f32) = z
  have hv : z (ix2 r l) = stack (stRow x0 s.val) (uRow x1 s.val) (8 + r.val) l := by rw [← hz]; rfl
  rw [← hv]
  pointwise

/-- The convolution's rows of a sequence, at an entry; `w` are the taps without the zero row below them. -/
theorem seqV_apply (x0 : Vec Ideal S8x30x1024 .f32) (x1 : Vec Ideal S8x8x1024 .f32) (x2 : Vec Ideal S32x1024 .f32)
    (x3 x4 x5 : Vec Ideal S1x1024 .f32) (w : Fin 31 → Fin 1024 → EReal)
    (hw : ∀ (j : Fin 31) (l : Fin 1024), x2 (ix2 ⟨j.val, by omega⟩ l) = w j l) (s r : Fin 8) (l : Fin 1024) :
    seqV (stRow x0 s.val) (uRow x1 s.val) x2 x3 x4 x5 (ix3 0 r l)
      = Cert.ConvForm.out (fun r k => x0 (ix3 s r k)) (fun r k => x1 (ix3 s r k)) w (fun n => x3 (ix2 0 n))
          (fun n => x4 (ix2 0 n)) (fun n => x5 (ix2 0 n)) r l := by
  unfold seqV Cert.ConvForm.out
  rw [norm_apply]
  refine congrArg (fun y => Cert.ConvForm.silu (Cert.Rows.norm y _ _ l)) (funext fun k => ?_)
  rw [bias_apply, taps_apply]
  unfold Cert.ConvForm.row
  refine congrArg (fun y : EReal => y + x3 (ix2 0 k)) (Cert.ConvForm.dot_congr _ _ _ _ 31 fun j hj => ⟨?_, ?_⟩)
  · exact stack_apply x0 x1 s (j + r.val) k
  · have e : (⟨j % 31, Nat.mod_lt _ (by omega)⟩ : Fin 31) = ⟨j, hj⟩ := Fin.ext (Nat.mod_eq_of_lt hj)
    have e2 : (⟨j % 32, Nat.mod_lt _ (by omega)⟩ : Fin 32) = ⟨j, by omega⟩ := Fin.ext (Nat.mod_eq_of_lt (by omega))
    show x2 (ix2 ⟨j % 32, Nat.mod_lt _ (by omega)⟩ k) = w ⟨j % 31, Nat.mod_lt _ (by omega)⟩ k
    rw [e, e2]
    exact hw ⟨j, hj⟩ k

end Cert.Kernel7Ideal.Conv

end
-- ==== Proof.ConvRef.lean ====
/-
  The samples' convolution: the reference's values, entry by entry.
-/
module

public import proofs.«01_k».proof.Proof.Gen.Reference7Ideal.Read
public import proofs.«01_k».proof.Proof.ConvForm

@[expose] public section

set_option maxRecDepth 16384

noncomputable section

namespace Cert.Reference7Ideal.Conv
open Cert.Reference7Ideal Cert.Reference7Ideal.Gen
open Idealize.ShloMosaic Idealize.ShloMosaic.TcCoe

variable {F : FTy → Type} [FloatOps F]

theorem slices_rows (n : ℕ) : S32x38x1024.Slices ![0, n % 31, 0] S32x8x1024 :=
  ⟨rfl, fun a => by
    match a with
    | ⟨0, _⟩ => show 0 + 32 ≤ 32; omega
    | ⟨1, _⟩ => show n % 31 + 8 ≤ 38; omega
    | ⟨2, _⟩ => show 0 + 1024 ≤ 1024; omega⟩

theorem slices_tap (n : ℕ) : S31x1024.Slices ![n % 31, 0] S1x1024 :=
  ⟨rfl, fun a => by
    match a with
    | ⟨0, _⟩ => show n % 31 + 1 ≤ 31; omega
    | ⟨1, _⟩ => show 0 + 1024 ≤ 1024; omega⟩

/-- Row `n` of the taps, as the reference repeats it. -/
def tapV (w : FVec F S31x1024 .f32) (n : ℕ) : FVec F S1x1024 .f32 := extractStridedSlice S1x1024 ![n % 31, 0] w (slices_tap n)

/-- The products summed up to tap `n`, in the reference's order. -/
def sumV (y : FVec F S32x38x1024 .f32) (w : FVec F S31x1024 .f32) : ℕ → FVec F S32x8x1024 .f32
  | 0 => Cert.Reference7Ideal.Read.val_main_v7
  | n + 1 => addf (sumV y w n) (mulf (extractStridedSlice S32x8x1024 ![0, n % 31, 0] y (slices_rows n))
      (broadcastInDim S32x8x1024 ![0, 1, 2] bcast_S1x1x1024_S32x8x1024_0_1_2
        (broadcastInDim S1x1x1024 ![2] bcast_S1024_S1x1x1024_2 (shapeCast S1024 (tapV w n) shapeCasts_S1x1024_S1024))))

set_option maxHeartbeats 2000000 in
theorem sum_eq (x0 : FVec F S32x8x1024 .f32) (x1 : FVec F S32x30x1024 .f32) (x2 : FVec F S31x1024 .f32) :
    Cert.Reference7Ideal.Read.val_main_v218 (F := F) x0 x1 x2
      = sumV (Cert.Reference7Ideal.Read.val_main_v0 (F := F) x0 x1) x2 31 := by
  rfl

/-- One product more. -/
theorem step_apply (T v : FVec Ideal S32x8x1024 .f32) (w : FVec Ideal S1x1024 .f32) (q : Fin 32) (r : Fin 8) (l : Fin 1024) :
    addf T (mulf v (broadcastInDim S32x8x1024 ![0, 1, 2] bcast_S1x1x1024_S32x8x1024_0_1_2
        (broadcastInDim S1x1x1024 ![2] bcast_S1024_S1x1x1024_2 (shapeCast S1024 w shapeCasts_S1x1024_S1024)))) (ix3 q r l)
      = T (ix3 q r l) + v (ix3 q r l) * w (ix2 0 l) := by
  pointwise

theorem sum_apply (y : FVec Ideal S32x38x1024 .f32) (w : FVec Ideal S31x1024 .f32) (q : Fin 32) (r : Fin 8) (l : Fin 1024) :
    ∀ n : ℕ, sumV y w n (ix3 q r l)
      = Cert.ConvForm.dot (fun j => y (ix3 q ⟨j % 31 + r.val, by omega⟩ l)) (fun j => w (ix2 ⟨j % 31, Nat.mod_lt _ (by omega)⟩ l)) n
  | 0 => by
    unfold sumV Cert.ConvForm.dot
    pointwise [Cert.Reference7Ideal.Read.val_main_v7, Cert.Reference7Ideal.Read.val_main_cst]
  | n + 1 => by
    unfold sumV Cert.ConvForm.dot
    rw [step_apply, sum_apply y w q r l n,
      extractStridedSlice_apply ![0, n % 31, 0] y (slices_rows n) (ix3 q r l) (ix3 q ⟨n % 31 + r.val, by omega⟩ l) (fun a => by
        match a with
        | ⟨0, _⟩ => show q.val = 0 + q.val; omega
        | ⟨1, _⟩ => show n % 31 + r.val = n % 31 + r.val; rfl
        | ⟨2, _⟩ => show l.val = 0 + l.val; omega)]
    unfold tapV
    rw [extractStridedSlice_apply ![n % 31, 0] w (slices_tap n) (ix2 0 l) (ix2 ⟨n % 31, Nat.mod_lt _ (by omega)⟩ l) (fun a => by
        match a with
        | ⟨0, _⟩ => show n % 31 = n % 31 + 0; rfl
        | ⟨1, _⟩ => show l.val = 0 + l.val; omega)]

/-- The rows stacked. -/
theorem stack_apply (u : FVec Ideal S32x8x1024 .f32) (st : FVec Ideal S32x30x1024 .f32) (q : Fin 32) (n : Fin 38) (l : Fin 1024) :
    Cert.Reference7Ideal.Read.val_main_v0 (F := Ideal) u st (ix3 q n l)
      = Cert.ConvForm.stack (fun r k => st (ix3 q r k)) (fun r k => u (ix3 q r k)) n.val l := by
  unfold Cert.Reference7Ideal.Read.val_main_v0 Cert.ConvForm.stack
  by_cases h : n.val < 30
  · rw [dif_pos h]
    exact concatenate_pair_apply_left 1 st u _ (ix3 q n l) rfl (ix3 q ⟨n.val, h⟩ l) fun b => by
      match b with
      | ⟨0, _⟩ => rfl
      | ⟨1, _⟩ => rfl
      | ⟨2, _⟩ => rfl
  · rw [dif_neg h]
    refine concatenate_pair_apply_right 1 st u _ (ix3 q n l) rfl rfl (ix3 q ⟨(n.val - 30) % 8, Nat.mod_lt _ (by omega)⟩ l) (fun b hb => ?_) ?_
    · match b with
      | ⟨0, _⟩ => rfl
      | ⟨1, _⟩ => exact absurd rfl hb
      | ⟨2, _⟩ => rfl
    · show (n.val - 30) % 8 + 30 = n.val
      omega

/-- The new state, at an entry. -/
theorem state_apply (u : FVec Ideal S32x8x1024 .f32) (st : FVec Ideal S32x30x1024 .f32) (q : Fin 32) (r : Fin 30) (l : Fin 1024) :
    Cert.Reference7Ideal.Read.val_main_v247 (F := Ideal) u st (ix3 q r l)
      = Cert.ConvForm.stack (fun r k => st (ix3 q r k)) (fun r k => u (ix3 q r k)) (8 + r.val) l := by
  have e := stack_apply u st q ⟨8 + r.val, by omega⟩ l
  rw [← e]
  unfold Cert.Reference7Ideal.Read.val_main_v247
  generalize Cert.Reference7Ideal.Read.val_main_v0 (F := Ideal) u st = y
  exact extractStridedSlice_apply ![0, 8, 0] y _ (ix3 q r l) (ix3 q ⟨8 + r.val, by omega⟩ l) fun a => by
    match a with
    | ⟨0, _⟩ => show q.val = 0 + q.val; omega
    | ⟨1, _⟩ => rfl
    | ⟨2, _⟩ => show l.val = 0 + l.val; omega

/-- The convolution with its bias, at an entry. -/
theorem row_apply (u : FVec Ideal S32x8x1024 .f32) (st : FVec Ideal S32x30x1024 .f32) (w : FVec Ideal S31x1024 .f32)
    (b : FVec Ideal S1024 .f32) (q : Fin 32) (r : Fin 8) (l : Fin 1024) :
    Cert.Reference7Ideal.Read.val_main_v221 (F := Ideal) u st w b (ix3 q r l)
      = Cert.ConvForm.row (fun r k => st (ix3 q r k)) (fun r k => u (ix3 q r k)) (fun j k => w (ix2 j k)) (fun n => b (ix1 n)) r l := by
  unfold Cert.Reference7Ideal.Read.val_main_v221 Cert.ConvForm.row
  have e : Cert.Reference7Ideal.Read.val_main_v218 (F := Ideal) u st w (ix3 q r l)
      = Cert.ConvForm.dot (fun j => Cert.ConvForm.stack (fun r k => st (ix3 q r k)) (fun r k => u (ix3 q r k)) (j + r.val) l)
          (fun j => w (ix2 ⟨j % 31, Nat.mod_lt _ (by omega)⟩ l)) 31 := by
    rw [sum_eq, sum_apply]
    refine Cert.ConvForm.dot_congr _ _ _ _ 31 fun j hj => ⟨?_, rfl⟩
    have := stack_apply u st q ⟨j % 31 + r.val, by omega⟩ l
    dsimp only at this ⊢
    rw [this, Nat.mod_eq_of_lt hj]
  rw [← e]
  generalize Cert.Reference7Ideal.Read.val_main_v218 (F := Ideal) u st w = y
  pointwise [Cert.Reference7Ideal.Read.val_main_v220, Cert.Reference7Ideal.Read.val_main_v219]

/-- The norm, at an entry. -/
theorem norm_apply (u : FVec Ideal S32x8x1024 .f32) (st : FVec Ideal S32x30x1024 .f32) (w : FVec Ideal S31x1024 .f32)
    (b g s : FVec Ideal S1024 .f32) (q : Fin 32) (r : Fin 8) (l : Fin 1024) :
    Cert.Reference7Ideal.Read.val_main_v245 (F := Ideal) u st w b g s (ix3 q r l)
      = Cert.Rows.norm (fun k => Cert.Reference7Ideal.Read.val_main_v221 (F := Ideal) u st w b (ix3 q r k))
          (fun n => g (ix1 n)) (fun n => s (ix1 n)) l := by
  unfold Cert.Rows.norm Cert.Rows.var Cert.Rows.mean
  pointwise [Cert.Reference7Ideal.Read.val_main_v245, Cert.Reference7Ideal.Read.val_main_v244, Cert.Reference7Ideal.Read.val_main_v243, Cert.Reference7Ideal.Read.val_main_v242, Cert.Reference7Ideal.Read.val_main_v241, Cert.Reference7Ideal.Read.val_main_v240, Cert.Reference7Ideal.Read.val_main_v239, Cert.Reference7Ideal.Read.val_main_v238, Cert.Reference7Ideal.Read.val_main_v237, Cert.Reference7Ideal.Read.val_main_v236, Cert.Reference7Ideal.Read.val_main_v235, Cert.Reference7Ideal.Read.val_main_v234, Cert.Reference7Ideal.Read.val_main_v233, Cert.Reference7Ideal.Read.val_main_v232, Cert.Reference7Ideal.Read.val_main_v231, Cert.Reference7Ideal.Read.val_main_v230, Cert.Reference7Ideal.Read.val_main_v229, Cert.Reference7Ideal.Read.val_main_v228, Cert.Reference7Ideal.Read.val_main_v227, Cert.Reference7Ideal.Read.val_main_v226, Cert.Reference7Ideal.Read.val_main_v225, Cert.Reference7Ideal.Read.val_main_v224, Cert.Reference7Ideal.Read.val_main_v223, Cert.Reference7Ideal.Read.val_main_v222, Cert.Reference7Ideal.Read.val_main_cst_0, Cert.Reference7Ideal.Read.val_main_cst_1, Cert.Reference7Ideal.Read.val_main_cst_2, Cert.Reference7Ideal.Read.val_main_cst_3, Cert.Reference7Ideal.Read.val_main_cst_4]

/-- The reference's rows, at an entry. -/
theorem out_apply (u : FVec Ideal S32x8x1024 .f32) (st : FVec Ideal S32x30x1024 .f32) (w : FVec Ideal S31x1024 .f32)
    (b g s : FVec Ideal S1024 .f32) (q : Fin 32) (r : Fin 8) (l : Fin 1024) :
    Cert.Reference7Ideal.Read.val_main_v246 (F := Ideal) u st w b g s (ix3 q r l)
      = Cert.ConvForm.out (fun r k => st (ix3 q r k)) (fun r k => u (ix3 q r k)) (fun j k => w (ix2 j k)) (fun n => b (ix1 n))
          (fun n => g (ix1 n)) (fun n => s (ix1 n)) r l := by
  have e : Cert.ConvForm.out (fun r k => st (ix3 q r k)) (fun r k => u (ix3 q r k)) (fun j k => w (ix2 j k)) (fun n => b (ix1 n))
        (fun n => g (ix1 n)) (fun n => s (ix1 n)) r l
      = Cert.ConvForm.silu (Cert.Reference7Ideal.Read.val_main_v245 (F := Ideal) u st w b g s (ix3 q r l)) := by
    rw [norm_apply]
    simp only [row_apply]
    rfl
  rw [e]
  unfold Cert.ConvForm.silu
  pointwise [Cert.Reference7Ideal.Read.val_main_v246, Cert.Reference7Ideal.Read.val_main_call0_v0, Cert.Reference7Ideal.Read.val_main_call0_v1, Cert.Reference7Ideal.Read.val_main_call0_v2, Cert.Reference7Ideal.Read.val_main_call0_v3, Cert.Reference7Ideal.Read.val_main_call0_v4, Cert.Reference7Ideal.Read.val_main_call0_v5, Cert.Reference7Ideal.Read.val_main_call0_cst, Cert.Reference7Ideal.Read.val_main_call0_cst_0]
  rfl

end Cert.Reference7Ideal.Conv

end
-- ==== Proof.Conv.lean ====
/-
  The samples' convolution: every block the kernel writes is the block of the reference's rows and of its new state.
-/
module

public import proofs.«01_k».proof.Defs
public import proofs.«01_k».proof.Proof.Gen.Kernel7.Frame
public import proofs.«01_k».proof.Proof.ConvSeq
public import proofs.«01_k».proof.Proof.ConvRef
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Conv

open Cert.Kernel7Ideal Cert.Kernel7Ideal.Gen

variable (m : (ℓ : Loc nD τ sig) → Buf (Elt Ideal) ℓ) (ρ : Dev nD → PrngReg)

/-- What the two result arrays are shown to hold: the reference's values of the arguments. -/
abbrev G6 (c : Dev nD) : Buf (Elt Ideal) ((c : Thread nD τ).loc main_v4_0) :=
  Cert.Reference7Ideal.Read.val_main_v246 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5))
abbrev G7 (c : Dev nD) : Buf (Elt Ideal) ((c : Thread nD τ).loc main_v4_1) :=
  Cert.Reference7Ideal.Read.val_main_v247 (F := Ideal) (m ((c : Thread nD τ).loc main_arg0)) (m ((c : Thread nD τ).loc main_arg1))

/-- The index maps over the grid: the sequence windows step, the others stay. -/
theorem idx_seq : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_6.index t 0 = t.val ∧ win0_6.index t 1 = 0 ∧ win0_6.index t 2 = 0)
    ∧ (win0_7.index t 0 = t.val ∧ win0_7.index t 1 = 0 ∧ win0_7.index t 2 = 0) := by decide +kernel
theorem idx_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) := by decide +kernel

theorem tlt (t : Fin cfg0.N) : t.val < 4 := by have := t.isLt; have h : cfg0.N = 4 := N_0; omega

/-- The sequence a block's sequence is in the whole array. -/
def seqNo (t : Fin cfg0.N) (s : Fin 8) : Fin 32 := ⟨t.val * 8 + s.val, by have := tlt t; omega⟩

theorem iblk0 (c : Dev nD) (t : Fin cfg0.N) (s : Fin 8) (r : Fin 30) (k : Fin 1024) :
    iblk m c 0 t (ix3 s r k) = m ((c : Thread nD τ).loc main_arg1) (ix3 (seqNo t s) r k) := by
  unfold iblk
  show (V m c main_arg1) (((cfg0.win 0).blk t).view.emb (ix3 s r k)) = _
  rw [V_main_arg1]
  refine congrArg _ (funext fun a => Fin.ext ?_)
  match a with
  | ⟨0, _⟩ => show win0_0.index t 0 * 8 + 1 * s.val = t.val * 8 + s.val
              rw [(idx_seq t).1.1]; omega
  | ⟨1, _⟩ => show win0_0.index t 1 * 30 + 1 * r.val = r.val
              rw [(idx_seq t).1.2.1]; omega
  | ⟨2, _⟩ => show win0_0.index t 2 * 1024 + 1 * k.val = k.val
              rw [(idx_seq t).1.2.2]; omega

theorem iblk1 (c : Dev nD) (t : Fin cfg0.N) (s r : Fin 8) (k : Fin 1024) :
    iblk m c 1 t (ix3 s r k) = m ((c : Thread nD τ).loc main_arg0) (ix3 (seqNo t s) r k) := by
  unfold iblk
  show (V m c main_arg0) (((cfg0.win 1).blk t).view.emb (ix3 s r k)) = _
  rw [V_main_arg0]
  refine congrArg _ (funext fun a => Fin.ext ?_)
  match a with
  | ⟨0, _⟩ => show win0_1.index t 0 * 8 + 1 * s.val = t.val * 8 + s.val
              rw [(idx_seq t).2.1.1]; omega
  | ⟨1, _⟩ => show win0_1.index t 1 * 8 + 1 * r.val = r.val
              rw [(idx_seq t).2.1.2.1]; omega
  | ⟨2, _⟩ => show win0_1.index t 2 * 1024 + 1 * k.val = k.val
              rw [(idx_seq t).2.1.2.2]; omega

/-- A padded array above its padding. -/
theorem pad_apply (x : FVec Ideal S31x1024 .f32) (z : FVec Ideal S_ .f32) (j : Fin 31) (l : Fin 1024) :
    pad S32x1024 ![0, 0] ![1, 0] ![0, 0] x z pads_S31x1024_S32x1024_010_000 h_S_ (ix2 ⟨j.val, by omega⟩ l) = x (ix2 j l) := by
  pointwise

theorem iblk2 (c : Dev nD) (t : Fin cfg0.N) (j : Fin 31) (l : Fin 1024) :
    iblk m c 2 t (ix2 ⟨j.val, by omega⟩ l) = m ((c : Thread nD τ).loc main_arg2) (ix2 j l) := by
  unfold iblk
  show (V m c main_v0) (((cfg0.win 2).blk t).view.emb (ix2 ⟨j.val, by omega⟩ l)) = _
  have e : ((cfg0.win 2).blk t).view.emb (ix2 ⟨j.val, by omega⟩ l) = (ix2 ⟨j.val, by omega⟩ l : S32x1024.Idx) := funext fun a => Fin.ext (by
    match a with
    | ⟨0, _⟩ => show win0_2.index t 0 * 32 + 1 * j.val = j.val
                rw [(idx_whole t).1.1]; omega
    | ⟨1, _⟩ => show win0_2.index t 1 * 1024 + 1 * l.val = l.val
                rw [(idx_whole t).1.2]; omega)
  rw [e]
  simp only [V, hostOps0, hostOps0_1, hostOps0_2, List.flatten_cons, List.flatten_nil, List.append_nil, List.cons_append, List.nil_append]
  entry_read
  exact pad_apply _ _ j l

theorem iblk3 (c : Dev nD) (t : Fin cfg0.N) (n : Fin 1024) :
    iblk m c 3 t (ix2 0 n) = m ((c : Thread nD τ).loc main_arg3) (ix1 n) := by
  unfold iblk
  show (V m c main_v1) (((cfg0.win 3).blk t).view.emb (ix2 0 n)) = _
  have e : ((cfg0.win 3).blk t).view.emb (ix2 0 n) = (ix2 0 n : S1x1024.Idx) := funext fun a => Fin.ext (by
    match a with
    | ⟨0, _⟩ => show win0_3.index t 0 * 1 + 1 * 0 = 0
                rw [(idx_whole t).2.1.1]
    | ⟨1, _⟩ => show win0_3.index t 1 * 1024 + 1 * n.val = n.val
                rw [(idx_whole t).2.1.2]; omega)
  rw [e]
  simp only [V, hostOps0, hostOps0_1, hostOps0_2, List.flatten_cons, List.flatten_nil, List.append_nil, List.cons_append, List.nil_append]
  entry_read
  pointwise

theorem iblk4 (c : Dev nD) (t : Fin cfg0.N) (n : Fin 1024) :
    iblk m c 4 t (ix2 0 n) = m ((c : Thread nD τ).loc main_arg4) (ix1 n) := by
  unfold iblk
  show (V m c main_v2) (((cfg0.win 4).blk t).view.emb (ix2 0 n)) = _
  have e : ((cfg0.win 4).blk t).view.emb (ix2 0 n) = (ix2 0 n : S1x1024.Idx) := funext fun a => Fin.ext (by
    match a with
    | ⟨0, _⟩ => show win0_4.index t 0 * 1 + 1 * 0 = 0
                rw [(idx_whole t).2.2.1.1]
    | ⟨1, _⟩ => show win0_4.index t 1 * 1024 + 1 * n.val = n.val
                rw [(idx_whole t).2.2.1.2]; omega)
  rw [e]
  simp only [V, hostOps0, hostOps0_1, hostOps0_2, List.flatten_cons, List.flatten_nil, List.append_nil, List.cons_append, List.nil_append]
  entry_read
  pointwise

theorem iblk5 (c : Dev nD) (t : Fin cfg0.N) (n : Fin 1024) :
    iblk m c 5 t (ix2 0 n) = m ((c : Thread nD τ).loc main_arg5) (ix1 n) := by
  unfold iblk
  show (V m c main_v3) (((cfg0.win 5).blk t).view.emb (ix2 0 n)) = _
  have e : ((cfg0.win 5).blk t).view.emb (ix2 0 n) = (ix2 0 n : S1x1024.Idx) := funext fun a => Fin.ext (by
    match a with
    | ⟨0, _⟩ => show win0_5.index t 0 * 1 + 1 * 0 = 0
                rw [(idx_whole t).2.2.2.1]
    | ⟨1, _⟩ => show win0_5.index t 1 * 1024 + 1 * n.val = n.val
                rw [(idx_whole t).2.2.2.2]; omega)
  rw [e]
  simp only [V, hostOps0, hostOps0_1, hostOps0_2, List.flatten_cons, List.flatten_nil, List.append_nil, List.cons_append, List.nil_append]
  entry_read
  pointwise

/-- Where a point's block of the rows lies in the result. -/
theorem emb6 (t : Fin cfg0.N) (s : Fin 8) (r : Fin 8) (l : Fin 1024) :
    ((cfg0.win 6).blk t).view.emb (ix3 s r l) = (ix3 (seqNo t s) r l : S32x8x1024.Idx) := funext fun a => Fin.ext (by
    match a with
    | ⟨0, _⟩ => show win0_6.index t 0 * 8 + 1 * s.val = t.val * 8 + s.val
                rw [(idx_seq t).2.2.1.1]; omega
    | ⟨1, _⟩ => show win0_6.index t 1 * 8 + 1 * r.val = r.val
                rw [(idx_seq t).2.2.1.2.1]; omega
    | ⟨2, _⟩ => show win0_6.index t 2 * 1024 + 1 * l.val = l.val
                rw [(idx_seq t).2.2.1.2.2]; omega)

set_option maxHeartbeats 1000000 in
theorem flushed6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  have eo : (outsAt0 m c t).1 = bySeq (fun k => seqV (stRow (iblk m c 0 t) k) (uRow (iblk m c 1 t) k) (iblk m c 2 t) (iblk m c 3 t) (iblk m c 4 t) (iblk m c 5 t)) := by
    dsimp only [outsAt0]
    exact out6_eq _ _ _ _ _ _ _ _ _ _ _ _ _ _ _ _ _ _ _ _ _ _ _ _ _ _
  rw [eo]
  have key : ∀ y : S8x8x1024.Idx, bySeq (fun k => seqV (stRow (iblk m c 0 t) k) (uRow (iblk m c 1 t) k) (iblk m c 2 t) (iblk m c 3 t) (iblk m c 4 t) (iblk m c 5 t)) y = G6 m c (((cfg0.win 6).blk t).view.emb y) := by
    intro y
    obtain ⟨s, r, l, rfl⟩ : ∃ (s : Fin 8) (r : Fin 8) (l : Fin 1024), y = ix3 s r l := ⟨y 0, y 1, y 2, eq_ix3 y⟩
    refine Eq.trans ?_ (congrArg (G6 m c) (emb6 t s r l)).symm
    unfold G6
    rw [Cert.Reference7Ideal.Conv.out_apply]
    refine (seqV_apply _ _ _ _ _ _ (fun j k => m ((c : Thread nD τ).loc main_arg2) (ix2 j k)) (iblk2 m c t) s r l).trans ?_
    simp only [iblk0, iblk1, iblk3, iblk4, iblk5]
  exact funext key

theorem cover6 (i : S32x8x1024.Idx) :
    ∃ t : Fin cfg0.N, (cfg0.win 6).flush t = true ∧ i ∈ ((cfg0.win 6).blk t).view.set := by
  have h0 : (i 0 : Nat) < 32 := (i 0).isLt
  have hN : cfg0.N = 4 := N_0
  have hn : (i 0 : Nat) / 8 < cfg0.N := by omega
  refine ⟨⟨(i 0 : Nat) / 8, hn⟩, flush0_6 _, ?_⟩
  have hm := View.emb_mem_set ((cfg0.win 6).blk ⟨(i 0 : Nat) / 8, hn⟩).view (ix3 (⟨(i 0 : Nat) % 8, by omega⟩ : Fin 8) (i 1) (i 2))
  have ei : (ix3 (seqNo ⟨(i 0 : Nat) / 8, hn⟩ ⟨(i 0 : Nat) % 8, by omega⟩) (i 1) (i 2) : S32x8x1024.Idx) = i := funext fun a => Fin.ext (by
    match a with
    | ⟨0, _⟩ => show (i 0 : Nat) / 8 * 8 + (i 0 : Nat) % 8 = (i 0 : Nat); omega
    | ⟨1, _⟩ => rfl
    | ⟨2, _⟩ => rfl)
  exact Eq.mp (congrArg (· ∈ ((cfg0.win 6).blk ⟨(i 0 : Nat) / 8, hn⟩).view.set) ((emb6 _ _ (i 1) (i 2)).trans ei)) hm

theorem final6 (c : Dev nD) : (dats m 0 c).arrAt 6 cfg0.N = G6 m c :=
  (dats m 0 c).arrAt_eq_of_cover 6 (G6 m c) (fun t _ => flushed6 m c t) cover6

/-- Where a point's block of the new state lies in the result. -/
theorem emb7 (t : Fin cfg0.N) (s : Fin 8) (r : Fin 30) (l : Fin 1024) :
    ((cfg0.win 7).blk t).view.emb (ix3 s r l) = (ix3 (seqNo t s) r l : S32x30x1024.Idx) := funext fun a => Fin.ext (by
    match a with
    | ⟨0, _⟩ => show win0_7.index t 0 * 8 + 1 * s.val = t.val * 8 + s.val
                rw [(idx_seq t).2.2.2.1]; omega
    | ⟨1, _⟩ => show win0_7.index t 1 * 30 + 1 * r.val = r.val
                rw [(idx_seq t).2.2.2.2.1]; omega
    | ⟨2, _⟩ => show win0_7.index t 2 * 1024 + 1 * l.val = l.val
                rw [(idx_seq t).2.2.2.2.2]; omega)

set_option maxHeartbeats 1000000 in
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  have eo : (outsAt0 m c t).2 = bySeq (fun k => stateV (stRow (iblk m c 0 t) k) (uRow (iblk m c 1 t) k)) := by
    dsimp only [outsAt0]
    exact out7_eq _ _ _ _ _ _ _ _ _ _ _ _ _ _ _ _ _ _ _ _ _ _ _ _ _ _
  rw [eo]
  have key : ∀ y : S8x30x1024.Idx, bySeq (fun k => stateV (stRow (iblk m c 0 t) k) (uRow (iblk m c 1 t) k)) y = G7 m c (((cfg0.win 7).blk t).view.emb y) := by
    intro y
    obtain ⟨s, r, l, rfl⟩ : ∃ (s : Fin 8) (r : Fin 30) (l : Fin 1024), y = ix3 s r l := ⟨y 0, y 1, y 2, eq_ix3 y⟩
    refine Eq.trans ?_ (congrArg (G7 m c) (emb7 t s r l)).symm
    unfold G7
    rw [Cert.Reference7Ideal.Conv.state_apply]
    refine (stateV_apply _ _ s r l).trans ?_
    simp only [iblk0, iblk1]
  exact funext key

theorem cover7 (i : S32x30x1024.Idx) :
    ∃ t : Fin cfg0.N, (cfg0.win 7).flush t = true ∧ i ∈ ((cfg0.win 7).blk t).view.set := by
  have h0 : (i 0 : Nat) < 32 := (i 0).isLt
  have hN : cfg0.N = 4 := N_0
  have hn : (i 0 : Nat) / 8 < cfg0.N := by omega
  refine ⟨⟨(i 0 : Nat) / 8, hn⟩, flush0_7 _, ?_⟩
  have hm := View.emb_mem_set ((cfg0.win 7).blk ⟨(i 0 : Nat) / 8, hn⟩).view (ix3 (⟨(i 0 : Nat) % 8, by omega⟩ : Fin 8) (i 1) (i 2))
  have ei : (ix3 (seqNo ⟨(i 0 : Nat) / 8, hn⟩ ⟨(i 0 : Nat) % 8, by omega⟩) (i 1) (i 2) : S32x30x1024.Idx) = i := funext fun a => Fin.ext (by
    match a with
    | ⟨0, _⟩ => show (i 0 : Nat) / 8 * 8 + (i 0 : Nat) % 8 = (i 0 : Nat); omega
    | ⟨1, _⟩ => rfl
    | ⟨2, _⟩ => rfl)
  exact Eq.mp (congrArg (· ∈ ((cfg0.win 7).blk ⟨(i 0 : Nat) / 8, hn⟩).view.set) ((emb7 _ _ (i 1) (i 2)).trans ei)) hm

theorem final7 (c : Dev nD) : (dats m 0 c).arrAt 7 cfg0.N = G7 m c :=
  (dats m 0 c).arrAt_eq_of_cover 7 (G7 m c) (fun t _ => flushed7 m c t) cover7

/-- The run, read: the result arrays at the reference's values, the arguments unchanged. -/
theorem run : θ_run defs (onTc (τ := τ) (main (F := Ideal))) ⟨m, fun _ => 0, ρ⟩ fun r => ∀ c : Dev nD,
      r.2.mem ((c : Thread nD τ).loc main_v4_0) = G6 m c
      ∧ r.2.mem ((c : Thread nD τ).loc main_v4_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.Kernel7Ideal.Value.run_blocks m ρ)

end Cert.Kernel7Ideal.Conv

namespace Cert.Proof.ConvClaims

/-- The frames: the generated ones, and the reference's own run. -/
theorem frame_k : Cert.quiescent_Kernel7 := fun m ρ _ => Cert.Kernel7.Gen.frame m ρ
theorem frame_i : Cert.quiescent_Kernel7Ideal := fun m ρ _ => Cert.Kernel7Ideal.Gen.frame m ρ
theorem frame_r : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- The idealization changed nothing. -/
theorem preserves : Cert.preserves_Kernel7_Kernel7Ideal := trivial

/-- Kernel and reference end with the same two arrays. -/
theorem algebraic : Cert.algebraic_Kernel7Ideal_Reference7Ideal := by
  intro m ρ m' ρ' _ hagree
  refine ⟨fun c => Cert.Kernel7Ideal.Conv.G6 m c, fun c => Cert.Kernel7Ideal.Conv.G7 m c, Cert.Kernel7Ideal.Conv.run m ρ, ?_⟩
  refine (θ_run Cert.Reference7Ideal.defs _ _).mono (fun _ h c => ⟨(h c).1.trans ?_, (h c).2.1.trans ?_, (h c).2.2⟩)
    (Cert.Reference7Ideal.Value.run (F := Ideal) m' ρ')
  · show _ = Cert.Kernel7Ideal.Conv.G6 m c
    unfold Cert.Kernel7Ideal.Conv.G6
    rw [← (hagree c).1, ← (hagree c).2.1, ← (hagree c).2.2.1, ← (hagree c).2.2.2.1, ← (hagree c).2.2.2.2.1, ← (hagree c).2.2.2.2.2]
    exact Cert.Reference7Ideal.Read.val_main_v246_eq _
  · show _ = Cert.Kernel7Ideal.Conv.G7 m c
    unfold Cert.Kernel7Ideal.Conv.G7
    rw [← (hagree c).1, ← (hagree c).2.1]
    exact Cert.Reference7Ideal.Read.val_main_v247_eq _

end Cert.Proof.ConvClaims

end
-- ==== Proof.lean ====
/-
  The proof of `Cert.Claim`: the stated facts of each program, then the claims in their order, program by program.
-/
module

public import proofs.«01_k».proof.Defs
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Pre_pages_exist
public import proofs.«01_k».proof.Proof.ScoresOk
public import proofs.«01_k».proof.Proof.ScoresValue
public import proofs.«01_k».proof.Proof.Ffn
public import proofs.«01_k».proof.Proof.Glu
public import proofs.«01_k».proof.Proof.Proj
public import proofs.«01_k».proof.Proof.AttnProj
public import proofs.«01_k».proof.Proof.AttnProjS
public import proofs.«01_k».proof.Proof.Conv

@[expose] public section

noncomputable section

namespace Cert.Proof

theorem claim : Cert.Claim :=
  ⟨Cert.KernelIdeal.Gen.facts, Cert.ReferenceIdeal.Gen.facts, Cert.Kernel2.Gen.facts, Cert.Kernel2Ideal.Gen.facts,
   Cert.Reference2Ideal.Gen.facts, Cert.Kernel3.Gen.facts, Cert.Kernel3Ideal.Gen.facts, Cert.Reference3Ideal.Gen.facts,
   Cert.Kernel4.Gen.facts, Cert.Kernel4Ideal.Gen.facts, Cert.Reference4Ideal.Gen.facts, Cert.Kernel5.Gen.facts,
   Cert.Kernel5Ideal.Gen.facts, Cert.Reference5Ideal.Gen.facts, Cert.Kernel6.Gen.facts, Cert.Kernel6Ideal.Gen.facts,
   Cert.Reference6Ideal.Gen.facts, Cert.Kernel7.Gen.facts, Cert.Kernel7Ideal.Gen.facts, Cert.Reference7Ideal.Gen.facts,
   Cert.Pre_pages_exist.Gen.facts,
   ScoresClaims.frame_i, ScoresClaims.frame_r, ScoresClaims.frame_r_pre, FfnClaims.frame_k, FfnClaims.frame_i,
   FfnClaims.frame_r, GluClaims.frame_k, GluClaims.frame_i, GluClaims.frame_r, ProjClaims.frame_k, ProjClaims.frame_i,
   ProjClaims.frame_r, AttnProjClaims.frame_k, AttnProjClaims.frame_i, AttnProjClaims.frame_r, AttnProjSClaims.frame_k,
   AttnProjSClaims.frame_i, AttnProjSClaims.frame_r, ConvClaims.frame_k, ConvClaims.frame_i, ConvClaims.frame_r,
   ScoresClaims.algebraic, FfnClaims.preserves, FfnClaims.algebraic, GluClaims.preserves, GluClaims.algebraic,
   ProjClaims.preserves, ProjClaims.algebraic, AttnProjClaims.preserves, AttnProjClaims.algebraic,
   AttnProjSClaims.preserves, AttnProjSClaims.algebraic, ConvClaims.preserves, ConvClaims.algebraic⟩

end Cert.Proof

end
